-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10)
      ∧ r.2.mem ((c.tc : Thread Cert.Mid.nD Cert.Mid.τ).loc Cert.Mid.main_arg11) = m ((c.tc : Thread Cert.Mid.nD Cert.Mid.τ).loc Cert.Mid.main_arg11)
      ∧ r.2.mem ((c.tc : Thread Cert.Mid.nD Cert.Mid.τ).loc Cert.Mid.main_arg12) = m ((c.tc : Thread Cert.Mid.nD Cert.Mid.τ).loc Cert.Mid.main_arg12)
      ∧ r.2.mem ((c.tc : Thread Cert.Mid.nD Cert.Mid.τ).loc Cert.Mid.main_arg13) = m ((c.tc : Thread Cert.Mid.nD Cert.Mid.τ).loc Cert.Mid.main_arg13)
      ∧ r.2.mem ((c.tc : Thread Cert.Mid.nD Cert.Mid.τ).loc Cert.Mid.main_arg14) = m ((c.tc : Thread Cert.Mid.nD Cert.Mid.τ).loc Cert.Mid.main_arg14)
      ∧ r.2.mem ((c.tc : Thread Cert.Mid.nD Cert.Mid.τ).loc Cert.Mid.main_arg15) = m ((c.tc : Thread Cert.Mid.nD Cert.Mid.τ).loc Cert.Mid.main_arg15)
      ∧ r.2.mem ((c.tc : Thread Cert.Mid.nD Cert.Mid.τ).loc Cert.Mid.main_arg16) = m ((c.tc : Thread Cert.Mid.nD Cert.Mid.τ).loc Cert.Mid.main_arg16)
      ∧ r.2.mem ((c.tc : Thread Cert.Mid.nD Cert.Mid.τ).loc Cert.Mid.main_arg17) = m ((c.tc : Thread Cert.Mid.nD Cert.Mid.τ).loc Cert.Mid.main_arg17)
      ∧ r.2.mem ((c.tc : Thread Cert.Mid.nD Cert.Mid.τ).loc Cert.Mid.main_arg18) = m ((c.tc : Thread Cert.Mid.nD Cert.Mid.τ).loc Cert.Mid.main_arg18)
      ∧ r.2.mem ((c.tc : Thread Cert.Mid.nD Cert.Mid.τ).loc Cert.Mid.main_arg19) = m ((c.tc : Thread Cert.Mid.nD Cert.Mid.τ).loc Cert.Mid.main_arg19)
      ∧ r.2.mem ((c.tc : Thread Cert.Mid.nD Cert.Mid.τ).loc Cert.Mid.main_arg20) = m ((c.tc : Thread Cert.Mid.nD Cert.Mid.τ).loc Cert.Mid.main_arg20)
      ∧ r.2.mem ((c.tc : Thread Cert.Mid.nD Cert.Mid.τ).loc Cert.Mid.main_arg21) = m ((c.tc : Thread Cert.Mid.nD Cert.Mid.τ).loc Cert.Mid.main_arg21)
      ∧ r.2.mem ((c.tc : Thread Cert.Mid.nD Cert.Mid.τ).loc Cert.Mid.main_arg22) = m ((c.tc : Thread Cert.Mid.nD Cert.Mid.τ).loc Cert.Mid.main_arg22))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
      ∧ r.2.mem ((c.tc : Thread Cert.MidIdeal.nD Cert.MidIdeal.τ).loc Cert.MidIdeal.main_arg12) = m ((c.tc : Thread Cert.MidIdeal.nD Cert.MidIdeal.τ).loc Cert.MidIdeal.main_arg12)
      ∧ r.2.mem ((c.tc : Thread Cert.MidIdeal.nD Cert.MidIdeal.τ).loc Cert.MidIdeal.main_arg13) = m ((c.tc : Thread Cert.MidIdeal.nD Cert.MidIdeal.τ).loc Cert.MidIdeal.main_arg13)
      ∧ r.2.mem ((c.tc : Thread Cert.MidIdeal.nD Cert.MidIdeal.τ).loc Cert.MidIdeal.main_arg14) = m ((c.tc : Thread Cert.MidIdeal.nD Cert.MidIdeal.τ).loc Cert.MidIdeal.main_arg14)
      ∧ r.2.mem ((c.tc : Thread Cert.MidIdeal.nD Cert.MidIdeal.τ).loc Cert.MidIdeal.main_arg15) = m ((c.tc : Thread Cert.MidIdeal.nD Cert.MidIdeal.τ).loc Cert.MidIdeal.main_arg15)
      ∧ r.2.mem ((c.tc : Thread Cert.MidIdeal.nD Cert.MidIdeal.τ).loc Cert.MidIdeal.main_arg16) = m ((c.tc : Thread Cert.MidIdeal.nD Cert.MidIdeal.τ).loc Cert.MidIdeal.main_arg16)
      ∧ r.2.mem ((c.tc : Thread Cert.MidIdeal.nD Cert.MidIdeal.τ).loc Cert.MidIdeal.main_arg17) = m ((c.tc : Thread Cert.MidIdeal.nD Cert.MidIdeal.τ).loc Cert.MidIdeal.main_arg17)
      ∧ r.2.mem ((c.tc : Thread Cert.MidIdeal.nD Cert.MidIdeal.τ).loc Cert.MidIdeal.main_arg18) = m ((c.tc : Thread Cert.MidIdeal.nD Cert.MidIdeal.τ).loc Cert.MidIdeal.main_arg18)
      ∧ r.2.mem ((c.tc : Thread Cert.MidIdeal.nD Cert.MidIdeal.τ).loc Cert.MidIdeal.main_arg19) = m ((c.tc : Thread Cert.MidIdeal.nD Cert.MidIdeal.τ).loc Cert.MidIdeal.main_arg19)
      ∧ r.2.mem ((c.tc : Thread Cert.MidIdeal.nD Cert.MidIdeal.τ).loc Cert.MidIdeal.main_arg20) = m ((c.tc : Thread Cert.MidIdeal.nD Cert.MidIdeal.τ).loc Cert.MidIdeal.main_arg20)
      ∧ r.2.mem ((c.tc : Thread Cert.MidIdeal.nD Cert.MidIdeal.τ).loc Cert.MidIdeal.main_arg21) = m ((c.tc : Thread Cert.MidIdeal.nD Cert.MidIdeal.τ).loc Cert.MidIdeal.main_arg21)
      ∧ r.2.mem ((c.tc : Thread Cert.MidIdeal.nD Cert.MidIdeal.τ).loc Cert.MidIdeal.main_arg22) = m ((c.tc : Thread Cert.MidIdeal.nD Cert.MidIdeal.τ).loc Cert.MidIdeal.main_arg22))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9)
      ∧ r.2.mem ((c.tc : Thread Cert.MidReferenceIdeal.nD Cert.MidReferenceIdeal.τ).loc Cert.MidReferenceIdeal.main_arg10) = m ((c.tc : Thread Cert.MidReferenceIdeal.nD Cert.MidReferenceIdeal.τ).loc Cert.MidReferenceIdeal.main_arg10)
      ∧ r.2.mem ((c.tc : Thread Cert.MidReferenceIdeal.nD Cert.MidReferenceIdeal.τ).loc Cert.MidReferenceIdeal.main_arg11) = m ((c.tc : Thread Cert.MidReferenceIdeal.nD Cert.MidReferenceIdeal.τ).loc Cert.MidReferenceIdeal.main_arg11)
      ∧ r.2.mem ((c.tc : Thread Cert.MidReferenceIdeal.nD Cert.MidReferenceIdeal.τ).loc Cert.MidReferenceIdeal.main_arg12) = m ((c.tc : Thread Cert.MidReferenceIdeal.nD Cert.MidReferenceIdeal.τ).loc Cert.MidReferenceIdeal.main_arg12)
      ∧ r.2.mem ((c.tc : Thread Cert.MidReferenceIdeal.nD Cert.MidReferenceIdeal.τ).loc Cert.MidReferenceIdeal.main_arg13) = m ((c.tc : Thread Cert.MidReferenceIdeal.nD Cert.MidReferenceIdeal.τ).loc Cert.MidReferenceIdeal.main_arg13)
      ∧ r.2.mem ((c.tc : Thread Cert.MidReferenceIdeal.nD Cert.MidReferenceIdeal.τ).loc Cert.MidReferenceIdeal.main_arg14) = m ((c.tc : Thread Cert.MidReferenceIdeal.nD Cert.MidReferenceIdeal.τ).loc Cert.MidReferenceIdeal.main_arg14)
      ∧ r.2.mem ((c.tc : Thread Cert.MidReferenceIdeal.nD Cert.MidReferenceIdeal.τ).loc Cert.MidReferenceIdeal.main_arg15) = m ((c.tc : Thread Cert.MidReferenceIdeal.nD Cert.MidReferenceIdeal.τ).loc Cert.MidReferenceIdeal.main_arg15)
      ∧ r.2.mem ((c.tc : Thread Cert.MidReferenceIdeal.nD Cert.MidReferenceIdeal.τ).loc Cert.MidReferenceIdeal.main_arg16) = m ((c.tc : Thread Cert.MidReferenceIdeal.nD Cert.MidReferenceIdeal.τ).loc Cert.MidReferenceIdeal.main_arg16)
      ∧ r.2.mem ((c.tc : Thread Cert.MidReferenceIdeal.nD Cert.MidReferenceIdeal.τ).loc Cert.MidReferenceIdeal.main_arg17) = m ((c.tc : Thread Cert.MidReferenceIdeal.nD Cert.MidReferenceIdeal.τ).loc Cert.MidReferenceIdeal.main_arg17)
      ∧ r.2.mem ((c.tc : Thread Cert.MidReferenceIdeal.nD Cert.MidReferenceIdeal.τ).loc Cert.MidReferenceIdeal.main_arg18) = m ((c.tc : Thread Cert.MidReferenceIdeal.nD Cert.MidReferenceIdeal.τ).loc Cert.MidReferenceIdeal.main_arg18)
      ∧ r.2.mem ((c.tc : Thread Cert.MidReferenceIdeal.nD Cert.MidReferenceIdeal.τ).loc Cert.MidReferenceIdeal.main_arg19) = m ((c.tc : Thread Cert.MidReferenceIdeal.nD Cert.MidReferenceIdeal.τ).loc Cert.MidReferenceIdeal.main_arg19)
      ∧ r.2.mem ((c.tc : Thread Cert.MidReferenceIdeal.nD Cert.MidReferenceIdeal.τ).loc Cert.MidReferenceIdeal.main_arg20) = m ((c.tc : Thread Cert.MidReferenceIdeal.nD Cert.MidReferenceIdeal.τ).loc Cert.MidReferenceIdeal.main_arg20)
      ∧ r.2.mem ((c.tc : Thread Cert.MidReferenceIdeal.nD Cert.MidReferenceIdeal.τ).loc Cert.MidReferenceIdeal.main_arg21) = m ((c.tc : Thread Cert.MidReferenceIdeal.nD Cert.MidReferenceIdeal.τ).loc Cert.MidReferenceIdeal.main_arg21)
      ∧ r.2.mem ((c.tc : Thread Cert.MidReferenceIdeal.nD Cert.MidReferenceIdeal.τ).loc Cert.MidReferenceIdeal.main_arg22) = m ((c.tc : Thread Cert.MidReferenceIdeal.nD Cert.MidReferenceIdeal.τ).loc Cert.MidReferenceIdeal.main_arg22))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10)
      ∧ r.2.mem ((c.tc : Thread Cert.Qkv.nD Cert.Qkv.τ).loc Cert.Qkv.main_arg11) = m ((c.tc : Thread Cert.Qkv.nD Cert.Qkv.τ).loc Cert.Qkv.main_arg11)
      ∧ r.2.mem ((c.tc : Thread Cert.Qkv.nD Cert.Qkv.τ).loc Cert.Qkv.main_arg12) = m ((c.tc : Thread Cert.Qkv.nD Cert.Qkv.τ).loc Cert.Qkv.main_arg12)
      ∧ r.2.mem ((c.tc : Thread Cert.Qkv.nD Cert.Qkv.τ).loc Cert.Qkv.main_arg13) = m ((c.tc : Thread Cert.Qkv.nD Cert.Qkv.τ).loc Cert.Qkv.main_arg13)
      ∧ r.2.mem ((c.tc : Thread Cert.Qkv.nD Cert.Qkv.τ).loc Cert.Qkv.main_arg14) = m ((c.tc : Thread Cert.Qkv.nD Cert.Qkv.τ).loc Cert.Qkv.main_arg14)
      ∧ r.2.mem ((c.tc : Thread Cert.Qkv.nD Cert.Qkv.τ).loc Cert.Qkv.main_arg15) = m ((c.tc : Thread Cert.Qkv.nD Cert.Qkv.τ).loc Cert.Qkv.main_arg15)
      ∧ r.2.mem ((c.tc : Thread Cert.Qkv.nD Cert.Qkv.τ).loc Cert.Qkv.main_arg16) = m ((c.tc : Thread Cert.Qkv.nD Cert.Qkv.τ).loc Cert.Qkv.main_arg16)
      ∧ r.2.mem ((c.tc : Thread Cert.Qkv.nD Cert.Qkv.τ).loc Cert.Qkv.main_arg17) = m ((c.tc : Thread Cert.Qkv.nD Cert.Qkv.τ).loc Cert.Qkv.main_arg17)
      ∧ r.2.mem ((c.tc : Thread Cert.Qkv.nD Cert.Qkv.τ).loc Cert.Qkv.main_arg18) = m ((c.tc : Thread Cert.Qkv.nD Cert.Qkv.τ).loc Cert.Qkv.main_arg18)
      ∧ r.2.mem ((c.tc : Thread Cert.Qkv.nD Cert.Qkv.τ).loc Cert.Qkv.main_arg19) = m ((c.tc : Thread Cert.Qkv.nD Cert.Qkv.τ).loc Cert.Qkv.main_arg19)
      ∧ r.2.mem ((c.tc : Thread Cert.Qkv.nD Cert.Qkv.τ).loc Cert.Qkv.main_arg20) = m ((c.tc : Thread Cert.Qkv.nD Cert.Qkv.τ).loc Cert.Qkv.main_arg20))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
      ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12)
      ∧ r.2.mem ((c.tc : Thread Cert.QkvIdeal.nD Cert.QkvIdeal.τ).loc Cert.QkvIdeal.main_arg13) = m ((c.tc : Thread Cert.QkvIdeal.nD Cert.QkvIdeal.τ).loc Cert.QkvIdeal.main_arg13)
      ∧ r.2.mem ((c.tc : Thread Cert.QkvIdeal.nD Cert.QkvIdeal.τ).loc Cert.QkvIdeal.main_arg14) = m ((c.tc : Thread Cert.QkvIdeal.nD Cert.QkvIdeal.τ).loc Cert.QkvIdeal.main_arg14)
      ∧ r.2.mem ((c.tc : Thread Cert.QkvIdeal.nD Cert.QkvIdeal.τ).loc Cert.QkvIdeal.main_arg15) = m ((c.tc : Thread Cert.QkvIdeal.nD Cert.QkvIdeal.τ).loc Cert.QkvIdeal.main_arg15)
      ∧ r.2.mem ((c.tc : Thread Cert.QkvIdeal.nD Cert.QkvIdeal.τ).loc Cert.QkvIdeal.main_arg16) = m ((c.tc : Thread Cert.QkvIdeal.nD Cert.QkvIdeal.τ).loc Cert.QkvIdeal.main_arg16)
      ∧ r.2.mem ((c.tc : Thread Cert.QkvIdeal.nD Cert.QkvIdeal.τ).loc Cert.QkvIdeal.main_arg17) = m ((c.tc : Thread Cert.QkvIdeal.nD Cert.QkvIdeal.τ).loc Cert.QkvIdeal.main_arg17)
      ∧ r.2.mem ((c.tc : Thread Cert.QkvIdeal.nD Cert.QkvIdeal.τ).loc Cert.QkvIdeal.main_arg18) = m ((c.tc : Thread Cert.QkvIdeal.nD Cert.QkvIdeal.τ).loc Cert.QkvIdeal.main_arg18)
      ∧ r.2.mem ((c.tc : Thread Cert.QkvIdeal.nD Cert.QkvIdeal.τ).loc Cert.QkvIdeal.main_arg19) = m ((c.tc : Thread Cert.QkvIdeal.nD Cert.QkvIdeal.τ).loc Cert.QkvIdeal.main_arg19)
      ∧ r.2.mem ((c.tc : Thread Cert.QkvIdeal.nD Cert.QkvIdeal.τ).loc Cert.QkvIdeal.main_arg20) = m ((c.tc : Thread Cert.QkvIdeal.nD Cert.QkvIdeal.τ).loc Cert.QkvIdeal.main_arg20))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6)
      ∧ r.2.mem ((c.tc : Thread Cert.QkvReferenceIdeal.nD Cert.QkvReferenceIdeal.τ).loc Cert.QkvReferenceIdeal.main_arg7) = m ((c.tc : Thread Cert.QkvReferenceIdeal.nD Cert.QkvReferenceIdeal.τ).loc Cert.QkvReferenceIdeal.main_arg7)
      ∧ r.2.mem ((c.tc : Thread Cert.QkvReferenceIdeal.nD Cert.QkvReferenceIdeal.τ).loc Cert.QkvReferenceIdeal.main_arg8) = m ((c.tc : Thread Cert.QkvReferenceIdeal.nD Cert.QkvReferenceIdeal.τ).loc Cert.QkvReferenceIdeal.main_arg8)
      ∧ r.2.mem ((c.tc : Thread Cert.QkvReferenceIdeal.nD Cert.QkvReferenceIdeal.τ).loc Cert.QkvReferenceIdeal.main_arg9) = m ((c.tc : Thread Cert.QkvReferenceIdeal.nD Cert.QkvReferenceIdeal.τ).loc Cert.QkvReferenceIdeal.main_arg9)
      ∧ r.2.mem ((c.tc : Thread Cert.QkvReferenceIdeal.nD Cert.QkvReferenceIdeal.τ).loc Cert.QkvReferenceIdeal.main_arg10) = m ((c.tc : Thread Cert.QkvReferenceIdeal.nD Cert.QkvReferenceIdeal.τ).loc Cert.QkvReferenceIdeal.main_arg10)
      ∧ r.2.mem ((c.tc : Thread Cert.QkvReferenceIdeal.nD Cert.QkvReferenceIdeal.τ).loc Cert.QkvReferenceIdeal.main_arg11) = m ((c.tc : Thread Cert.QkvReferenceIdeal.nD Cert.QkvReferenceIdeal.τ).loc Cert.QkvReferenceIdeal.main_arg11)
      ∧ r.2.mem ((c.tc : Thread Cert.QkvReferenceIdeal.nD Cert.QkvReferenceIdeal.τ).loc Cert.QkvReferenceIdeal.main_arg12) = m ((c.tc : Thread Cert.QkvReferenceIdeal.nD Cert.QkvReferenceIdeal.τ).loc Cert.QkvReferenceIdeal.main_arg12)
      ∧ r.2.mem ((c.tc : Thread Cert.QkvReferenceIdeal.nD Cert.QkvReferenceIdeal.τ).loc Cert.QkvReferenceIdeal.main_arg13) = m ((c.tc : Thread Cert.QkvReferenceIdeal.nD Cert.QkvReferenceIdeal.τ).loc Cert.QkvReferenceIdeal.main_arg13)
      ∧ r.2.mem ((c.tc : Thread Cert.QkvReferenceIdeal.nD Cert.QkvReferenceIdeal.τ).loc Cert.QkvReferenceIdeal.main_arg14) = m ((c.tc : Thread Cert.QkvReferenceIdeal.nD Cert.QkvReferenceIdeal.τ).loc Cert.QkvReferenceIdeal.main_arg14)
      ∧ r.2.mem ((c.tc : Thread Cert.QkvReferenceIdeal.nD Cert.QkvReferenceIdeal.τ).loc Cert.QkvReferenceIdeal.main_arg15) = m ((c.tc : Thread Cert.QkvReferenceIdeal.nD Cert.QkvReferenceIdeal.τ).loc Cert.QkvReferenceIdeal.main_arg15)
      ∧ r.2.mem ((c.tc : Thread Cert.QkvReferenceIdeal.nD Cert.QkvReferenceIdeal.τ).loc Cert.QkvReferenceIdeal.main_arg16) = m ((c.tc : Thread Cert.QkvReferenceIdeal.nD Cert.QkvReferenceIdeal.τ).loc Cert.QkvReferenceIdeal.main_arg16)
      ∧ r.2.mem ((c.tc : Thread Cert.QkvReferenceIdeal.nD Cert.QkvReferenceIdeal.τ).loc Cert.QkvReferenceIdeal.main_arg17) = m ((c.tc : Thread Cert.QkvReferenceIdeal.nD Cert.QkvReferenceIdeal.τ).loc Cert.QkvReferenceIdeal.main_arg17)
      ∧ r.2.mem ((c.tc : Thread Cert.QkvReferenceIdeal.nD Cert.QkvReferenceIdeal.τ).loc Cert.QkvReferenceIdeal.main_arg18) = m ((c.tc : Thread Cert.QkvReferenceIdeal.nD Cert.QkvReferenceIdeal.τ).loc Cert.QkvReferenceIdeal.main_arg18)
      ∧ r.2.mem ((c.tc : Thread Cert.QkvReferenceIdeal.nD Cert.QkvReferenceIdeal.τ).loc Cert.QkvReferenceIdeal.main_arg19) = m ((c.tc : Thread Cert.QkvReferenceIdeal.nD Cert.QkvReferenceIdeal.τ).loc Cert.QkvReferenceIdeal.main_arg19)
      ∧ r.2.mem ((c.tc : Thread Cert.QkvReferenceIdeal.nD Cert.QkvReferenceIdeal.τ).loc Cert.QkvReferenceIdeal.main_arg20) = m ((c.tc : Thread Cert.QkvReferenceIdeal.nD Cert.QkvReferenceIdeal.τ).loc Cert.QkvReferenceIdeal.main_arg20))
      ∧ r.2.sem = fun _ => 0)

def preserves_Kernel_KernelIdeal : Prop :=
  IdealRules.named_const.Statement Cert.KernelIdeal.κ "inv_127" .f32 0x3C010204#32 ((1 / 127 : ℝ) : EReal)
  ∧ IdealRules.named_const.Statement Cert.KernelIdeal.κ "inv_d" .f32 0x3A4CCCCD#32 ((1 / 1280 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)) (v3 : (c : Dev Cert.KernelIdeal.nD) → Buf (Elt Ideal) ((c.tc : Thread Cert.KernelIdeal.nD Cert.KernelIdeal.τ).loc Cert.KernelIdeal.main_v32_3)) (v4 : (c : Dev Cert.KernelIdeal.nD) → Buf (Elt Ideal) ((c.tc : Thread Cert.KernelIdeal.nD Cert.KernelIdeal.τ).loc Cert.KernelIdeal.main_v32_4)) (v5 : (c : Dev Cert.KernelIdeal.nD) → Buf (Elt Ideal) ((c.tc : Thread Cert.KernelIdeal.nD Cert.KernelIdeal.τ).loc Cert.KernelIdeal.main_v32_5)) (v6 : (c : Dev Cert.KernelIdeal.nD) → Buf (Elt Ideal) ((c.tc : Thread Cert.KernelIdeal.nD Cert.KernelIdeal.τ).loc Cert.KernelIdeal.main_v32_6)) (v7 : (c : Dev Cert.KernelIdeal.nD) → Buf (Elt Ideal) ((c.tc : Thread Cert.KernelIdeal.nD Cert.KernelIdeal.τ).loc Cert.KernelIdeal.main_v32_7)) (v8 : (c : Dev Cert.KernelIdeal.nD) → Buf (Elt Ideal) ((c.tc : Thread Cert.KernelIdeal.nD Cert.KernelIdeal.τ).loc Cert.KernelIdeal.main_v32_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_v32_3) = v3 c
          ∧ r.2.mem ((c.tc : Thread Cert.KernelIdeal.nD Cert.KernelIdeal.τ).loc Cert.KernelIdeal.main_v32_4) = v4 c
          ∧ r.2.mem ((c.tc : Thread Cert.KernelIdeal.nD Cert.KernelIdeal.τ).loc Cert.KernelIdeal.main_v32_5) = v5 c
          ∧ r.2.mem ((c.tc : Thread Cert.KernelIdeal.nD Cert.KernelIdeal.τ).loc Cert.KernelIdeal.main_v32_6) = v6 c
          ∧ r.2.mem ((c.tc : Thread Cert.KernelIdeal.nD Cert.KernelIdeal.τ).loc Cert.KernelIdeal.main_v32_7) = v7 c
          ∧ r.2.mem ((c.tc : Thread Cert.KernelIdeal.nD Cert.KernelIdeal.τ).loc Cert.KernelIdeal.main_v32_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10_0) = v0 c
          ∧ r.2.mem ((c.tc : Thread Cert.ReferenceIdeal.nD Cert.ReferenceIdeal.τ).loc Cert.ReferenceIdeal.main_v10_1) = v1 c
          ∧ r.2.mem ((c.tc : Thread Cert.ReferenceIdeal.nD Cert.ReferenceIdeal.τ).loc Cert.ReferenceIdeal.main_v10_2) = v2 c
          ∧ r.2.mem ((c.tc : Thread Cert.ReferenceIdeal.nD Cert.ReferenceIdeal.τ).loc Cert.ReferenceIdeal.main_v10_3) = v3 c
          ∧ r.2.mem ((c.tc : Thread Cert.ReferenceIdeal.nD Cert.ReferenceIdeal.τ).loc Cert.ReferenceIdeal.main_v10_4) = v4 c
          ∧ r.2.mem ((c.tc : Thread Cert.ReferenceIdeal.nD Cert.ReferenceIdeal.τ).loc Cert.ReferenceIdeal.main_v10_5) = v5 c
          ∧ r.2.mem ((c.tc : Thread Cert.ReferenceIdeal.nD Cert.ReferenceIdeal.τ).loc Cert.ReferenceIdeal.main_v10_6) = v6 c
          ∧ r.2.mem ((c.tc : Thread Cert.ReferenceIdeal.nD Cert.ReferenceIdeal.τ).loc Cert.ReferenceIdeal.main_v10_7) = v7 c
          ∧ r.2.mem ((c.tc : Thread Cert.ReferenceIdeal.nD Cert.ReferenceIdeal.τ).loc Cert.ReferenceIdeal.main_v10_8) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def preserves_Mid_MidIdeal : Prop :=
  IdealRules.named_const.Statement Cert.MidIdeal.κ "inv_127" .f32 0x3C010204#32 ((1 / 127 : ℝ) : EReal)
  ∧ IdealRules.named_const.Statement Cert.MidIdeal.κ "inv_d" .f32 0x3A4CCCCD#32 ((1 / 1280 : ℝ) : EReal)

def algebraic_MidIdeal_MidReferenceIdeal [hMidIdeal : Cert.MidIdeal.Facts] [hMidReferenceIdeal : Cert.MidReferenceIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)
      ∧ m' ((c.tc : Thread Cert.MidReferenceIdeal.nD Cert.MidReferenceIdeal.τ).loc Cert.MidReferenceIdeal.main_arg5) = m ((c.tc : Thread Cert.MidIdeal.nD Cert.MidIdeal.τ).loc Cert.MidIdeal.main_arg5)
      ∧ m' ((c.tc : Thread Cert.MidReferenceIdeal.nD Cert.MidReferenceIdeal.τ).loc Cert.MidReferenceIdeal.main_arg6) = m ((c.tc : Thread Cert.MidIdeal.nD Cert.MidIdeal.τ).loc Cert.MidIdeal.main_arg6)
      ∧ m' ((c.tc : Thread Cert.MidReferenceIdeal.nD Cert.MidReferenceIdeal.τ).loc Cert.MidReferenceIdeal.main_arg7) = m ((c.tc : Thread Cert.MidIdeal.nD Cert.MidIdeal.τ).loc Cert.MidIdeal.main_arg7)
      ∧ m' ((c.tc : Thread Cert.MidReferenceIdeal.nD Cert.MidReferenceIdeal.τ).loc Cert.MidReferenceIdeal.main_arg8) = m ((c.tc : Thread Cert.MidIdeal.nD Cert.MidIdeal.τ).loc Cert.MidIdeal.main_arg8)
      ∧ m' ((c.tc : Thread Cert.MidReferenceIdeal.nD Cert.MidReferenceIdeal.τ).loc Cert.MidReferenceIdeal.main_arg9) = m ((c.tc : Thread Cert.MidIdeal.nD Cert.MidIdeal.τ).loc Cert.MidIdeal.main_arg9)
      ∧ m' ((c.tc : Thread Cert.MidReferenceIdeal.nD Cert.MidReferenceIdeal.τ).loc Cert.MidReferenceIdeal.main_arg10) = m ((c.tc : Thread Cert.MidIdeal.nD Cert.MidIdeal.τ).loc Cert.MidIdeal.main_arg10)
      ∧ m' ((c.tc : Thread Cert.MidReferenceIdeal.nD Cert.MidReferenceIdeal.τ).loc Cert.MidReferenceIdeal.main_arg11) = m ((c.tc : Thread Cert.MidIdeal.nD Cert.MidIdeal.τ).loc Cert.MidIdeal.main_arg11)
      ∧ m' ((c.tc : Thread Cert.MidReferenceIdeal.nD Cert.MidReferenceIdeal.τ).loc Cert.MidReferenceIdeal.main_arg12) = m ((c.tc : Thread Cert.MidIdeal.nD Cert.MidIdeal.τ).loc Cert.MidIdeal.main_arg12)
      ∧ m' ((c.tc : Thread Cert.MidReferenceIdeal.nD Cert.MidReferenceIdeal.τ).loc Cert.MidReferenceIdeal.main_arg13) = m ((c.tc : Thread Cert.MidIdeal.nD Cert.MidIdeal.τ).loc Cert.MidIdeal.main_arg13)
      ∧ m' ((c.tc : Thread Cert.MidReferenceIdeal.nD Cert.MidReferenceIdeal.τ).loc Cert.MidReferenceIdeal.main_arg14) = m ((c.tc : Thread Cert.MidIdeal.nD Cert.MidIdeal.τ).loc Cert.MidIdeal.main_arg14)
      ∧ m' ((c.tc : Thread Cert.MidReferenceIdeal.nD Cert.MidReferenceIdeal.τ).loc Cert.MidReferenceIdeal.main_arg15) = m ((c.tc : Thread Cert.MidIdeal.nD Cert.MidIdeal.τ).loc Cert.MidIdeal.main_arg15)
      ∧ m' ((c.tc : Thread Cert.MidReferenceIdeal.nD Cert.MidReferenceIdeal.τ).loc Cert.MidReferenceIdeal.main_arg16) = m ((c.tc : Thread Cert.MidIdeal.nD Cert.MidIdeal.τ).loc Cert.MidIdeal.main_arg16)
      ∧ m' ((c.tc : Thread Cert.MidReferenceIdeal.nD Cert.MidReferenceIdeal.τ).loc Cert.MidReferenceIdeal.main_arg17) = m ((c.tc : Thread Cert.MidIdeal.nD Cert.MidIdeal.τ).loc Cert.MidIdeal.main_arg17)
      ∧ m' ((c.tc : Thread Cert.MidReferenceIdeal.nD Cert.MidReferenceIdeal.τ).loc Cert.MidReferenceIdeal.main_arg18) = m ((c.tc : Thread Cert.MidIdeal.nD Cert.MidIdeal.τ).loc Cert.MidIdeal.main_arg18)
      ∧ m' ((c.tc : Thread Cert.MidReferenceIdeal.nD Cert.MidReferenceIdeal.τ).loc Cert.MidReferenceIdeal.main_arg19) = m ((c.tc : Thread Cert.MidIdeal.nD Cert.MidIdeal.τ).loc Cert.MidIdeal.main_arg19)
      ∧ m' ((c.tc : Thread Cert.MidReferenceIdeal.nD Cert.MidReferenceIdeal.τ).loc Cert.MidReferenceIdeal.main_arg20) = m ((c.tc : Thread Cert.MidIdeal.nD Cert.MidIdeal.τ).loc Cert.MidIdeal.main_arg20)
      ∧ m' ((c.tc : Thread Cert.MidReferenceIdeal.nD Cert.MidReferenceIdeal.τ).loc Cert.MidReferenceIdeal.main_arg21) = m ((c.tc : Thread Cert.MidIdeal.nD Cert.MidIdeal.τ).loc Cert.MidIdeal.main_arg21)
      ∧ m' ((c.tc : Thread Cert.MidReferenceIdeal.nD Cert.MidReferenceIdeal.τ).loc Cert.MidReferenceIdeal.main_arg22) = m ((c.tc : Thread Cert.MidIdeal.nD Cert.MidIdeal.τ).loc Cert.MidIdeal.main_arg22)) →
    ∃ (v0 : (c : Dev Cert.MidIdeal.nD) → Buf (Elt Ideal) ((c.tc : Thread Cert.MidIdeal.nD Cert.MidIdeal.τ).loc Cert.MidIdeal.main_v34_0)) (v1 : (c : Dev Cert.MidIdeal.nD) → Buf (Elt Ideal) ((c.tc : Thread Cert.MidIdeal.nD Cert.MidIdeal.τ).loc Cert.MidIdeal.main_v34_1)) (v2 : (c : Dev Cert.MidIdeal.nD) → Buf (Elt Ideal) ((c.tc : Thread Cert.MidIdeal.nD Cert.MidIdeal.τ).loc Cert.MidIdeal.main_v34_2)) (v3 : (c : Dev Cert.MidIdeal.nD) → Buf (Elt Ideal) ((c.tc : Thread Cert.MidIdeal.nD Cert.MidIdeal.τ).loc Cert.MidIdeal.main_v34_3)) (v4 : (c : Dev Cert.MidIdeal.nD) → Buf (Elt Ideal) ((c.tc : Thread Cert.MidIdeal.nD Cert.MidIdeal.τ).loc Cert.MidIdeal.main_v34_4)) (v5 : (c : Dev Cert.MidIdeal.nD) → Buf (Elt Ideal) ((c.tc : Thread Cert.MidIdeal.nD Cert.MidIdeal.τ).loc Cert.MidIdeal.main_v34_5)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v34_0) = v0 c
          ∧ r.2.mem ((c.tc : Thread Cert.MidIdeal.nD Cert.MidIdeal.τ).loc Cert.MidIdeal.main_v34_1) = v1 c
          ∧ r.2.mem ((c.tc : Thread Cert.MidIdeal.nD Cert.MidIdeal.τ).loc Cert.MidIdeal.main_v34_2) = v2 c
          ∧ r.2.mem ((c.tc : Thread Cert.MidIdeal.nD Cert.MidIdeal.τ).loc Cert.MidIdeal.main_v34_3) = v3 c
          ∧ r.2.mem ((c.tc : Thread Cert.MidIdeal.nD Cert.MidIdeal.τ).loc Cert.MidIdeal.main_v34_4) = v4 c
          ∧ r.2.mem ((c.tc : Thread Cert.MidIdeal.nD Cert.MidIdeal.τ).loc Cert.MidIdeal.main_v34_5) = v5 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
          ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
          ∧ r.2.mem ((c.tc : Thread Cert.MidIdeal.nD Cert.MidIdeal.τ).loc Cert.MidIdeal.main_arg12) = m ((c.tc : Thread Cert.MidIdeal.nD Cert.MidIdeal.τ).loc Cert.MidIdeal.main_arg12)
          ∧ r.2.mem ((c.tc : Thread Cert.MidIdeal.nD Cert.MidIdeal.τ).loc Cert.MidIdeal.main_arg13) = m ((c.tc : Thread Cert.MidIdeal.nD Cert.MidIdeal.τ).loc Cert.MidIdeal.main_arg13)
          ∧ r.2.mem ((c.tc : Thread Cert.MidIdeal.nD Cert.MidIdeal.τ).loc Cert.MidIdeal.main_arg14) = m ((c.tc : Thread Cert.MidIdeal.nD Cert.MidIdeal.τ).loc Cert.MidIdeal.main_arg14)
          ∧ r.2.mem ((c.tc : Thread Cert.MidIdeal.nD Cert.MidIdeal.τ).loc Cert.MidIdeal.main_arg15) = m ((c.tc : Thread Cert.MidIdeal.nD Cert.MidIdeal.τ).loc Cert.MidIdeal.main_arg15)
          ∧ r.2.mem ((c.tc : Thread Cert.MidIdeal.nD Cert.MidIdeal.τ).loc Cert.MidIdeal.main_arg16) = m ((c.tc : Thread Cert.MidIdeal.nD Cert.MidIdeal.τ).loc Cert.MidIdeal.main_arg16)
          ∧ r.2.mem ((c.tc : Thread Cert.MidIdeal.nD Cert.MidIdeal.τ).loc Cert.MidIdeal.main_arg17) = m ((c.tc : Thread Cert.MidIdeal.nD Cert.MidIdeal.τ).loc Cert.MidIdeal.main_arg17)
          ∧ r.2.mem ((c.tc : Thread Cert.MidIdeal.nD Cert.MidIdeal.τ).loc Cert.MidIdeal.main_arg18) = m ((c.tc : Thread Cert.MidIdeal.nD Cert.MidIdeal.τ).loc Cert.MidIdeal.main_arg18)
          ∧ r.2.mem ((c.tc : Thread Cert.MidIdeal.nD Cert.MidIdeal.τ).loc Cert.MidIdeal.main_arg19) = m ((c.tc : Thread Cert.MidIdeal.nD Cert.MidIdeal.τ).loc Cert.MidIdeal.main_arg19)
          ∧ r.2.mem ((c.tc : Thread Cert.MidIdeal.nD Cert.MidIdeal.τ).loc Cert.MidIdeal.main_arg20) = m ((c.tc : Thread Cert.MidIdeal.nD Cert.MidIdeal.τ).loc Cert.MidIdeal.main_arg20)
          ∧ r.2.mem ((c.tc : Thread Cert.MidIdeal.nD Cert.MidIdeal.τ).loc Cert.MidIdeal.main_arg21) = m ((c.tc : Thread Cert.MidIdeal.nD Cert.MidIdeal.τ).loc Cert.MidIdeal.main_arg21)
          ∧ r.2.mem ((c.tc : Thread Cert.MidIdeal.nD Cert.MidIdeal.τ).loc Cert.MidIdeal.main_arg22) = m ((c.tc : Thread Cert.MidIdeal.nD Cert.MidIdeal.τ).loc Cert.MidIdeal.main_arg22))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v10_0) = v0 c
          ∧ r.2.mem ((c.tc : Thread Cert.MidReferenceIdeal.nD Cert.MidReferenceIdeal.τ).loc Cert.MidReferenceIdeal.main_v10_1) = v1 c
          ∧ r.2.mem ((c.tc : Thread Cert.MidReferenceIdeal.nD Cert.MidReferenceIdeal.τ).loc Cert.MidReferenceIdeal.main_v10_2) = v2 c
          ∧ r.2.mem ((c.tc : Thread Cert.MidReferenceIdeal.nD Cert.MidReferenceIdeal.τ).loc Cert.MidReferenceIdeal.main_v10_3) = v3 c
          ∧ r.2.mem ((c.tc : Thread Cert.MidReferenceIdeal.nD Cert.MidReferenceIdeal.τ).loc Cert.MidReferenceIdeal.main_v10_4) = v4 c
          ∧ r.2.mem ((c.tc : Thread Cert.MidReferenceIdeal.nD Cert.MidReferenceIdeal.τ).loc Cert.MidReferenceIdeal.main_v10_5) = v5 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7)
          ∧ r.2.mem ((c.tc : Thread Cert.MidReferenceIdeal.nD Cert.MidReferenceIdeal.τ).loc Cert.MidReferenceIdeal.main_arg8) = m' ((c.tc : Thread Cert.MidReferenceIdeal.nD Cert.MidReferenceIdeal.τ).loc Cert.MidReferenceIdeal.main_arg8)
          ∧ r.2.mem ((c.tc : Thread Cert.MidReferenceIdeal.nD Cert.MidReferenceIdeal.τ).loc Cert.MidReferenceIdeal.main_arg9) = m' ((c.tc : Thread Cert.MidReferenceIdeal.nD Cert.MidReferenceIdeal.τ).loc Cert.MidReferenceIdeal.main_arg9)
          ∧ r.2.mem ((c.tc : Thread Cert.MidReferenceIdeal.nD Cert.MidReferenceIdeal.τ).loc Cert.MidReferenceIdeal.main_arg10) = m' ((c.tc : Thread Cert.MidReferenceIdeal.nD Cert.MidReferenceIdeal.τ).loc Cert.MidReferenceIdeal.main_arg10)
          ∧ r.2.mem ((c.tc : Thread Cert.MidReferenceIdeal.nD Cert.MidReferenceIdeal.τ).loc Cert.MidReferenceIdeal.main_arg11) = m' ((c.tc : Thread Cert.MidReferenceIdeal.nD Cert.MidReferenceIdeal.τ).loc Cert.MidReferenceIdeal.main_arg11)
          ∧ r.2.mem ((c.tc : Thread Cert.MidReferenceIdeal.nD Cert.MidReferenceIdeal.τ).loc Cert.MidReferenceIdeal.main_arg12) = m' ((c.tc : Thread Cert.MidReferenceIdeal.nD Cert.MidReferenceIdeal.τ).loc Cert.MidReferenceIdeal.main_arg12)
          ∧ r.2.mem ((c.tc : Thread Cert.MidReferenceIdeal.nD Cert.MidReferenceIdeal.τ).loc Cert.MidReferenceIdeal.main_arg13) = m' ((c.tc : Thread Cert.MidReferenceIdeal.nD Cert.MidReferenceIdeal.τ).loc Cert.MidReferenceIdeal.main_arg13)
          ∧ r.2.mem ((c.tc : Thread Cert.MidReferenceIdeal.nD Cert.MidReferenceIdeal.τ).loc Cert.MidReferenceIdeal.main_arg14) = m' ((c.tc : Thread Cert.MidReferenceIdeal.nD Cert.MidReferenceIdeal.τ).loc Cert.MidReferenceIdeal.main_arg14)
          ∧ r.2.mem ((c.tc : Thread Cert.MidReferenceIdeal.nD Cert.MidReferenceIdeal.τ).loc Cert.MidReferenceIdeal.main_arg15) = m' ((c.tc : Thread Cert.MidReferenceIdeal.nD Cert.MidReferenceIdeal.τ).loc Cert.MidReferenceIdeal.main_arg15)
          ∧ r.2.mem ((c.tc : Thread Cert.MidReferenceIdeal.nD Cert.MidReferenceIdeal.τ).loc Cert.MidReferenceIdeal.main_arg16) = m' ((c.tc : Thread Cert.MidReferenceIdeal.nD Cert.MidReferenceIdeal.τ).loc Cert.MidReferenceIdeal.main_arg16)
          ∧ r.2.mem ((c.tc : Thread Cert.MidReferenceIdeal.nD Cert.MidReferenceIdeal.τ).loc Cert.MidReferenceIdeal.main_arg17) = m' ((c.tc : Thread Cert.MidReferenceIdeal.nD Cert.MidReferenceIdeal.τ).loc Cert.MidReferenceIdeal.main_arg17)
          ∧ r.2.mem ((c.tc : Thread Cert.MidReferenceIdeal.nD Cert.MidReferenceIdeal.τ).loc Cert.MidReferenceIdeal.main_arg18) = m' ((c.tc : Thread Cert.MidReferenceIdeal.nD Cert.MidReferenceIdeal.τ).loc Cert.MidReferenceIdeal.main_arg18)
          ∧ r.2.mem ((c.tc : Thread Cert.MidReferenceIdeal.nD Cert.MidReferenceIdeal.τ).loc Cert.MidReferenceIdeal.main_arg19) = m' ((c.tc : Thread Cert.MidReferenceIdeal.nD Cert.MidReferenceIdeal.τ).loc Cert.MidReferenceIdeal.main_arg19)
          ∧ r.2.mem ((c.tc : Thread Cert.MidReferenceIdeal.nD Cert.MidReferenceIdeal.τ).loc Cert.MidReferenceIdeal.main_arg20) = m' ((c.tc : Thread Cert.MidReferenceIdeal.nD Cert.MidReferenceIdeal.τ).loc Cert.MidReferenceIdeal.main_arg20)
          ∧ r.2.mem ((c.tc : Thread Cert.MidReferenceIdeal.nD Cert.MidReferenceIdeal.τ).loc Cert.MidReferenceIdeal.main_arg21) = m' ((c.tc : Thread Cert.MidReferenceIdeal.nD Cert.MidReferenceIdeal.τ).loc Cert.MidReferenceIdeal.main_arg21)
          ∧ r.2.mem ((c.tc : Thread Cert.MidReferenceIdeal.nD Cert.MidReferenceIdeal.τ).loc Cert.MidReferenceIdeal.main_arg22) = m' ((c.tc : Thread Cert.MidReferenceIdeal.nD Cert.MidReferenceIdeal.τ).loc Cert.MidReferenceIdeal.main_arg22))

def preserves_Qkv_QkvIdeal : Prop :=
  IdealRules.named_const.Statement Cert.QkvIdeal.κ "inv_d" .f32 0x3A4CCCCD#32 ((1 / 1280 : ℝ) : EReal)
  ∧ IdealRules.named_const.Statement Cert.QkvIdeal.κ "inv_127" .f32 0x3C010204#32 ((1 / 127 : ℝ) : EReal)

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)
      ∧ m' ((c.tc : Thread Cert.QkvReferenceIdeal.nD Cert.QkvReferenceIdeal.τ).loc Cert.QkvReferenceIdeal.main_arg6) = m ((c.tc : Thread Cert.QkvIdeal.nD Cert.QkvIdeal.τ).loc Cert.QkvIdeal.main_arg6)
      ∧ m' ((c.tc : Thread Cert.QkvReferenceIdeal.nD Cert.QkvReferenceIdeal.τ).loc Cert.QkvReferenceIdeal.main_arg7) = m ((c.tc : Thread Cert.QkvIdeal.nD Cert.QkvIdeal.τ).loc Cert.QkvIdeal.main_arg7)
      ∧ m' ((c.tc : Thread Cert.QkvReferenceIdeal.nD Cert.QkvReferenceIdeal.τ).loc Cert.QkvReferenceIdeal.main_arg8) = m ((c.tc : Thread Cert.QkvIdeal.nD Cert.QkvIdeal.τ).loc Cert.QkvIdeal.main_arg8)
      ∧ m' ((c.tc : Thread Cert.QkvReferenceIdeal.nD Cert.QkvReferenceIdeal.τ).loc Cert.QkvReferenceIdeal.main_arg9) = m ((c.tc : Thread Cert.QkvIdeal.nD Cert.QkvIdeal.τ).loc Cert.QkvIdeal.main_arg9)
      ∧ m' ((c.tc : Thread Cert.QkvReferenceIdeal.nD Cert.QkvReferenceIdeal.τ).loc Cert.QkvReferenceIdeal.main_arg10) = m ((c.tc : Thread Cert.QkvIdeal.nD Cert.QkvIdeal.τ).loc Cert.QkvIdeal.main_arg10)
      ∧ m' ((c.tc : Thread Cert.QkvReferenceIdeal.nD Cert.QkvReferenceIdeal.τ).loc Cert.QkvReferenceIdeal.main_arg11) = m ((c.tc : Thread Cert.QkvIdeal.nD Cert.QkvIdeal.τ).loc Cert.QkvIdeal.main_arg11)
      ∧ m' ((c.tc : Thread Cert.QkvReferenceIdeal.nD Cert.QkvReferenceIdeal.τ).loc Cert.QkvReferenceIdeal.main_arg12) = m ((c.tc : Thread Cert.QkvIdeal.nD Cert.QkvIdeal.τ).loc Cert.QkvIdeal.main_arg12)
      ∧ m' ((c.tc : Thread Cert.QkvReferenceIdeal.nD Cert.QkvReferenceIdeal.τ).loc Cert.QkvReferenceIdeal.main_arg13) = m ((c.tc : Thread Cert.QkvIdeal.nD Cert.QkvIdeal.τ).loc Cert.QkvIdeal.main_arg13)
      ∧ m' ((c.tc : Thread Cert.QkvReferenceIdeal.nD Cert.QkvReferenceIdeal.τ).loc Cert.QkvReferenceIdeal.main_arg14) = m ((c.tc : Thread Cert.QkvIdeal.nD Cert.QkvIdeal.τ).loc Cert.QkvIdeal.main_arg14)
      ∧ m' ((c.tc : Thread Cert.QkvReferenceIdeal.nD Cert.QkvReferenceIdeal.τ).loc Cert.QkvReferenceIdeal.main_arg15) = m ((c.tc : Thread Cert.QkvIdeal.nD Cert.QkvIdeal.τ).loc Cert.QkvIdeal.main_arg15)
      ∧ m' ((c.tc : Thread Cert.QkvReferenceIdeal.nD Cert.QkvReferenceIdeal.τ).loc Cert.QkvReferenceIdeal.main_arg16) = m ((c.tc : Thread Cert.QkvIdeal.nD Cert.QkvIdeal.τ).loc Cert.QkvIdeal.main_arg16)
      ∧ m' ((c.tc : Thread Cert.QkvReferenceIdeal.nD Cert.QkvReferenceIdeal.τ).loc Cert.QkvReferenceIdeal.main_arg17) = m ((c.tc : Thread Cert.QkvIdeal.nD Cert.QkvIdeal.τ).loc Cert.QkvIdeal.main_arg17)
      ∧ m' ((c.tc : Thread Cert.QkvReferenceIdeal.nD Cert.QkvReferenceIdeal.τ).loc Cert.QkvReferenceIdeal.main_arg18) = m ((c.tc : Thread Cert.QkvIdeal.nD Cert.QkvIdeal.τ).loc Cert.QkvIdeal.main_arg18)
      ∧ m' ((c.tc : Thread Cert.QkvReferenceIdeal.nD Cert.QkvReferenceIdeal.τ).loc Cert.QkvReferenceIdeal.main_arg19) = m ((c.tc : Thread Cert.QkvIdeal.nD Cert.QkvIdeal.τ).loc Cert.QkvIdeal.main_arg19)
      ∧ m' ((c.tc : Thread Cert.QkvReferenceIdeal.nD Cert.QkvReferenceIdeal.τ).loc Cert.QkvReferenceIdeal.main_arg20) = m ((c.tc : Thread Cert.QkvIdeal.nD Cert.QkvIdeal.τ).loc Cert.QkvIdeal.main_arg20)) →
    ∃ (v0 : (c : Dev Cert.QkvIdeal.nD) → Buf (Elt Ideal) ((c.tc : Thread Cert.QkvIdeal.nD Cert.QkvIdeal.τ).loc Cert.QkvIdeal.main_v33_0)) (v1 : (c : Dev Cert.QkvIdeal.nD) → Buf (Elt Ideal) ((c.tc : Thread Cert.QkvIdeal.nD Cert.QkvIdeal.τ).loc Cert.QkvIdeal.main_v33_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v33_0) = v0 c
          ∧ r.2.mem ((c.tc : Thread Cert.QkvIdeal.nD Cert.QkvIdeal.τ).loc Cert.QkvIdeal.main_v33_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
          ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
          ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12)
          ∧ r.2.mem ((c.tc : Thread Cert.QkvIdeal.nD Cert.QkvIdeal.τ).loc Cert.QkvIdeal.main_arg13) = m ((c.tc : Thread Cert.QkvIdeal.nD Cert.QkvIdeal.τ).loc Cert.QkvIdeal.main_arg13)
          ∧ r.2.mem ((c.tc : Thread Cert.QkvIdeal.nD Cert.QkvIdeal.τ).loc Cert.QkvIdeal.main_arg14) = m ((c.tc : Thread Cert.QkvIdeal.nD Cert.QkvIdeal.τ).loc Cert.QkvIdeal.main_arg14)
          ∧ r.2.mem ((c.tc : Thread Cert.QkvIdeal.nD Cert.QkvIdeal.τ).loc Cert.QkvIdeal.main_arg15) = m ((c.tc : Thread Cert.QkvIdeal.nD Cert.QkvIdeal.τ).loc Cert.QkvIdeal.main_arg15)
          ∧ r.2.mem ((c.tc : Thread Cert.QkvIdeal.nD Cert.QkvIdeal.τ).loc Cert.QkvIdeal.main_arg16) = m ((c.tc : Thread Cert.QkvIdeal.nD Cert.QkvIdeal.τ).loc Cert.QkvIdeal.main_arg16)
          ∧ r.2.mem ((c.tc : Thread Cert.QkvIdeal.nD Cert.QkvIdeal.τ).loc Cert.QkvIdeal.main_arg17) = m ((c.tc : Thread Cert.QkvIdeal.nD Cert.QkvIdeal.τ).loc Cert.QkvIdeal.main_arg17)
          ∧ r.2.mem ((c.tc : Thread Cert.QkvIdeal.nD Cert.QkvIdeal.τ).loc Cert.QkvIdeal.main_arg18) = m ((c.tc : Thread Cert.QkvIdeal.nD Cert.QkvIdeal.τ).loc Cert.QkvIdeal.main_arg18)
          ∧ r.2.mem ((c.tc : Thread Cert.QkvIdeal.nD Cert.QkvIdeal.τ).loc Cert.QkvIdeal.main_arg19) = m ((c.tc : Thread Cert.QkvIdeal.nD Cert.QkvIdeal.τ).loc Cert.QkvIdeal.main_arg19)
          ∧ r.2.mem ((c.tc : Thread Cert.QkvIdeal.nD Cert.QkvIdeal.τ).loc Cert.QkvIdeal.main_arg20) = m ((c.tc : Thread Cert.QkvIdeal.nD Cert.QkvIdeal.τ).loc Cert.QkvIdeal.main_arg20))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v3_0) = v0 c
          ∧ r.2.mem ((c.tc : Thread Cert.QkvReferenceIdeal.nD Cert.QkvReferenceIdeal.τ).loc Cert.QkvReferenceIdeal.main_v3_1) = v1 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6)
          ∧ r.2.mem ((c.tc : Thread Cert.QkvReferenceIdeal.nD Cert.QkvReferenceIdeal.τ).loc Cert.QkvReferenceIdeal.main_arg7) = m' ((c.tc : Thread Cert.QkvReferenceIdeal.nD Cert.QkvReferenceIdeal.τ).loc Cert.QkvReferenceIdeal.main_arg7)
          ∧ r.2.mem ((c.tc : Thread Cert.QkvReferenceIdeal.nD Cert.QkvReferenceIdeal.τ).loc Cert.QkvReferenceIdeal.main_arg8) = m' ((c.tc : Thread Cert.QkvReferenceIdeal.nD Cert.QkvReferenceIdeal.τ).loc Cert.QkvReferenceIdeal.main_arg8)
          ∧ r.2.mem ((c.tc : Thread Cert.QkvReferenceIdeal.nD Cert.QkvReferenceIdeal.τ).loc Cert.QkvReferenceIdeal.main_arg9) = m' ((c.tc : Thread Cert.QkvReferenceIdeal.nD Cert.QkvReferenceIdeal.τ).loc Cert.QkvReferenceIdeal.main_arg9)
          ∧ r.2.mem ((c.tc : Thread Cert.QkvReferenceIdeal.nD Cert.QkvReferenceIdeal.τ).loc Cert.QkvReferenceIdeal.main_arg10) = m' ((c.tc : Thread Cert.QkvReferenceIdeal.nD Cert.QkvReferenceIdeal.τ).loc Cert.QkvReferenceIdeal.main_arg10)
          ∧ r.2.mem ((c.tc : Thread Cert.QkvReferenceIdeal.nD Cert.QkvReferenceIdeal.τ).loc Cert.QkvReferenceIdeal.main_arg11) = m' ((c.tc : Thread Cert.QkvReferenceIdeal.nD Cert.QkvReferenceIdeal.τ).loc Cert.QkvReferenceIdeal.main_arg11)
          ∧ r.2.mem ((c.tc : Thread Cert.QkvReferenceIdeal.nD Cert.QkvReferenceIdeal.τ).loc Cert.QkvReferenceIdeal.main_arg12) = m' ((c.tc : Thread Cert.QkvReferenceIdeal.nD Cert.QkvReferenceIdeal.τ).loc Cert.QkvReferenceIdeal.main_arg12)
          ∧ r.2.mem ((c.tc : Thread Cert.QkvReferenceIdeal.nD Cert.QkvReferenceIdeal.τ).loc Cert.QkvReferenceIdeal.main_arg13) = m' ((c.tc : Thread Cert.QkvReferenceIdeal.nD Cert.QkvReferenceIdeal.τ).loc Cert.QkvReferenceIdeal.main_arg13)
          ∧ r.2.mem ((c.tc : Thread Cert.QkvReferenceIdeal.nD Cert.QkvReferenceIdeal.τ).loc Cert.QkvReferenceIdeal.main_arg14) = m' ((c.tc : Thread Cert.QkvReferenceIdeal.nD Cert.QkvReferenceIdeal.τ).loc Cert.QkvReferenceIdeal.main_arg14)
          ∧ r.2.mem ((c.tc : Thread Cert.QkvReferenceIdeal.nD Cert.QkvReferenceIdeal.τ).loc Cert.QkvReferenceIdeal.main_arg15) = m' ((c.tc : Thread Cert.QkvReferenceIdeal.nD Cert.QkvReferenceIdeal.τ).loc Cert.QkvReferenceIdeal.main_arg15)
          ∧ r.2.mem ((c.tc : Thread Cert.QkvReferenceIdeal.nD Cert.QkvReferenceIdeal.τ).loc Cert.QkvReferenceIdeal.main_arg16) = m' ((c.tc : Thread Cert.QkvReferenceIdeal.nD Cert.QkvReferenceIdeal.τ).loc Cert.QkvReferenceIdeal.main_arg16)
          ∧ r.2.mem ((c.tc : Thread Cert.QkvReferenceIdeal.nD Cert.QkvReferenceIdeal.τ).loc Cert.QkvReferenceIdeal.main_arg17) = m' ((c.tc : Thread Cert.QkvReferenceIdeal.nD Cert.QkvReferenceIdeal.τ).loc Cert.QkvReferenceIdeal.main_arg17)
          ∧ r.2.mem ((c.tc : Thread Cert.QkvReferenceIdeal.nD Cert.QkvReferenceIdeal.τ).loc Cert.QkvReferenceIdeal.main_arg18) = m' ((c.tc : Thread Cert.QkvReferenceIdeal.nD Cert.QkvReferenceIdeal.τ).loc Cert.QkvReferenceIdeal.main_arg18)
          ∧ r.2.mem ((c.tc : Thread Cert.QkvReferenceIdeal.nD Cert.QkvReferenceIdeal.τ).loc Cert.QkvReferenceIdeal.main_arg19) = m' ((c.tc : Thread Cert.QkvReferenceIdeal.nD Cert.QkvReferenceIdeal.τ).loc Cert.QkvReferenceIdeal.main_arg19)
          ∧ r.2.mem ((c.tc : Thread Cert.QkvReferenceIdeal.nD Cert.QkvReferenceIdeal.τ).loc Cert.QkvReferenceIdeal.main_arg20) = m' ((c.tc : Thread Cert.QkvReferenceIdeal.nD Cert.QkvReferenceIdeal.τ).loc Cert.QkvReferenceIdeal.main_arg20))

def Claim : Prop :=
  ∃ (hKernel : Cert.Kernel.Facts) (hKernelIdeal : Cert.KernelIdeal.Facts) (hReferenceIdeal : Cert.ReferenceIdeal.Facts) (hMid : Cert.Mid.Facts) (hMidIdeal : Cert.MidIdeal.Facts) (hMidReferenceIdeal : Cert.MidReferenceIdeal.Facts) (hQkv : Cert.Qkv.Facts) (hQkvIdeal : Cert.QkvIdeal.Facts) (hQkvReferenceIdeal : Cert.QkvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Mid (hMid := hMid)
    ∧ quiescent_MidIdeal (hMidIdeal := hMidIdeal)
    ∧ quiescent_MidReferenceIdeal (hMidReferenceIdeal := hMidReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ preserves_Kernel_KernelIdeal
    ∧ algebraic_KernelIdeal_ReferenceIdeal (hKernelIdeal := hKernelIdeal) (hReferenceIdeal := hReferenceIdeal)
    ∧ preserves_Mid_MidIdeal
    ∧ algebraic_MidIdeal_MidReferenceIdeal (hMidIdeal := hMidIdeal) (hMidReferenceIdeal := hMidReferenceIdeal)
    ∧ preserves_Qkv_QkvIdeal
    ∧ algebraic_QkvIdeal_QkvReferenceIdeal (hQkvIdeal := hQkvIdeal) (hQkvReferenceIdeal := hQkvReferenceIdeal)
-- ==== Kernel.lean ====
abbrev S72x4x1280 : Shape := ⟨3, ![72, 4, 1280]⟩
abbrev S4x72x1280 : Shape := ⟨3, ![4, 72, 1280]⟩
abbrev S1280 : Shape := ⟨1, ![1280]⟩
abbrev S3x20x64 : Shape := ⟨3, ![3, 20, 64]⟩
abbrev S20x64 : Shape := ⟨2, ![20, 64]⟩
abbrev S20x64x1280 : Shape := ⟨3, ![20, 64, 1280]⟩
abbrev S1280x5120 : Shape := ⟨2, ![1280, 5120]⟩
abbrev S5120 : Shape := ⟨1, ![5120]⟩
abbrev S5120x1280 : Shape := ⟨2, ![5120, 1280]⟩
abbrev S1x20x64 : Shape := ⟨3, ![1, 20, 64]⟩
abbrev S1x1280 : Shape := ⟨2, ![1, 1280]⟩
abbrev S4x1280 : Shape := ⟨2, ![4, 1280]⟩
abbrev S_ : Shape := ⟨0, ![]⟩
abbrev S5x1280 : Shape := ⟨2, ![5, 1280]⟩
abbrev S16x1280 : Shape := ⟨2, ![16, 1280]⟩
abbrev S32x1280 : Shape := ⟨2, ![32, 1280]⟩
abbrev S4x128 : Shape := ⟨2, ![4, 128]⟩
abbrev S4x72x5120 : Shape := ⟨3, ![4, 72, 5120]⟩
abbrev S72x5120 : Shape := ⟨2, ![72, 5120]⟩
abbrev S1280x1280 : Shape := ⟨2, ![1280, 1280]⟩
abbrev S1x72x1280 : Shape := ⟨3, ![1, 72, 1280]⟩
abbrev S72x1280 : Shape := ⟨2, ![72, 1280]⟩
abbrev S72 : Shape := ⟨1, ![72]⟩
abbrev S72x1 : Shape := ⟨2, ![72, 1]⟩
abbrev S72x128 : Shape := ⟨2, ![72, 128]⟩
abbrev S56x128 : Shape := ⟨2, ![56, 128]⟩
abbrev S128x128 : Shape := ⟨2, ![128, 128]⟩
abbrev S1x128 : Shape := ⟨2, ![1, 128]⟩
abbrev S8x128 : Shape := ⟨2, ![8, 128]⟩
abbrev S2x128 : Shape := ⟨2, ![2, 128]⟩
abbrev S128x8 : Shape := ⟨2, ![128, 8]⟩

abbrev nBuf : Space → Nat
  | .hbm => 66
  | .vmem => 16
  | .smem => 0
  | _ => 0

abbrev bufTy : (tb : Table) → Fin (tcTables nBuf tb) → BufTy
  | .hbm, ⟨0, _⟩ => ⟨S72x4x1280, .f32⟩
  | .hbm, ⟨1, _⟩ => ⟨S4x72x1280, .f32⟩
  | .hbm, ⟨2, _⟩ => ⟨S1280, .f32⟩
  | .hbm, ⟨3, _⟩ => ⟨S1280, .f32⟩
  | .hbm, ⟨4, _⟩ => ⟨S1280, .f32⟩
  | .hbm, ⟨5, _⟩ => ⟨S1280, .f32⟩
  | .hbm, ⟨6, _⟩ => ⟨S1280, .f32⟩
  | .hbm, ⟨7, _⟩ => ⟨S1280, .f32⟩
  | .hbm, ⟨8, _⟩ => ⟨S3x20x64, .f32⟩
  | .hbm, ⟨9, _⟩ => ⟨S20x64, .f32⟩
  | .hbm, ⟨10, _⟩ => ⟨S20x64, .f32⟩
  | .hbm, ⟨11, _⟩ => ⟨S1280, .f32⟩
  | .hbm, ⟨12, _⟩ => ⟨S1280, .f32⟩
  | .hbm, ⟨13, _⟩ => ⟨S20x64, .f32⟩
  | .hbm, ⟨14, _⟩ => ⟨S20x64, .f32⟩
  | .hbm, ⟨15, _⟩ => ⟨S20x64x1280, .i8⟩
  | .hbm, ⟨16, _⟩ => ⟨S1280, .f32⟩
  | .hbm, ⟨17, _⟩ => ⟨S1280, .f32⟩
  | .hbm, ⟨18, _⟩ => ⟨S1280x5120, .i8⟩
  | .hbm, ⟨19, _⟩ => ⟨S5120, .f32⟩
  | .hbm, ⟨20, _⟩ => ⟨S5120, .f32⟩
  | .hbm, ⟨21, _⟩ => ⟨S5120x1280, .i8⟩
  | .hbm, ⟨22, _⟩ => ⟨S1280, .f32⟩
  | .hbm, ⟨23, _⟩ => ⟨S1280, .f32⟩
  | .hbm, ⟨24, _⟩ => ⟨S1x20x64, .f32⟩
  | .hbm, ⟨25, _⟩ => ⟨S20x64, .f32⟩
  | .hbm, ⟨26, _⟩ => ⟨S1x20x64, .f32⟩
  | .hbm, ⟨27, _⟩ => ⟨S20x64, .f32⟩
  | .hbm, ⟨28, _⟩ => ⟨S1x20x64, .f32⟩
  | .hbm, ⟨29, _⟩ => ⟨S20x64, .f32⟩
  | .hbm, ⟨30, _⟩ => ⟨S1x1280, .f32⟩
  | .hbm, ⟨31, _⟩ => ⟨S1x1280, .f32⟩
  | .hbm, ⟨32, _⟩ => ⟨S1x1280, .f32⟩
  | .hbm, ⟨33, _⟩ => ⟨S1x1280, .f32⟩
  | .hbm, ⟨34, _⟩ => ⟨S1x1280, .f32⟩
  | .hbm, ⟨35, _⟩ => ⟨S1x1280, .f32⟩
  | .hbm, ⟨36, _⟩ => ⟨S1x1280, .f32⟩
  | .hbm, ⟨37, _⟩ => ⟨S1x1280, .f32⟩
  | .hbm, ⟨38, _⟩ => ⟨S1x1280, .f32⟩
  | .hbm, ⟨39, _⟩ => ⟨S1x1280, .f32⟩
  | .hbm, ⟨40, _⟩ => ⟨S1x1280, .f32⟩
  | .hbm, ⟨41, _⟩ => ⟨S1x1280, .f32⟩
  | .hbm, ⟨42, _⟩ => ⟨S1x1280, .f32⟩
  | .hbm, ⟨43, _⟩ => ⟨S1x1280, .f32⟩
  | .hbm, ⟨44, _⟩ => ⟨S1x1280, .f32⟩
  | .hbm, ⟨45, _⟩ => ⟨S1x1280, .f32⟩
  | .hbm, ⟨46, _⟩ => ⟨S1x1280, .f32⟩
  | .hbm, ⟨47, _⟩ => ⟨S1x1280, .f32⟩
  | .hbm, ⟨48, _⟩ => ⟨S1x1280, .f32⟩
  | .hbm, ⟨49, _⟩ => ⟨S4x1280, .f32⟩
  | .hbm, ⟨50, _⟩ => ⟨S4x1280, .f32⟩
  | .hbm, ⟨51, _⟩ => ⟨S_, .f32⟩
  | .hbm, ⟨52, _⟩ => ⟨S5x1280, .f32⟩
  | .hbm, ⟨53, _⟩ => ⟨S16x1280, .f32⟩
  | .hbm, ⟨54, _⟩ => ⟨S16x1280, .f32⟩
  | .hbm, ⟨55, _⟩ => ⟨S32x1280, .f32⟩
  | .hbm, ⟨56, _⟩ => ⟨S4x72x1280, .f32⟩
  | .hbm, ⟨57, _⟩ => ⟨S4x72x1280, .i8⟩
  | .hbm, ⟨58, _⟩ => ⟨S4x128, .f32⟩
  | .hbm, ⟨59, _⟩ => ⟨S4x72x1280, .f32⟩
  | .hbm, ⟨60, _⟩ => ⟨S4x72x1280, .i8⟩
  | .hbm, ⟨61, _⟩ => ⟨S4x128, .f32⟩
  | .hbm, ⟨62, _⟩ => ⟨S4x72x5120, .bf16⟩
  | .hbm, ⟨63, _⟩ => ⟨S4x72x5120, .i8⟩
  | .hbm, ⟨64, _⟩ => ⟨S4x128, .f32⟩
  | .hbm, ⟨65, _⟩ => ⟨S4x72x1280, .bf16⟩
  | .local _ .vmem, ⟨0, _⟩ => ⟨S4x72x1280, .f32⟩
  | .local _ .vmem, ⟨1, _⟩ => ⟨S4x72x1280, .f32⟩
  | .local _ .vmem, ⟨2, _⟩ => ⟨S32x1280, .f32⟩
  | .local _ .vmem, ⟨3, _⟩ => ⟨S20x64x1280, .i8⟩
  | .local _ .vmem, ⟨4, _⟩ => ⟨S1280x5120, .i8⟩
  | .local _ .vmem, ⟨5, _⟩ => ⟨S5120x1280, .i8⟩
  | .local _ .vmem, ⟨6, _⟩ => ⟨S4x72x1280, .i8⟩
  | .local _ .vmem, ⟨7, _⟩ => ⟨S4x128, .f32⟩
  | .local _ .vmem, ⟨8, _⟩ => ⟨S4x72x1280, .f32⟩
  | .local _ .vmem, ⟨9, _⟩ => ⟨S4x72x1280, .i8⟩
  | .local _ .vmem, ⟨10, _⟩ => ⟨S4x128, .f32⟩
  | .local _ .vmem, ⟨11, _⟩ => ⟨S4x72x5120, .bf16⟩
  | .local _ .vmem, ⟨12, _⟩ => ⟨S4x72x5120, .i8⟩
  | .local _ .vmem, ⟨13, _⟩ => ⟨S4x128, .f32⟩
  | .local _ .vmem, ⟨14, _⟩ => ⟨S4x72x1280, .bf16⟩
  | .local _ .vmem, ⟨15, _⟩ => ⟨S72x5120, .f32⟩
  | _, _ => ⟨S72x4x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32_0 : Ref sig .tc := ⟨.hbm, 57, rfl⟩
abbrev main_v32_1 : Ref sig .tc := ⟨.hbm, 58, rfl⟩
abbrev main_v32_2 : Ref sig .tc := ⟨.hbm, 59, rfl⟩
abbrev main_v32_3 : Ref sig .tc := ⟨.hbm, 60, rfl⟩
abbrev main_v32_4 : Ref sig .tc := ⟨.hbm, 61, rfl⟩
abbrev main_v32_5 : Ref sig .tc := ⟨.hbm, 62, rfl⟩
abbrev main_v32_6 : Ref sig .tc := ⟨.hbm, 63, rfl⟩
abbrev main_v32_7 : Ref sig .tc := ⟨.hbm, 64, rfl⟩
abbrev main_v32_8 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S4x72x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x72x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x64x1280 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x5120 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x1280 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x72x1280 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x72x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x72x1280 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x72x5120 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x72x5120 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x72x1280 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== KernelIdeal.lean ====
variable {F : FTy → Type} [FloatOps F] [Named F]
def κ : String → Option EReal := fun
  | "inv_127" => some ((1 / 127 : ℝ) : EReal)
  | "inv_d" => some ((1 / 1280 : ℝ) : EReal)
  | _ => none
-- ==== ReferenceIdeal.lean ====
abbrev S72x4x1280 : Shape := ⟨3, ![72, 4, 1280]⟩
abbrev S4x72x1280 : Shape := ⟨3, ![4, 72, 1280]⟩
abbrev S1280 : Shape := ⟨1, ![1280]⟩
abbrev S3x20x64 : Shape := ⟨3, ![3, 20, 64]⟩
abbrev S20x64 : Shape := ⟨2, ![20, 64]⟩
abbrev S20x64x1280 : Shape := ⟨3, ![20, 64, 1280]⟩
abbrev S1280x5120 : Shape := ⟨2, ![1280, 5120]⟩
abbrev S5120 : Shape := ⟨1, ![5120]⟩
abbrev S5120x1280 : Shape := ⟨2, ![5120, 1280]⟩
abbrev S1x1x1280 : Shape := ⟨3, ![1, 1, 1280]⟩
abbrev S1280x1280 : Shape := ⟨2, ![1280, 1280]⟩
abbrev S1x1x5120 : Shape := ⟨3, ![1, 1, 5120]⟩
abbrev S4x128 : Shape := ⟨2, ![4, 128]⟩
abbrev S4x72x5120 : Shape := ⟨3, ![4, 72, 5120]⟩
abbrev S4x72 : Shape := ⟨2, ![4, 72]⟩
abbrev S4x72x1 : Shape := ⟨3, ![4, 72, 1]⟩
abbrev S288x1280 : Shape := ⟨2, ![288, 1280]⟩
abbrev S288x5120 : Shape := ⟨2, ![288, 5120]⟩
abbrev S4x56 : Shape := ⟨2, ![4, 56]⟩

abbrev nBuf : Space → Nat
  | .hbm => 43
  | .vmem => 22
  | .smem => 0
  | _ => 0

abbrev bufTy : (tb : Table) → Fin (tcTables nBuf tb) → BufTy
  | .hbm, ⟨0, _⟩ => ⟨S72x4x1280, .f32⟩
  | .hbm, ⟨1, _⟩ => ⟨S4x72x1280, .f32⟩
  | .hbm, ⟨2, _⟩ => ⟨S1280, .f32⟩
  | .hbm, ⟨3, _⟩ => ⟨S1280, .f32⟩
  | .hbm, ⟨4, _⟩ => ⟨S1280, .f32⟩
  | .hbm, ⟨5, _⟩ => ⟨S1280, .f32⟩
  | .hbm, ⟨6, _⟩ => ⟨S1280, .f32⟩
  | .hbm, ⟨7, _⟩ => ⟨S1280, .f32⟩
  | .hbm, ⟨8, _⟩ => ⟨S3x20x64, .f32⟩
  | .hbm, ⟨9, _⟩ => ⟨S20x64, .f32⟩
  | .hbm, ⟨10, _⟩ => ⟨S20x64, .f32⟩
  | .hbm, ⟨11, _⟩ => ⟨S1280, .f32⟩
  | .hbm, ⟨12, _⟩ => ⟨S1280, .f32⟩
  | .hbm, ⟨13, _⟩ => ⟨S20x64, .f32⟩
  | .hbm, ⟨14, _⟩ => ⟨S20x64, .f32⟩
  | .hbm, ⟨15, _⟩ => ⟨S20x64x1280, .i8⟩
  | .hbm, ⟨16, _⟩ => ⟨S1280, .f32⟩
  | .hbm, ⟨17, _⟩ => ⟨S1280, .f32⟩
  | .hbm, ⟨18, _⟩ => ⟨S1280x5120, .i8⟩
  | .hbm, ⟨19, _⟩ => ⟨S5120, .f32⟩
  | .hbm, ⟨20, _⟩ => ⟨S5120, .f32⟩
  | .hbm, ⟨21, _⟩ => ⟨S5120x1280, .i8⟩
  | .hbm, ⟨22, _⟩ => ⟨S1280, .f32⟩
  | .hbm, ⟨23, _⟩ => ⟨S1280, .f32⟩
  | .hbm, ⟨24, _⟩ => ⟨S4x72x1280, .f32⟩
  | .hbm, ⟨25, _⟩ => ⟨S1x1x1280, .f32⟩
  | .hbm, ⟨26, _⟩ => ⟨S1x1x1280, .f32⟩
  | .hbm, ⟨27, _⟩ => ⟨S1280x1280, .i8⟩
  | .hbm, ⟨28, _⟩ => ⟨S1x1x1280, .f32⟩
  | .hbm, ⟨29, _⟩ => ⟨S1x1x1280, .f32⟩
  | .hbm, ⟨30, _⟩ => ⟨S1x1x5120, .f32⟩
  | .hbm, ⟨31, _⟩ => ⟨S1x1x5120, .f32⟩
  | .hbm, ⟨32, _⟩ => ⟨S1x1x1280, .f32⟩
  | .hbm, ⟨33, _⟩ => ⟨S1x1x1280, .f32⟩
  | .hbm, ⟨34, _⟩ => ⟨S4x72x1280, .i8⟩
  | .hbm, ⟨35, _⟩ => ⟨S4x128, .f32⟩
  | .hbm, ⟨36, _⟩ => ⟨S4x72x1280, .f32⟩
  | .hbm, ⟨37, _⟩ => ⟨S4x72x1280, .i8⟩
  | .hbm, ⟨38, _⟩ => ⟨S4x128, .f32⟩
  | .hbm, ⟨39, _⟩ => ⟨S4x72x5120, .bf16⟩
  | .hbm, ⟨40, _⟩ => ⟨S4x72x5120, .i8⟩
  | .hbm, ⟨41, _⟩ => ⟨S4x128, .f32⟩
  | .hbm, ⟨42, _⟩ => ⟨S4x72x1280, .bf16⟩
  | .local _ .vmem, ⟨0, _⟩ => ⟨S4x72x1280, .f32⟩
  | .local _ .vmem, ⟨1, _⟩ => ⟨S4x72x1280, .f32⟩
  | .local _ .vmem, ⟨2, _⟩ => ⟨S1x1x1280, .f32⟩
  | .local _ .vmem, ⟨3, _⟩ => ⟨S1x1x1280, .f32⟩
  | .local _ .vmem, ⟨4, _⟩ => ⟨S1280x1280, .i8⟩
  | .local _ .vmem, ⟨5, _⟩ => ⟨S1x1x1280, .f32⟩
  | .local _ .vmem, ⟨6, _⟩ => ⟨S1x1x1280, .f32⟩
  | .local _ .vmem, ⟨7, _⟩ => ⟨S1280x5120, .i8⟩
  | .local _ .vmem, ⟨8, _⟩ => ⟨S1x1x5120, .f32⟩
  | .local _ .vmem, ⟨9, _⟩ => ⟨S1x1x5120, .f32⟩
  | .local _ .vmem, ⟨10, _⟩ => ⟨S5120x1280, .i8⟩
  | .local _ .vmem, ⟨11, _⟩ => ⟨S1x1x1280, .f32⟩
  | .local _ .vmem, ⟨12, _⟩ => ⟨S1x1x1280, .f32⟩
  | .local _ .vmem, ⟨13, _⟩ => ⟨S4x72x1280, .i8⟩
  | .local _ .vmem, ⟨14, _⟩ => ⟨S4x128, .f32⟩
  | .local _ .vmem, ⟨15, _⟩ => ⟨S4x72x1280, .f32⟩
  | .local _ .vmem, ⟨16, _⟩ => ⟨S4x72x1280, .i8⟩
  | .local _ .vmem, ⟨17, _⟩ => ⟨S4x128, .f32⟩
  | .local _ .vmem, ⟨18, _⟩ => ⟨S4x72x5120, .bf16⟩
  | .local _ .vmem, ⟨19, _⟩ => ⟨S4x72x5120, .i8⟩
  | .local _ .vmem, ⟨20, _⟩ => ⟨S4x128, .f32⟩
  | .local _ .vmem, ⟨21, _⟩ => ⟨S4x72x1280, .bf16⟩
  | _, _ => ⟨S72x4x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10_0 : Ref sig .tc := ⟨.hbm, 34, rfl⟩
abbrev main_v10_1 : Ref sig .tc := ⟨.hbm, 35, rfl⟩
abbrev main_v10_2 : Ref sig .tc := ⟨.hbm, 36, rfl⟩
abbrev main_v10_3 : Ref sig .tc := ⟨.hbm, 37, rfl⟩
abbrev main_v10_4 : Ref sig .tc := ⟨.hbm, 38, rfl⟩
abbrev main_v10_5 : Ref sig .tc := ⟨.hbm, 39, rfl⟩
abbrev main_v10_6 : Ref sig .tc := ⟨.hbm, 40, rfl⟩
abbrev main_v10_7 : Ref sig .tc := ⟨.hbm, 41, rfl⟩
abbrev main_v10_8 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S4x72x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x72x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x1280 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280x5120 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5120x1280 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1x1280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x72x1280 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x72x1280 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x72x1280 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x72x5120 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x72x5120 .i8 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x72x1280 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Mid.lean ====
abbrev S72x4x1280 : Shape := ⟨3, ![72, 4, 1280]⟩
abbrev S1280 : Shape := ⟨1, ![1280]⟩
abbrev S3x20x64 : Shape := ⟨3, ![3, 20, 64]⟩
abbrev S20x64 : Shape := ⟨2, ![20, 64]⟩
abbrev S20x64x1280 : Shape := ⟨3, ![20, 64, 1280]⟩
abbrev S1280x20x64 : Shape := ⟨3, ![1280, 20, 64]⟩
abbrev S5120 : Shape := ⟨1, ![5120]⟩
abbrev S1x20x64 : Shape := ⟨3, ![1, 20, 64]⟩
abbrev S1x1280 : Shape := ⟨2, ![1, 1280]⟩
abbrev S4x1280 : Shape := ⟨2, ![4, 1280]⟩
abbrev S_ : Shape := ⟨0, ![]⟩
abbrev S5x1280 : Shape := ⟨2, ![5, 1280]⟩
abbrev S16x1280 : Shape := ⟨2, ![16, 1280]⟩
abbrev S32x1280 : Shape := ⟨2, ![32, 1280]⟩
abbrev S4x72x1280 : Shape := ⟨3, ![4, 72, 1280]⟩
abbrev S4x128 : Shape := ⟨2, ![4, 128]⟩
abbrev S1280x1280 : Shape := ⟨2, ![1280, 1280]⟩
abbrev S1x72x1280 : Shape := ⟨3, ![1, 72, 1280]⟩
abbrev S72x1280 : Shape := ⟨2, ![72, 1280]⟩
abbrev S72 : Shape := ⟨1, ![72]⟩
abbrev S72x1 : Shape := ⟨2, ![72, 1]⟩
abbrev S72x128 : Shape := ⟨2, ![72, 128]⟩
abbrev S56x128 : Shape := ⟨2, ![56, 128]⟩
abbrev S128x128 : Shape := ⟨2, ![128, 128]⟩
abbrev S1x128 : Shape := ⟨2, ![1, 128]⟩
abbrev S8x128 : Shape := ⟨2, ![8, 128]⟩
abbrev S2x128 : Shape := ⟨2, ![2, 128]⟩
abbrev S128x8 : Shape := ⟨2, ![128, 8]⟩

abbrev nBuf : Space → Nat
  | .hbm => 64
  | .vmem => 11
  | .smem => 0
  | _ => 0

abbrev bufTy : (tb : Table) → Fin (tcTables nBuf tb) → BufTy
  | .hbm, ⟨0, _⟩ => ⟨S72x4x1280, .f32⟩
  | .hbm, ⟨1, _⟩ => ⟨S72x4x1280, .bf16⟩
  | .hbm, ⟨2, _⟩ => ⟨S1280, .f32⟩
  | .hbm, ⟨3, _⟩ => ⟨S1280, .f32⟩
  | .hbm, ⟨4, _⟩ => ⟨S1280, .f32⟩
  | .hbm, ⟨5, _⟩ => ⟨S1280, .f32⟩
  | .hbm, ⟨6, _⟩ => ⟨S1280, .f32⟩
  | .hbm, ⟨7, _⟩ => ⟨S1280, .f32⟩
  | .hbm, ⟨8, _⟩ => ⟨S3x20x64, .f32⟩
  | .hbm, ⟨9, _⟩ => ⟨S20x64, .f32⟩
  | .hbm, ⟨10, _⟩ => ⟨S20x64, .f32⟩
  | .hbm, ⟨11, _⟩ => ⟨S20x64x1280, .i8⟩
  | .hbm, ⟨12, _⟩ => ⟨S1280, .f32⟩
  | .hbm, ⟨13, _⟩ => ⟨S1280, .f32⟩
  | .hbm, ⟨14, _⟩ => ⟨S1280x20x64, .i8⟩
  | .hbm, ⟨15, _⟩ => ⟨S20x64, .f32⟩
  | .hbm, ⟨16, _⟩ => ⟨S20x64, .f32⟩
  | .hbm, ⟨17, _⟩ => ⟨S1280, .f32⟩
  | .hbm, ⟨18, _⟩ => ⟨S1280, .f32⟩
  | .hbm, ⟨19, _⟩ => ⟨S5120, .f32⟩
  | .hbm, ⟨20, _⟩ => ⟨S5120, .f32⟩
  | .hbm, ⟨21, _⟩ => ⟨S1280, .f32⟩
  | .hbm, ⟨22, _⟩ => ⟨S1280, .f32⟩
  | .hbm, ⟨23, _⟩ => ⟨S1x20x64, .f32⟩
  | .hbm, ⟨24, _⟩ => ⟨S20x64, .f32⟩
  | .hbm, ⟨25, _⟩ => ⟨S1x20x64, .f32⟩
  | .hbm, ⟨26, _⟩ => ⟨S20x64, .f32⟩
  | .hbm, ⟨27, _⟩ => ⟨S1x20x64, .f32⟩
  | .hbm, ⟨28, _⟩ => ⟨S20x64, .f32⟩
  | .hbm, ⟨29, _⟩ => ⟨S1x1280, .f32⟩
  | .hbm, ⟨30, _⟩ => ⟨S1x1280, .f32⟩
  | .hbm, ⟨31, _⟩ => ⟨S1x1280, .f32⟩
  | .hbm, ⟨32, _⟩ => ⟨S1x1280, .f32⟩
  | .hbm, ⟨33, _⟩ => ⟨S1x1280, .f32⟩
  | .hbm, ⟨34, _⟩ => ⟨S1x1280, .f32⟩
  | .hbm, ⟨35, _⟩ => ⟨S1x1280, .f32⟩
  | .hbm, ⟨36, _⟩ => ⟨S1x1280, .f32⟩
  | .hbm, ⟨37, _⟩ => ⟨S1x1280, .f32⟩
  | .hbm, ⟨38, _⟩ => ⟨S1x1280, .f32⟩
  | .hbm, ⟨39, _⟩ => ⟨S1x1280, .f32⟩
  | .hbm, ⟨40, _⟩ => ⟨S1x1280, .f32⟩
  | .hbm, ⟨41, _⟩ => ⟨S1x1280, .f32⟩
  | .hbm, ⟨42, _⟩ => ⟨S1x1280, .f32⟩
  | .hbm, ⟨43, _⟩ => ⟨S1x1280, .f32⟩
  | .hbm, ⟨44, _⟩ => ⟨S1x1280, .f32⟩
  | .hbm, ⟨45, _⟩ => ⟨S1x1280, .f32⟩
  | .hbm, ⟨46, _⟩ => ⟨S1x1280, .f32⟩
  | .hbm, ⟨47, _⟩ => ⟨S1x1280, .f32⟩
  | .hbm, ⟨48, _⟩ => ⟨S4x1280, .f32⟩
  | .hbm, ⟨49, _⟩ => ⟨S4x1280, .f32⟩
  | .hbm, ⟨50, _⟩ => ⟨S_, .f32⟩
  | .hbm, ⟨51, _⟩ => ⟨S5x1280, .f32⟩
  | .hbm, ⟨52, _⟩ => ⟨S16x1280, .f32⟩
  | .hbm, ⟨53, _⟩ => ⟨S16x1280, .f32⟩
  | .hbm, ⟨54, _⟩ => ⟨S32x1280, .f32⟩
  | .hbm, ⟨55, _⟩ => ⟨S4x72x1280, .bf16⟩
  | .hbm, ⟨56, _⟩ => ⟨S4x72x1280, .f32⟩
  | .hbm, ⟨57, _⟩ => ⟨S20x64x1280, .i8⟩
  | .hbm, ⟨58, _⟩ => ⟨S4x72x1280, .i8⟩
  | .hbm, ⟨59, _⟩ => ⟨S4x128, .f32⟩
  | .hbm, ⟨60, _⟩ => ⟨S4x72x1280, .f32⟩
  | .hbm, ⟨61, _⟩ => ⟨S4x72x1280, .i8⟩
  | .hbm, ⟨62, _⟩ => ⟨S4x128, .f32⟩
  | .hbm, ⟨63, _⟩ => ⟨S4x72x1280, .f32⟩
  | .local _ .vmem, ⟨0, _⟩ => ⟨S4x72x1280, .f32⟩
  | .local _ .vmem, ⟨1, _⟩ => ⟨S4x72x1280, .bf16⟩
  | .local _ .vmem, ⟨2, _⟩ => ⟨S32x1280, .f32⟩
  | .local _ .vmem, ⟨3, _⟩ => ⟨S20x64x1280, .i8⟩
  | .local _ .vmem, ⟨4, _⟩ => ⟨S20x64x1280, .i8⟩
  | .local _ .vmem, ⟨5, _⟩ => ⟨S4x72x1280, .i8⟩
  | .local _ .vmem, ⟨6, _⟩ => ⟨S4x128, .f32⟩
  | .local _ .vmem, ⟨7, _⟩ => ⟨S4x72x1280, .f32⟩
  | .local _ .vmem, ⟨8, _⟩ => ⟨S4x72x1280, .i8⟩
  | .local _ .vmem, ⟨9, _⟩ => ⟨S4x128, .f32⟩
  | .local _ .vmem, ⟨10, _⟩ => ⟨S4x72x1280, .f32⟩
  | _, _ => ⟨S72x4x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34_0 : Ref sig .tc := ⟨.hbm, 58, rfl⟩
abbrev main_v34_1 : Ref sig .tc := ⟨.hbm, 59, rfl⟩
abbrev main_v34_2 : Ref sig .tc := ⟨.hbm, 60, rfl⟩
abbrev main_v34_3 : Ref sig .tc := ⟨.hbm, 61, rfl⟩
abbrev main_v34_4 : Ref sig .tc := ⟨.hbm, 62, rfl⟩
abbrev main_v34_5 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S4x72x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x72x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x64x1280 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x64x1280 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x72x1280 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x72x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x72x1280 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x72x1280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== MidIdeal.lean ====
variable {F : FTy → Type} [FloatOps F] [Named F]
def κ : String → Option EReal := fun
  | "inv_127" => some ((1 / 127 : ℝ) : EReal)
  | "inv_d" => some ((1 / 1280 : ℝ) : EReal)
  | _ => none
-- ==== MidReferenceIdeal.lean ====
abbrev S72x4x1280 : Shape := ⟨3, ![72, 4, 1280]⟩
abbrev S1280 : Shape := ⟨1, ![1280]⟩
abbrev S3x20x64 : Shape := ⟨3, ![3, 20, 64]⟩
abbrev S20x64 : Shape := ⟨2, ![20, 64]⟩
abbrev S20x64x1280 : Shape := ⟨3, ![20, 64, 1280]⟩
abbrev S1280x20x64 : Shape := ⟨3, ![1280, 20, 64]⟩
abbrev S5120 : Shape := ⟨1, ![5120]⟩
abbrev S4x72x1280 : Shape := ⟨3, ![4, 72, 1280]⟩
abbrev S1x1x1280 : Shape := ⟨3, ![1, 1, 1280]⟩
abbrev S1280x1280 : Shape := ⟨2, ![1280, 1280]⟩
abbrev S4x128 : Shape := ⟨2, ![4, 128]⟩
abbrev S4x72 : Shape := ⟨2, ![4, 72]⟩
abbrev S4x72x1 : Shape := ⟨3, ![4, 72, 1]⟩
abbrev S288x1280 : Shape := ⟨2, ![288, 1280]⟩
abbrev S4x56 : Shape := ⟨2, ![4, 56]⟩

abbrev nBuf : Space → Nat
  | .hbm => 39
  | .vmem => 16
  | .smem => 0
  | _ => 0

abbrev bufTy : (tb : Table) → Fin (tcTables nBuf tb) → BufTy
  | .hbm, ⟨0, _⟩ => ⟨S72x4x1280, .f32⟩
  | .hbm, ⟨1, _⟩ => ⟨S72x4x1280, .bf16⟩
  | .hbm, ⟨2, _⟩ => ⟨S1280, .f32⟩
  | .hbm, ⟨3, _⟩ => ⟨S1280, .f32⟩
  | .hbm, ⟨4, _⟩ => ⟨S1280, .f32⟩
  | .hbm, ⟨5, _⟩ => ⟨S1280, .f32⟩
  | .hbm, ⟨6, _⟩ => ⟨S1280, .f32⟩
  | .hbm, ⟨7, _⟩ => ⟨S1280, .f32⟩
  | .hbm, ⟨8, _⟩ => ⟨S3x20x64, .f32⟩
  | .hbm, ⟨9, _⟩ => ⟨S20x64, .f32⟩
  | .hbm, ⟨10, _⟩ => ⟨S20x64, .f32⟩
  | .hbm, ⟨11, _⟩ => ⟨S20x64x1280, .i8⟩
  | .hbm, ⟨12, _⟩ => ⟨S1280, .f32⟩
  | .hbm, ⟨13, _⟩ => ⟨S1280, .f32⟩
  | .hbm, ⟨14, _⟩ => ⟨S1280x20x64, .i8⟩
  | .hbm, ⟨15, _⟩ => ⟨S20x64, .f32⟩
  | .hbm, ⟨16, _⟩ => ⟨S20x64, .f32⟩
  | .hbm, ⟨17, _⟩ => ⟨S1280, .f32⟩
  | .hbm, ⟨18, _⟩ => ⟨S1280, .f32⟩
  | .hbm, ⟨19, _⟩ => ⟨S5120, .f32⟩
  | .hbm, ⟨20, _⟩ => ⟨S5120, .f32⟩
  | .hbm, ⟨21, _⟩ => ⟨S1280, .f32⟩
  | .hbm, ⟨22, _⟩ => ⟨S1280, .f32⟩
  | .hbm, ⟨23, _⟩ => ⟨S4x72x1280, .f32⟩
  | .hbm, ⟨24, _⟩ => ⟨S4x72x1280, .bf16⟩
  | .hbm, ⟨25, _⟩ => ⟨S1x1x1280, .f32⟩
  | .hbm, ⟨26, _⟩ => ⟨S1x1x1280, .f32⟩
  | .hbm, ⟨27, _⟩ => ⟨S1280x1280, .i8⟩
  | .hbm, ⟨28, _⟩ => ⟨S1x1x1280, .f32⟩
  | .hbm, ⟨29, _⟩ => ⟨S1x1x1280, .f32⟩
  | .hbm, ⟨30, _⟩ => ⟨S1280x1280, .i8⟩
  | .hbm, ⟨31, _⟩ => ⟨S1x1x1280, .f32⟩
  | .hbm, ⟨32, _⟩ => ⟨S1x1x1280, .f32⟩
  | .hbm, ⟨33, _⟩ => ⟨S4x72x1280, .i8⟩
  | .hbm, ⟨34, _⟩ => ⟨S4x128, .f32⟩
  | .hbm, ⟨35, _⟩ => ⟨S4x72x1280, .f32⟩
  | .hbm, ⟨36, _⟩ => ⟨S4x72x1280, .i8⟩
  | .hbm, ⟨37, _⟩ => ⟨S4x128, .f32⟩
  | .hbm, ⟨38, _⟩ => ⟨S4x72x1280, .f32⟩
  | .local _ .vmem, ⟨0, _⟩ => ⟨S4x72x1280, .f32⟩
  | .local _ .vmem, ⟨1, _⟩ => ⟨S4x72x1280, .bf16⟩
  | .local _ .vmem, ⟨2, _⟩ => ⟨S1x1x1280, .f32⟩
  | .local _ .vmem, ⟨3, _⟩ => ⟨S1x1x1280, .f32⟩
  | .local _ .vmem, ⟨4, _⟩ => ⟨S1280x1280, .i8⟩
  | .local _ .vmem, ⟨5, _⟩ => ⟨S1x1x1280, .f32⟩
  | .local _ .vmem, ⟨6, _⟩ => ⟨S1x1x1280, .f32⟩
  | .local _ .vmem, ⟨7, _⟩ => ⟨S1280x1280, .i8⟩
  | .local _ .vmem, ⟨8, _⟩ => ⟨S1x1x1280, .f32⟩
  | .local _ .vmem, ⟨9, _⟩ => ⟨S1x1x1280, .f32⟩
  | .local _ .vmem, ⟨10, _⟩ => ⟨S4x72x1280, .i8⟩
  | .local _ .vmem, ⟨11, _⟩ => ⟨S4x128, .f32⟩
  | .local _ .vmem, ⟨12, _⟩ => ⟨S4x72x1280, .f32⟩
  | .local _ .vmem, ⟨13, _⟩ => ⟨S4x72x1280, .i8⟩
  | .local _ .vmem, ⟨14, _⟩ => ⟨S4x128, .f32⟩
  | .local _ .vmem, ⟨15, _⟩ => ⟨S4x72x1280, .f32⟩
  | _, _ => ⟨S72x4x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10_0 : Ref sig .tc := ⟨.hbm, 33, rfl⟩
abbrev main_v10_1 : Ref sig .tc := ⟨.hbm, 34, rfl⟩
abbrev main_v10_2 : Ref sig .tc := ⟨.hbm, 35, rfl⟩
abbrev main_v10_3 : Ref sig .tc := ⟨.hbm, 36, rfl⟩
abbrev main_v10_4 : Ref sig .tc := ⟨.hbm, 37, rfl⟩
abbrev main_v10_5 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S4x72x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x72x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x1280 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280x1280 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x72x1280 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x72x1280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x72x1280 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x72x1280 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Qkv.lean ====
abbrev S72x4x1280 : Shape := ⟨3, ![72, 4, 1280]⟩
abbrev S1280 : Shape := ⟨1, ![1280]⟩
abbrev S1280x3x20x64 : Shape := ⟨4, ![1280, 3, 20, 64]⟩
abbrev S3x20x64 : Shape := ⟨3, ![3, 20, 64]⟩
abbrev S20x64 : Shape := ⟨2, ![20, 64]⟩
abbrev S5120 : Shape := ⟨1, ![5120]⟩
abbrev S1x20x64 : Shape := ⟨3, ![1, 20, 64]⟩
abbrev S1x1280 : Shape := ⟨2, ![1, 1280]⟩
abbrev S4x1280 : Shape := ⟨2, ![4, 1280]⟩
abbrev S_ : Shape := ⟨0, ![]⟩
abbrev S5x1280 : Shape := ⟨2, ![5, 1280]⟩
abbrev S16x1280 : Shape := ⟨2, ![16, 1280]⟩
abbrev S32x1280 : Shape := ⟨2, ![32, 1280]⟩
abbrev S4x72x1280 : Shape := ⟨3, ![4, 72, 1280]⟩
abbrev S3x20x64x1280 : Shape := ⟨4, ![3, 20, 64, 1280]⟩
abbrev S4x128 : Shape := ⟨2, ![4, 128]⟩
abbrev S4x1280x128 : Shape := ⟨3, ![4, 1280, 128]⟩
abbrev S80x128 : Shape := ⟨2, ![80, 128]⟩
abbrev S512x1280 : Shape := ⟨2, ![512, 1280]⟩
abbrev S1x72x1280 : Shape := ⟨3, ![1, 72, 1280]⟩
abbrev S72x1280 : Shape := ⟨2, ![72, 1280]⟩
abbrev S72x128 : Shape := ⟨2, ![72, 128]⟩
abbrev S56x128 : Shape := ⟨2, ![56, 128]⟩
abbrev S128x128 : Shape := ⟨2, ![128, 128]⟩
abbrev S8x128 : Shape := ⟨2, ![8, 128]⟩
abbrev S2x128 : Shape := ⟨2, ![2, 128]⟩
abbrev S1x128 : Shape := ⟨2, ![1, 128]⟩
abbrev S128x8 : Shape := ⟨2, ![128, 8]⟩
abbrev S72x1 : Shape := ⟨2, ![72, 1]⟩
abbrev S72 : Shape := ⟨1, ![72]⟩
abbrev S1x2x64x1280 : Shape := ⟨4, ![1, 2, 64, 1280]⟩
abbrev S2x64x1280 : Shape := ⟨3, ![2, 64, 1280]⟩
abbrev S128x1280 : Shape := ⟨2, ![128, 1280]⟩
abbrev S128x512 : Shape := ⟨2, ![128, 512]⟩
abbrev S128x1 : Shape := ⟨2, ![128, 1]⟩
abbrev S1x72x128 : Shape := ⟨3, ![1, 72, 128]⟩
abbrev S64x128 : Shape := ⟨2, ![64, 128]⟩
abbrev S128 : Shape := ⟨1, ![128]⟩
abbrev S1x64x128 : Shape := ⟨3, ![1, 64, 128]⟩

abbrev nBuf : Space → Nat
  | .hbm => 63
  | .vmem => 12
  | .smem => 0
  | _ => 0

abbrev bufTy : (tb : Table) → Fin (tcTables nBuf tb) → BufTy
  | .hbm, ⟨0, _⟩ => ⟨S72x4x1280, .bf16⟩
  | .hbm, ⟨1, _⟩ => ⟨S1280, .f32⟩
  | .hbm, ⟨2, _⟩ => ⟨S1280, .f32⟩
  | .hbm, ⟨3, _⟩ => ⟨S1280, .f32⟩
  | .hbm, ⟨4, _⟩ => ⟨S1280, .f32⟩
  | .hbm, ⟨5, _⟩ => ⟨S1280, .f32⟩
  | .hbm, ⟨6, _⟩ => ⟨S1280, .f32⟩
  | .hbm, ⟨7, _⟩ => ⟨S1280x3x20x64, .i8⟩
  | .hbm, ⟨8, _⟩ => ⟨S3x20x64, .f32⟩
  | .hbm, ⟨9, _⟩ => ⟨S20x64, .f32⟩
  | .hbm, ⟨10, _⟩ => ⟨S20x64, .f32⟩
  | .hbm, ⟨11, _⟩ => ⟨S1280, .f32⟩
  | .hbm, ⟨12, _⟩ => ⟨S1280, .f32⟩
  | .hbm, ⟨13, _⟩ => ⟨S20x64, .f32⟩
  | .hbm, ⟨14, _⟩ => ⟨S20x64, .f32⟩
  | .hbm, ⟨15, _⟩ => ⟨S1280, .f32⟩
  | .hbm, ⟨16, _⟩ => ⟨S1280, .f32⟩
  | .hbm, ⟨17, _⟩ => ⟨S5120, .f32⟩
  | .hbm, ⟨18, _⟩ => ⟨S5120, .f32⟩
  | .hbm, ⟨19, _⟩ => ⟨S1280, .f32⟩
  | .hbm, ⟨20, _⟩ => ⟨S1280, .f32⟩
  | .hbm, ⟨21, _⟩ => ⟨S1x20x64, .f32⟩
  | .hbm, ⟨22, _⟩ => ⟨S20x64, .f32⟩
  | .hbm, ⟨23, _⟩ => ⟨S1x20x64, .f32⟩
  | .hbm, ⟨24, _⟩ => ⟨S20x64, .f32⟩
  | .hbm, ⟨25, _⟩ => ⟨S1x20x64, .f32⟩
  | .hbm, ⟨26, _⟩ => ⟨S20x64, .f32⟩
  | .hbm, ⟨27, _⟩ => ⟨S1x1280, .f32⟩
  | .hbm, ⟨28, _⟩ => ⟨S1x1280, .f32⟩
  | .hbm, ⟨29, _⟩ => ⟨S1x1280, .f32⟩
  | .hbm, ⟨30, _⟩ => ⟨S1x1280, .f32⟩
  | .hbm, ⟨31, _⟩ => ⟨S1x1280, .f32⟩
  | .hbm, ⟨32, _⟩ => ⟨S1x1280, .f32⟩
  | .hbm, ⟨33, _⟩ => ⟨S1x1280, .f32⟩
  | .hbm, ⟨34, _⟩ => ⟨S1x1280, .f32⟩
  | .hbm, ⟨35, _⟩ => ⟨S1x1280, .f32⟩
  | .hbm, ⟨36, _⟩ => ⟨S1x1280, .f32⟩
  | .hbm, ⟨37, _⟩ => ⟨S1x1280, .f32⟩
  | .hbm, ⟨38, _⟩ => ⟨S1x1280, .f32⟩
  | .hbm, ⟨39, _⟩ => ⟨S1x1280, .f32⟩
  | .hbm, ⟨40, _⟩ => ⟨S1x1280, .f32⟩
  | .hbm, ⟨41, _⟩ => ⟨S1x1280, .f32⟩
  | .hbm, ⟨42, _⟩ => ⟨S1x1280, .f32⟩
  | .hbm, ⟨43, _⟩ => ⟨S1x1280, .f32⟩
  | .hbm, ⟨44, _⟩ => ⟨S1x1280, .f32⟩
  | .hbm, ⟨45, _⟩ => ⟨S1x1280, .f32⟩
  | .hbm, ⟨46, _⟩ => ⟨S4x1280, .f32⟩
  | .hbm, ⟨47, _⟩ => ⟨S4x1280, .f32⟩
  | .hbm, ⟨48, _⟩ => ⟨S_, .f32⟩
  | .hbm, ⟨49, _⟩ => ⟨S5x1280, .f32⟩
  | .hbm, ⟨50, _⟩ => ⟨S16x1280, .f32⟩
  | .hbm, ⟨51, _⟩ => ⟨S16x1280, .f32⟩
  | .hbm, ⟨52, _⟩ => ⟨S32x1280, .f32⟩
  | .hbm, ⟨53, _⟩ => ⟨S4x72x1280, .bf16⟩
  | .hbm, ⟨54, _⟩ => ⟨S3x20x64x1280, .i8⟩
  | .hbm, ⟨55, _⟩ => ⟨S4x72x1280, .i8⟩
  | .hbm, ⟨56, _⟩ => ⟨S4x128, .f32⟩
  | .hbm, ⟨57, _⟩ => ⟨S4x72x1280, .f32⟩
  | .hbm, ⟨58, _⟩ => ⟨S4x1280x128, .i8⟩
  | .hbm, ⟨59, _⟩ => ⟨S4x1280x128, .i8⟩
  | .hbm, ⟨60, _⟩ => ⟨S80x128, .f32⟩
  | .hbm, ⟨61, _⟩ => ⟨S80x128, .f32⟩
  | .hbm, ⟨62, _⟩ => ⟨S80x128, .f32⟩
  | .local _ .vmem, ⟨0, _⟩ => ⟨S4x72x1280, .bf16⟩
  | .local _ .vmem, ⟨1, _⟩ => ⟨S32x1280, .f32⟩
  | .local _ .vmem, ⟨2, _⟩ => ⟨S3x20x64x1280, .i8⟩
  | .local _ .vmem, ⟨3, _⟩ => ⟨S4x72x1280, .i8⟩
  | .local _ .vmem, ⟨4, _⟩ => ⟨S4x128, .f32⟩
  | .local _ .vmem, ⟨5, _⟩ => ⟨S4x72x1280, .f32⟩
  | .local _ .vmem, ⟨6, _⟩ => ⟨S4x1280x128, .i8⟩
  | .local _ .vmem, ⟨7, _⟩ => ⟨S4x1280x128, .i8⟩
  | .local _ .vmem, ⟨8, _⟩ => ⟨S80x128, .f32⟩
  | .local _ .vmem, ⟨9, _⟩ => ⟨S80x128, .f32⟩
  | .local _ .vmem, ⟨10, _⟩ => ⟨S80x128, .f32⟩
  | .local _ .vmem, ⟨11, _⟩ => ⟨S512x1280, .bf16⟩
  | _, _ => ⟨S72x4x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33_0 : Ref sig .tc := ⟨.hbm, 55, rfl⟩
abbrev main_v33_1 : Ref sig .tc := ⟨.hbm, 56, rfl⟩
abbrev main_v33_2 : Ref sig .tc := ⟨.hbm, 57, rfl⟩
abbrev main_v33_3 : Ref sig .tc := ⟨.hbm, 58, rfl⟩
abbrev main_v33_4 : Ref sig .tc := ⟨.hbm, 59, rfl⟩
abbrev main_v33_5 : Ref sig .tc := ⟨.hbm, 60, rfl⟩
abbrev main_v33_6 : Ref sig .tc := ⟨.hbm, 61, rfl⟩
abbrev main_v33_7 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S4x72x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x20x64x1280 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x72x1280 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x72x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1280x128 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1280x128 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S80x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S80x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S80x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== QkvIdeal.lean ====
variable {F : FTy → Type} [FloatOps F] [Named F]
def κ : String → Option EReal := fun
  | "inv_127" => some ((1 / 127 : ℝ) : EReal)
  | "inv_d" => some ((1 / 1280 : ℝ) : EReal)
  | _ => none
-- ==== QkvReferenceIdeal.lean ====
abbrev S72x4x1280 : Shape := ⟨3, ![72, 4, 1280]⟩
abbrev S1280 : Shape := ⟨1, ![1280]⟩
abbrev S1280x3x20x64 : Shape := ⟨4, ![1280, 3, 20, 64]⟩
abbrev S3x20x64 : Shape := ⟨3, ![3, 20, 64]⟩
abbrev S20x64 : Shape := ⟨2, ![20, 64]⟩
abbrev S5120 : Shape := ⟨1, ![5120]⟩
abbrev S4x72x1280 : Shape := ⟨3, ![4, 72, 1280]⟩
abbrev S1x1x1280 : Shape := ⟨3, ![1, 1, 1280]⟩
abbrev S4x128 : Shape := ⟨2, ![4, 128]⟩
abbrev S4x72 : Shape := ⟨2, ![4, 72]⟩
abbrev S4x72x1 : Shape := ⟨3, ![4, 72, 1]⟩
abbrev S4x56 : Shape := ⟨2, ![4, 56]⟩

abbrev nBuf : Space → Nat
  | .hbm => 26
  | .vmem => 5
  | .smem => 0
  | _ => 0

abbrev bufTy : (tb : Table) → Fin (tcTables nBuf tb) → BufTy
  | .hbm, ⟨0, _⟩ => ⟨S72x4x1280, .bf16⟩
  | .hbm, ⟨1, _⟩ => ⟨S1280, .f32⟩
  | .hbm, ⟨2, _⟩ => ⟨S1280, .f32⟩
  | .hbm, ⟨3, _⟩ => ⟨S1280, .f32⟩
  | .hbm, ⟨4, _⟩ => ⟨S1280, .f32⟩
  | .hbm, ⟨5, _⟩ => ⟨S1280, .f32⟩
  | .hbm, ⟨6, _⟩ => ⟨S1280, .f32⟩
  | .hbm, ⟨7, _⟩ => ⟨S1280x3x20x64, .i8⟩
  | .hbm, ⟨8, _⟩ => ⟨S3x20x64, .f32⟩
  | .hbm, ⟨9, _⟩ => ⟨S20x64, .f32⟩
  | .hbm, ⟨10, _⟩ => ⟨S20x64, .f32⟩
  | .hbm, ⟨11, _⟩ => ⟨S1280, .f32⟩
  | .hbm, ⟨12, _⟩ => ⟨S1280, .f32⟩
  | .hbm, ⟨13, _⟩ => ⟨S20x64, .f32⟩
  | .hbm, ⟨14, _⟩ => ⟨S20x64, .f32⟩
  | .hbm, ⟨15, _⟩ => ⟨S1280, .f32⟩
  | .hbm, ⟨16, _⟩ => ⟨S1280, .f32⟩
  | .hbm, ⟨17, _⟩ => ⟨S5120, .f32⟩
  | .hbm, ⟨18, _⟩ => ⟨S5120, .f32⟩
  | .hbm, ⟨19, _⟩ => ⟨S1280, .f32⟩
  | .hbm, ⟨20, _⟩ => ⟨S1280, .f32⟩
  | .hbm, ⟨21, _⟩ => ⟨S4x72x1280, .bf16⟩
  | .hbm, ⟨22, _⟩ => ⟨S1x1x1280, .f32⟩
  | .hbm, ⟨23, _⟩ => ⟨S1x1x1280, .f32⟩
  | .hbm, ⟨24, _⟩ => ⟨S4x72x1280, .i8⟩
  | .hbm, ⟨25, _⟩ => ⟨S4x128, .f32⟩
  | .local _ .vmem, ⟨0, _⟩ => ⟨S4x72x1280, .bf16⟩
  | .local _ .vmem, ⟨1, _⟩ => ⟨S1x1x1280, .f32⟩
  | .local _ .vmem, ⟨2, _⟩ => ⟨S1x1x1280, .f32⟩
  | .local _ .vmem, ⟨3, _⟩ => ⟨S4x72x1280, .i8⟩
  | .local _ .vmem, ⟨4, _⟩ => ⟨S4x128, .f32⟩
  | _, _ => ⟨S72x4x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3_0 : Ref sig .tc := ⟨.hbm, 24, rfl⟩
abbrev main_v3_1 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x72x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x72x1280 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Beam.lean ====
/-
  ONE BEAM OF THE KERNEL: the computation of the kernel's body on the 72 rows of one beam, in the vector operations the
  printed body uses, as named functions. The printed body does this for four beams one after another, cut into payloads at
  irregular places; `Proof/Pieces.lean` shows that what it stores for beam `j` is what these functions give. At any float
  instance; what the functions compute at `Ideal` is read in `Proof/BeamValue.lean`.
-/
module

public import proofs.«01_k».proof.Proof.Gen.KernelIdeal.Skeleton

@[expose] public section

noncomputable section

namespace Cert.KernelIdeal.Beam

open Idealize.ShloMosaic Cert.KernelIdeal Cert.KernelIdeal.Gen

variable {F : FTy → Type} [FloatOps F] [Named F]

/-- The largest absolute value of each row, as a column. -/
def amax (x : FVec F S72x1280 .f32) : FVec F S72x1 .f32 :=
  shapeCast S72x1 (multiReduction .maximumf [1] S72 (absf x) 0xFF800000#32 reduces_S72x1280_S72 (.inl rfl) rfl) shapeCasts_S72_S72x1

/-- The quantiser's scale from the rows' largest absolute values `a`: 1 where that is 0, else `a` times the named 1/127. -/
def scaleOf (a : FVec F S72x1 .f32) : FVec F S72x1 .f32 :=
  select (cmpf .oeq a (broadcast S72x1 (Scalar.ofBits .f32 0x00000000#32))) (broadcast S72x1 (Scalar.ofBits .f32 0x3F800000#32))
    (mulf a (broadcast S72x1 (Named.named κ "inv_127" 0x3C010204#32)))

/-- The codes of the rows `x` under the scales `s`: divided, rounded to the nearest even integer, clipped to ±127. -/
def codes (x : FVec F S72x1280 .f32) (s : FVec F S72x1 .f32) : FVec F S72x1280 .f32 :=
  minimumf (broadcast S72x1280 (Scalar.ofBits .f32 0x42FE0000#32))
    (maximumf (broadcast S72x1280 (Scalar.ofBits .f32 0xC2FE0000#32))
      (roundeven (divf x (broadcastTo S72x1280 s broadcasts_S72x1_S72x1280))))

/-- A row of 128 lanes whose first 72 hold the column `s` and whose others hold 0. -/
def colRow (s : FVec F S72x1 .f32) : FVec F S1x128 .f32 :=
  extractStridedSlice S1x128 ![0, 0]
    (transpose S128x128 [1, 0]
      (concatenate S128x128 0 [⟨S72x128, broadcastTo S72x128 (shapeCast S72x1 s shapeCasts_S72x1_S72x1) broadcasts_S72x1_S72x128⟩,
        ⟨S56x128, broadcast S56x128 (Scalar.ofBits .f32 0x00000000#32)⟩] concatenates_S72x128_S56x128_S128x128_d0)
      transposes_S128x128_p1_0_S128x128) slices_S128x128_o0_0_S1x128

/-- The product of the codes with a 1280 × 1280 matrix of weights. -/
def prod (q : FVec F S72x1280 .f32) (w : FVec F S1280x1280 .bf16) : FVec F S72x1280 .f32 :=
  matmul dot_S72x1280_S1280x1280_S72x1280_1_0_0_1_n_n none (truncf .bf16 q bitsLt_bf16_f32) w (constant S72x1280 .f32 0x00000000#32)

/-- A product rescaled: times the row's scale times the column's, plus the column's bias. -/
def rescale (acc : FVec F S72x1280 .f32) (s : FVec F S72x1 .f32) (cs cb : FVec F S1x1280 .f32) : FVec F S72x1280 .f32 :=
  addf (mulf acc (mulf (broadcastTo S72x1280 s broadcasts_S72x1_S72x1280) (broadcastTo S72x1280 cs broadcasts_S1x1280_S72x1280)))
    (broadcastTo S72x1280 cb broadcasts_S1x1280_S72x1280)

/-- The ten blocks of 128 columns of `x` added up, first to last. -/
def laneSum (x : FVec F S72x1280 .f32) : FVec F S72x128 .f32 :=
  addf (addf (addf (addf (addf (addf (addf (addf (addf (extractStridedSlice S72x128 ![0, 0] x slices_S72x1280_o0_0_S72x128)
    (extractStridedSlice S72x128 ![0, 128] x slices_S72x1280_o0_128_S72x128))
    (extractStridedSlice S72x128 ![0, 256] x slices_S72x1280_o0_256_S72x128))
    (extractStridedSlice S72x128 ![0, 384] x slices_S72x1280_o0_384_S72x128))
    (extractStridedSlice S72x128 ![0, 512] x slices_S72x1280_o0_512_S72x128))
    (extractStridedSlice S72x128 ![0, 640] x slices_S72x1280_o0_640_S72x128))
    (extractStridedSlice S72x128 ![0, 768] x slices_S72x1280_o0_768_S72x128))
    (extractStridedSlice S72x128 ![0, 896] x slices_S72x1280_o0_896_S72x128))
    (extractStridedSlice S72x128 ![0, 1024] x slices_S72x1280_o0_1024_S72x128))
    (extractStridedSlice S72x128 ![0, 1152] x slices_S72x1280_o0_1152_S72x128)

/-- 56 rows of zeros put below the 72 rows, then the whole transposed: lane `i` holds row `i`. -/
def turned (a : FVec F S72x128 .f32) : FVec F S128x128 .f32 :=
  transpose S128x128 [1, 0]
    (concatenate S128x128 0 [⟨S72x128, a⟩, ⟨S56x128, broadcast S56x128 (Scalar.ofBits .f32 0x00000000#32)⟩]
      concatenates_S72x128_S56x128_S128x128_d0) transposes_S128x128_p1_0_S128x128

/-- The sixteen blocks of 8 rows added up, first to last. -/
def eightSum (t : FVec F S128x128 .f32) : FVec F S8x128 .f32 :=
  addf (addf (addf (addf (addf (addf (addf (addf (addf (addf (addf (addf (addf (addf (addf (extractStridedSlice S8x128 ![0, 0] t slices_S128x128_o0_0_S8x128)
    (extractStridedSlice S8x128 ![8, 0] t slices_S128x128_o8_0_S8x128))
    (extractStridedSlice S8x128 ![16, 0] t slices_S128x128_o16_0_S8x128))
    (extractStridedSlice S8x128 ![24, 0] t slices_S128x128_o24_0_S8x128))
    (extractStridedSlice S8x128 ![32, 0] t slices_S128x128_o32_0_S8x128))
    (extractStridedSlice S8x128 ![40, 0] t slices_S128x128_o40_0_S8x128))
    (extractStridedSlice S8x128 ![48, 0] t slices_S128x128_o48_0_S8x128))
    (extractStridedSlice S8x128 ![56, 0] t slices_S128x128_o56_0_S8x128))
    (extractStridedSlice S8x128 ![64, 0] t slices_S128x128_o64_0_S8x128))
    (extractStridedSlice S8x128 ![72, 0] t slices_S128x128_o72_0_S8x128))
    (extractStridedSlice S8x128 ![80, 0] t slices_S128x128_o80_0_S8x128))
    (extractStridedSlice S8x128 ![88, 0] t slices_S128x128_o88_0_S8x128))
    (extractStridedSlice S8x128 ![96, 0] t slices_S128x128_o96_0_S8x128))
    (extractStridedSlice S8x128 ![104, 0] t slices_S128x128_o104_0_S8x128))
    (extractStridedSlice S8x128 ![112, 0] t slices_S128x128_o112_0_S8x128))
    (extractStridedSlice S8x128 ![120, 0] t slices_S128x128_o120_0_S8x128)

/-- Eight rows added up by halving. -/
def halve (a : FVec F S8x128 .f32) : FVec F S1x128 .f32 :=
  have b : FVec F S4x128 .f32 := addf (extractStridedSlice S4x128 ![0, 0] a slices_S8x128_o0_0_S4x128) (extractStridedSlice S4x128 ![4, 0] a slices_S8x128_o4_0_S4x128)
  have c : FVec F S2x128 .f32 := addf (extractStridedSlice S2x128 ![0, 0] b slices_S4x128_o0_0_S2x128) (extractStridedSlice S2x128 ![2, 0] b slices_S4x128_o2_0_S2x128)
  addf (extractStridedSlice S1x128 ![0, 0] c slices_S2x128_o0_0_S1x128) (extractStridedSlice S1x128 ![1, 0] c slices_S2x128_o1_0_S1x128)

/-- The sums of the 72 rows of `x`, one per lane. -/
def rowSums (x : FVec F S72x1280 .f32) : FVec F S1x128 .f32 := halve (eightSum (turned (laneSum x)))

/-- The row sums of the four beams as the columns of one array. -/
def sumCols (r0 r1 r2 r3 : FVec F S1x128 .f32) : FVec F S128x8 .f32 :=
  transpose S128x8 [1, 0]
    (concatenate S8x128 0 [⟨S1x128, r0⟩, ⟨S1x128, r1⟩, ⟨S1x128, r2⟩, ⟨S1x128, r3⟩, ⟨S4x128, broadcast S4x128 (Scalar.ofBits .f32 0x00000000#32)⟩]
      concatenates_S1x128_S1x128_S1x128_S1x128_S4x128_S8x128_d0) transposes_S8x128_p1_0_S128x8

/-- Beam 0's row means: column 0 of the row sums, its first 72 entries, times the named 1/1280. -/
def mean0 (c : FVec F S128x8 .f32) : FVec F S72x1 .f32 :=
  mulf (extractStridedSlice S72x1 ![0, 0] c slices_S128x8_o0_0_S72x1) (broadcast S72x1 (Named.named κ "inv_d" 0x3A4CCCCD#32))

/-- Beam 1's row means: column 1 of the row sums, its first 72 entries, times the named 1/1280. -/
def mean1 (c : FVec F S128x8 .f32) : FVec F S72x1 .f32 :=
  mulf (extractStridedSlice S72x1 ![0, 1] c slices_S128x8_o0_1_S72x1) (broadcast S72x1 (Named.named κ "inv_d" 0x3A4CCCCD#32))

/-- Beam 2's row means: column 2 of the row sums, its first 72 entries, times the named 1/1280. -/
def mean2 (c : FVec F S128x8 .f32) : FVec F S72x1 .f32 :=
  mulf (extractStridedSlice S72x1 ![0, 2] c slices_S128x8_o0_2_S72x1) (broadcast S72x1 (Named.named κ "inv_d" 0x3A4CCCCD#32))

/-- Beam 3's row means: column 3 of the row sums, its first 72 entries, times the named 1/1280. -/
def mean3 (c : FVec F S128x8 .f32) : FVec F S72x1 .f32 :=
  mulf (extractStridedSlice S72x1 ![0, 3] c slices_S128x8_o0_3_S72x1) (broadcast S72x1 (Named.named κ "inv_d" 0x3A4CCCCD#32))

/-- The rows less their means. -/
def centred (x : FVec F S72x1280 .f32) (mu : FVec F S72x1 .f32) : FVec F S72x1280 .f32 :=
  subf x (broadcastTo S72x1280 mu broadcasts_S72x1_S72x1280)

/-- The normalised rows: the centred rows `d` times the reciprocal root of variance plus epsilon, times the gain, plus the shift. -/
def normed (d : FVec F S72x1280 .f32) (var : FVec F S72x1 .f32) (g b : FVec F S1x1280 .f32) : FVec F S72x1280 .f32 :=
  addf (mulf (mulf d (broadcastTo S72x1280 (rsqrt (addf var (broadcast S72x1 (Scalar.ofBits .f32 0x3727C5AC#32)))) broadcasts_S72x1_S72x1280))
    (broadcastTo S72x1280 g broadcasts_S1x1280_S72x1280)) (broadcastTo S72x1280 b broadcasts_S1x1280_S72x1280)

/-- The exact gelu, by the error function, rounded to bfloat16. -/
def gelu (f : FVec F S72x1280 .f32) : FVec F S72x1280 .bf16 :=
  truncf .bf16 (mulf (mulf (broadcast S72x1280 (Scalar.ofBits .f32 0x3F000000#32)) f)
    (addf (broadcast S72x1280 (Scalar.ofBits .f32 0x3F800000#32))
      (erf (mulf f (broadcast S72x1280 (Scalar.ofBits .f32 0x3F3504F3#32)))))) bitsLt_bf16_f32

/-- A block of 1280 hidden columns: codes times weights, rescaled, gelu. -/
def hidden (q : FVec F S72x1280 .f32) (s : FVec F S72x1 .f32) (w : IVec S1280x1280 8) (cs cb : FVec F S1x1280 .f32) : FVec F S72x1280 .bf16 :=
  gelu (rescale (prod q (sitofp .bf16 w)) s cs cb)

/-- A block of hidden columns in float32. -/
def wide (h : FVec F S72x1280 .bf16) : FVec F S72x1280 .f32 := extf .f32 h bitsLt_bf16_f32

/-- The largest absolute value of each row over the four blocks of hidden columns, from 0 up. -/
def amax4 (h0 h1 h2 h3 : FVec F S72x1280 .bf16) : FVec F S72x1 .f32 :=
  maximumf (maximumf (maximumf (maximumf (broadcast S72x1 (Scalar.ofBits .f32 0x00000000#32)) (amax (wide h0))) (amax (wide h1)))
    (amax (wide h2))) (amax (wide h3))

/-- The second feed-forward product, summed over the four blocks of hidden columns from 0 on. -/
def prod4 (q0 q1 q2 q3 : FVec F S72x1280 .f32) (w0 w1 w2 w3 : IVec S1280x1280 8) : FVec F S72x1280 .f32 :=
  addf (addf (addf (addf (broadcast S72x1280 (Scalar.ofBits .f32 0x00000000#32)) (prod q0 (sitofp .bf16 w0))) (prod q1 (sitofp .bf16 w1)))
    (prod q2 (sitofp .bf16 w2))) (prod q3 (sitofp .bf16 w3))

end Cert.KernelIdeal.Beam

end
-- ==== Proof.Block.lean ====
/-
  THE KERNEL'S BODY AS A WHOLE: what it computes for beam `j` (of 4) and hidden block `n` (of 4) from its six input blocks —
  the attention rows `x0`, the residual rows `x1`, the packed parameter rows `x2`, the three matrices of weights `x3`, `x4`,
  `x5` — composed from the functions of `Proof/Beam.lean`. At any float instance. `Proof/Pieces.lean` shows that the body
  stores these values.
-/
module

public import proofs.«01_k».proof.Proof.Beam
public import Idealize.ShloMosaic.Lib.Pipeline.Value

@[expose] public section

noncomputable section

namespace Cert.KernelIdeal.Block

open Idealize.ShloMosaic Cert.KernelIdeal Cert.KernelIdeal.Gen Cert.KernelIdeal.Beam

variable {F : FTy → Type} [FloatOps F] [Named F]

/-- The 72 rows of one beam. -/
def slab (x : Vec F S4x72x1280 .f32) : Fin 4 → FVec F S72x1280 .f32
  | 0 => shapeCast S72x1280 (View.ld x (Rect.unit ![0, 0, 0] S1x72x1280.size inb_S4x72x1280_S1x72x1280_0_0_0)) shapeCasts_S1x72x1280_S72x1280
  | 1 => shapeCast S72x1280 (View.ld x (Rect.unit ![1, 0, 0] S1x72x1280.size inb_S4x72x1280_S1x72x1280_1_0_0)) shapeCasts_S1x72x1280_S72x1280
  | 2 => shapeCast S72x1280 (View.ld x (Rect.unit ![2, 0, 0] S1x72x1280.size inb_S4x72x1280_S1x72x1280_2_0_0)) shapeCasts_S1x72x1280_S72x1280
  | 3 => shapeCast S72x1280 (View.ld x (Rect.unit ![3, 0, 0] S1x72x1280.size inb_S4x72x1280_S1x72x1280_3_0_0)) shapeCasts_S1x72x1280_S72x1280

/-- Column block `n` of the first feed-forward matrix. -/
def fc1 (x : IVec S1280x5120 8) : Fin 4 → IVec S1280x1280 8
  | 0 => View.ld (Val := Elt F) (e' := .i8) x (Rect.unit ![0, 0] S1280x1280.size inb_S1280x5120_S1280x1280_0_0)
  | 1 => View.ld (Val := Elt F) (e' := .i8) x (Rect.unit ![0, 1280] S1280x1280.size inb_S1280x5120_S1280x1280_0_1280)
  | 2 => View.ld (Val := Elt F) (e' := .i8) x (Rect.unit ![0, 2560] S1280x1280.size inb_S1280x5120_S1280x1280_0_2560)
  | 3 => View.ld (Val := Elt F) (e' := .i8) x (Rect.unit ![0, 3840] S1280x1280.size inb_S1280x5120_S1280x1280_0_3840)

/-- Row block `n` of the second feed-forward matrix. -/
def fc2 (x : IVec S5120x1280 8) : Fin 4 → IVec S1280x1280 8
  | 0 => View.ld (Val := Elt F) (e' := .i8) x (Rect.unit ![0, 0] S1280x1280.size inb_S5120x1280_S1280x1280_0_0)
  | 1 => View.ld (Val := Elt F) (e' := .i8) x (Rect.unit ![1280, 0] S1280x1280.size inb_S5120x1280_S1280x1280_1280_0)
  | 2 => View.ld (Val := Elt F) (e' := .i8) x (Rect.unit ![2560, 0] S1280x1280.size inb_S5120x1280_S1280x1280_2560_0)
  | 3 => View.ld (Val := Elt F) (e' := .i8) x (Rect.unit ![3840, 0] S1280x1280.size inb_S5120x1280_S1280x1280_3840_0)

/-- The parameter row with the scales of column block `n` of the first feed-forward matrix. -/
def fc1Scale (x : FVec F S32x1280 .f32) : Fin 4 → FVec F S1x1280 .f32
  | 0 => extractStridedSlice S1x1280 ![19, 0] x slices_S32x1280_o19_0_S1x1280
  | 1 => extractStridedSlice S1x1280 ![20, 0] x slices_S32x1280_o20_0_S1x1280
  | 2 => extractStridedSlice S1x1280 ![21, 0] x slices_S32x1280_o21_0_S1x1280
  | 3 => extractStridedSlice S1x1280 ![22, 0] x slices_S32x1280_o22_0_S1x1280

/-- The parameter row with the biases of column block `n` of the first feed-forward matrix. -/
def fc1Bias (x : FVec F S32x1280 .f32) : Fin 4 → FVec F S1x1280 .f32
  | 0 => extractStridedSlice S1x1280 ![23, 0] x slices_S32x1280_o23_0_S1x1280
  | 1 => extractStridedSlice S1x1280 ![24, 0] x slices_S32x1280_o24_0_S1x1280
  | 2 => extractStridedSlice S1x1280 ![25, 0] x slices_S32x1280_o25_0_S1x1280
  | 3 => extractStridedSlice S1x1280 ![26, 0] x slices_S32x1280_o26_0_S1x1280

/-- The row means of beam `j`. -/
def meanOf (c : FVec F S128x8 .f32) : Fin 4 → FVec F S72x1 .f32
  | 0 => mean0 c
  | 1 => mean1 c
  | 2 => mean2 c
  | 3 => mean3 c

variable (x0 x1 : Vec F S4x72x1280 .f32) (x2 : FVec F S32x1280 .f32) (x3 : IVec S20x64x1280 8) (x4 : IVec S1280x5120 8) (x5 : IVec S5120x1280 8)

/-- The attention rows' scales. -/
def s1 (j : Fin 4) : FVec F S72x1 .f32 := scaleOf (amax (slab x0 j))

/-- The attention rows' codes. -/
def q1 (j : Fin 4) : FVec F S72x1280 .f32 := codes (slab x0 j) (s1 x0 j)

/-- The attention output's weights. -/
def wco : FVec F S1280x1280 .bf16 := sitofp .bf16 (shapeCast S1280x1280 x3 shapeCasts_S20x64x1280_S1280x1280)

/-- The residual rows after the attention output's projection. -/
def h2 (j : Fin 4) : FVec F S72x1280 .f32 :=
  addf (slab x1 j) (rescale (prod (q1 x0 j) (wco x3)) (s1 x0 j) (extractStridedSlice S1x1280 ![15, 0] x2 slices_S32x1280_o15_0_S1x1280)
    (extractStridedSlice S1x1280 ![16, 0] x2 slices_S32x1280_o16_0_S1x1280))

/-- The row sums of the four beams. -/
def sums : FVec F S128x8 .f32 :=
  sumCols (rowSums (h2 x0 x1 x2 x3 0)) (rowSums (h2 x0 x1 x2 x3 1)) (rowSums (h2 x0 x1 x2 x3 2)) (rowSums (h2 x0 x1 x2 x3 3))

/-- The rows less their means. -/
def dev (j : Fin 4) : FVec F S72x1280 .f32 := centred (h2 x0 x1 x2 x3 j) (meanOf (sums x0 x1 x2 x3) j)

/-- Their squares. -/
def sq (j : Fin 4) : FVec F S72x1280 .f32 := mulf (dev x0 x1 x2 x3 j) (dev x0 x1 x2 x3 j)

/-- The squares' row sums of the four beams. -/
def sqSums : FVec F S128x8 .f32 :=
  sumCols (rowSums (sq x0 x1 x2 x3 0)) (rowSums (sq x0 x1 x2 x3 1)) (rowSums (sq x0 x1 x2 x3 2)) (rowSums (sq x0 x1 x2 x3 3))

/-- The normalised rows. -/
def ln (j : Fin 4) : FVec F S72x1280 .f32 :=
  normed (dev x0 x1 x2 x3 j) (meanOf (sqSums x0 x1 x2 x3) j) (extractStridedSlice S1x1280 ![9, 0] x2 slices_S32x1280_o9_0_S1x1280)
    (extractStridedSlice S1x1280 ![10, 0] x2 slices_S32x1280_o10_0_S1x1280)

/-- Their scales. -/
def s3 (j : Fin 4) : FVec F S72x1 .f32 := scaleOf (amax (ln x0 x1 x2 x3 j))

/-- Their codes. -/
def q3 (j : Fin 4) : FVec F S72x1280 .f32 := codes (ln x0 x1 x2 x3 j) (s3 x0 x1 x2 x3 j)

/-- Block `n` of the hidden columns. -/
def hid (j n : Fin 4) : FVec F S72x1280 .bf16 :=
  Beam.hidden (q3 x0 x1 x2 x3 j) (s3 x0 x1 x2 x3 j) (fc1 (F := F) x4 n) (fc1Scale x2 n) (fc1Bias x2 n)

/-- The hidden rows' scales. -/
def s4 (j : Fin 4) : FVec F S72x1 .f32 :=
  scaleOf (amax4 (hid x0 x1 x2 x3 x4 j 0) (hid x0 x1 x2 x3 x4 j 1) (hid x0 x1 x2 x3 x4 j 2) (hid x0 x1 x2 x3 x4 j 3))

/-- The codes of block `n` of the hidden columns. -/
def q4 (j n : Fin 4) : FVec F S72x1280 .f32 := codes (wide (hid x0 x1 x2 x3 x4 j n)) (s4 x0 x1 x2 x3 x4 j)

/-- The residual rows after the feed-forward part: the layer's output. -/
def out (j : Fin 4) : FVec F S72x1280 .bf16 :=
  truncf .bf16 (addf (h2 x0 x1 x2 x3 j)
    (rescale (prod4 (q4 x0 x1 x2 x3 x4 j 0) (q4 x0 x1 x2 x3 x4 j 1) (q4 x0 x1 x2 x3 x4 j 2) (q4 x0 x1 x2 x3 x4 j 3)
        (fc2 (F := F) x5 0) (fc2 (F := F) x5 1) (fc2 (F := F) x5 2) (fc2 (F := F) x5 3)) (s4 x0 x1 x2 x3 x4 j)
      (extractStridedSlice S1x1280 ![17, 0] x2 slices_S32x1280_o17_0_S1x1280)
      (extractStridedSlice S1x1280 ![18, 0] x2 slices_S32x1280_o18_0_S1x1280))) bitsLt_bf16_f32

end Cert.KernelIdeal.Block

end
-- ==== Proof.Pieces.lean ====
/-
  WHAT THE BODY STORES: each piece the kernel's body stores is, for its beam and block of columns, the function of
  `Proof/Block.lean` of the input blocks. The run of the body names its intermediate values; a `w_…` theorem below reads one
  of them, from those read before it, and `pieces6` to `pieces14` read the stores of the nine outputs.
-/
module

public import proofs.«01_k».proof.Proof.Gen.KernelIdeal.Frame
public import proofs.«01_k».proof.Proof.Block

@[expose] public section

set_option maxRecDepth 16384

noncomputable section

namespace Cert.KernelIdeal.Pieces

open Idealize.ShloMosaic Idealize.ShloMosaic.TcCoe Idealize.SL.Sem Cert.KernelIdeal Cert.KernelIdeal.Gen Cert.KernelIdeal.Beam

variable {F : FTy → Type} [FloatOps F] [Named F]

theorem hz2 : (![0, 0] : Fin 2 → Nat) = fun _ => 0 := by funext a; fin_cases a <;> rfl
theorem hz3 : (![0, 0, 0] : Fin 3 → Nat) = fun _ => 0 := by funext a; fin_cases a <;> rfl

/-- A load of one block of 1280 columns of the scratch passes over a store into another. -/
theorem skip (v : View sig .tc .vmem S72x5120 .f32) (a b : Nat) {ha : ∀ i, (![0, a] : Fin 2 → Nat) i + S72x1280.size i ≤ S72x5120.size i}
    {hb : ∀ i, (![0, b] : Fin 2 → Nat) i + S72x1280.size i ≤ S72x5120.size i} (w : Vec F S72x1280 .f32) (L : List (View.Piece (Elt F) S72x5120 .f32))
    (h : a + 1280 ≤ b ∨ b + 1280 ≤ a) :
    v.readCov (⟨Rect.unit (s := S72x5120) ![0, a] S72x1280.size ha, w⟩ :: L) (Rect.unit (s := S72x5120) ![0, b] S72x1280.size hb).toLoadRect
      = v.readCov L (Rect.unit (s := S72x5120) ![0, b] S72x1280.size hb).toLoadRect :=
  View.readCov_cons_of_disjoint _ _ _ _ (Rect.unit_disjoint (s := S72x5120) (inb := ha) (inb' := hb) (1 : Fin 2) h)

variable (c : Dev nD) (arg0 : Memref sig .tc .vmem S4x72x1280 .f32) (harg0 : arg0.IsWhole) (arg1 : Memref sig .tc .vmem S4x72x1280 .f32) (harg1 : arg1.IsWhole) (arg2 : Memref sig .tc .vmem S32x1280 .f32) (harg2 : arg2.IsWhole) (arg3 : Memref sig .tc .vmem S20x64x1280 .i8) (harg3 : arg3.IsWhole) (arg4 : Memref sig .tc .vmem S1280x5120 .i8) (harg4 : arg4.IsWhole) (arg5 : Memref sig .tc .vmem S5120x1280 .i8) (harg5 : arg5.IsWhole) (arg6 : Memref sig .tc .vmem S4x72x1280 .i8) (harg6 : arg6.IsWhole) (arg7 : Memref sig .tc .vmem S4x128 .f32) (harg7 : arg7.IsWhole) (arg8 : Memref sig .tc .vmem S4x72x1280 .f32) (harg8 : arg8.IsWhole) (arg9 : Memref sig .tc .vmem S4x72x1280 .i8) (harg9 : arg9.IsWhole) (arg10 : Memref sig .tc .vmem S4x128 .f32) (harg10 : arg10.IsWhole) (arg11 : Memref sig .tc .vmem S4x72x5120 .bf16) (harg11 : arg11.IsWhole) (arg12 : Memref sig .tc .vmem S4x72x5120 .i8) (harg12 : arg12.IsWhole) (arg13 : Memref sig .tc .vmem S4x128 .f32) (harg13 : arg13.IsWhole) (arg14 : Memref sig .tc .vmem S4x72x1280 .bf16) (harg14 : arg14.IsWhole) (arg15 : Memref sig .tc .vmem S72x5120 .f32) (harg15 : arg15.IsWhole)
  (x0 : Vec F S4x72x1280 .f32) (x1 : Vec F S4x72x1280 .f32) (x2 : Vec F S32x1280 .f32) (x3 : Vec F S20x64x1280 .i8) (x4 : Vec F S1280x5120 .i8) (x5 : Vec F S5120x1280 .i8)

theorem w_r : (kernelRun0_A.sl.r c arg2 harg2 x2) = x2 := by
  simp only [kernelRun0_A.sl.r, harg2.read_unread, View.readAt_eq_ld, View.ld_unit_zero (S := S32x1280) hz2, View.ld_unit_zero (S := S20x64x1280) hz3, shapeCast_self]
  exact shapeCast_self _ _

theorem w_r_1 : (kernelRun0_A.sl.r_1 c arg3 harg3 x3) = Block.wco x3 := by
  simp only [kernelRun0_A.sl.r_1, harg3.read_unread, View.readAt_eq_ld, View.ld_unit_zero (S := S32x1280) hz2, View.ld_unit_zero (S := S20x64x1280) hz3, shapeCast_self]
  rfl

theorem w_r_2 : (kernelRun0_A.sl.r_2 c arg0 harg0 x0) = Block.s1 x0 0 := by
  simp only [kernelRun0_A.sl.r_2, harg0.read_unread, View.readAt_eq_ld, View.ld_unit_zero (S := S32x1280) hz2, View.ld_unit_zero (S := S20x64x1280) hz3, shapeCast_self]
  rfl

theorem w_r_3 : (kernelRun0_A.sl.r_3 c arg0 harg0 x0) = colRow (Block.s1 x0 0) := by
  simp only [kernelRun0_A.sl.r_3, harg0.read_unread, View.readAt_eq_ld, View.ld_unit_zero (S := S32x1280) hz2, View.ld_unit_zero (S := S20x64x1280) hz3, shapeCast_self]
  rfl

theorem w_r_4 : (kernelRun0_A.sl.r_4 c arg0 harg0 arg3 harg3 x0 x3) = prod (Block.q1 x0 0) (Block.wco x3) := by
  simp only [kernelRun0_A.sl.r_4, harg0.read_unread, harg3.read_unread, View.readAt_eq_ld, View.ld_unit_zero (S := S32x1280) hz2, View.ld_unit_zero (S := S20x64x1280) hz3, shapeCast_self]
  rfl

theorem w_r_5 : (kernelRun0_A.sl.r_5 c arg1 harg1 x1) = Block.slab x1 0 := by
  simp only [kernelRun0_A.sl.r_5, harg1.read_unread, View.readAt_eq_ld, View.ld_unit_zero (S := S32x1280) hz2, View.ld_unit_zero (S := S20x64x1280) hz3, shapeCast_self]
  rfl

theorem w_r_6 : (kernelRun0_A.sl.r_6 c arg0 harg0 arg1 harg1 arg2 harg2 arg3 harg3 x0 x1 x2 x3) = Block.h2 x0 x1 x2 x3 0 := by
  simp only [kernelRun0_A.sl.r_6, w_r, w_r_2, w_r_4, w_r_5, harg0.read_unread, harg1.read_unread, harg2.read_unread, harg3.read_unread, View.readAt_eq_ld, View.ld_unit_zero (S := S32x1280) hz2, View.ld_unit_zero (S := S20x64x1280) hz3, shapeCast_self]
  rfl

theorem w_r_7 : (kernelRun0_A.sl.r_7 c arg0 harg0 x0) = Block.s1 x0 1 := by
  simp only [kernelRun0_A.sl.r_7, harg0.read_unread, View.readAt_eq_ld, View.ld_unit_zero (S := S32x1280) hz2, View.ld_unit_zero (S := S20x64x1280) hz3, shapeCast_self]
  rfl

theorem w_r_8 : (kernelRun0_A.sl.r_8 c arg0 harg0 x0) = colRow (Block.s1 x0 1) := by
  simp only [kernelRun0_A.sl.r_8, harg0.read_unread, View.readAt_eq_ld, View.ld_unit_zero (S := S32x1280) hz2, View.ld_unit_zero (S := S20x64x1280) hz3, shapeCast_self]
  rfl

theorem w_r_10 : (kernelRun0_A.sl.r_10 c arg0 harg0 arg1 harg1 arg2 harg2 arg3 harg3 x0 x1 x2 x3) = Block.h2 x0 x1 x2 x3 1 := by
  simp only [kernelRun0_A.sl.r_10, kernelRun0_A.sl.cst_35, kernelRun0_A.sl.r_9, w_r, w_r_1, w_r_7, harg0.read_unread, harg1.read_unread, harg2.read_unread, harg3.read_unread, View.readAt_eq_ld, View.ld_unit_zero (S := S32x1280) hz2, View.ld_unit_zero (S := S20x64x1280) hz3, shapeCast_self]
  rfl

theorem w_r_11 : (kernelRun0_A.sl.r_11 c arg0 harg0 x0) = Block.s1 x0 2 := by
  simp only [kernelRun0_A.sl.r_11, harg0.read_unread, View.readAt_eq_ld, View.ld_unit_zero (S := S32x1280) hz2, View.ld_unit_zero (S := S20x64x1280) hz3, shapeCast_self]
  rfl

theorem w_r_14 : (kernelRun0_A.sl.r_14 c arg0 harg0 x0) = colRow (Block.s1 x0 2) := by
  simp only [kernelRun0_A.sl.r_14, kernelRun0_A.sl.cst_53, kernelRun0_A.sl.r_13, harg0.read_unread, View.readAt_eq_ld, View.ld_unit_zero (S := S32x1280) hz2, View.ld_unit_zero (S := S20x64x1280) hz3, shapeCast_self]
  rfl

theorem w_r_15 : (kernelRun0_A.sl.r_15 c arg0 harg0 arg1 harg1 arg2 harg2 arg3 harg3 x0 x1 x2 x3) = Block.h2 x0 x1 x2 x3 2 := by
  simp only [kernelRun0_A.sl.r_15, kernelRun0_A.sl.r_12, w_r, w_r_1, w_r_11, harg0.read_unread, harg1.read_unread, harg2.read_unread, harg3.read_unread, View.readAt_eq_ld, View.ld_unit_zero (S := S32x1280) hz2, View.ld_unit_zero (S := S20x64x1280) hz3, shapeCast_self]
  rfl

theorem w_r_16 : (kernelRun0_A.sl.r_16 c arg0 harg0 x0) = Block.s1 x0 3 := by
  simp only [kernelRun0_A.sl.r_16, harg0.read_unread, View.readAt_eq_ld, View.ld_unit_zero (S := S32x1280) hz2, View.ld_unit_zero (S := S20x64x1280) hz3, shapeCast_self]
  rfl

theorem w_r_19 : (kernelRun0_A.sl.r_19 c arg0 harg0 x0) = colRow (Block.s1 x0 3) := by
  simp only [kernelRun0_A.sl.r_19, w_r_16, harg0.read_unread, View.readAt_eq_ld, View.ld_unit_zero (S := S32x1280) hz2, View.ld_unit_zero (S := S20x64x1280) hz3, shapeCast_self]
  rfl

theorem w_r_20 : (kernelRun0_A.sl.r_20 c arg0 harg0 arg1 harg1 arg2 harg2 arg3 harg3 x0 x1 x2 x3) = Block.h2 x0 x1 x2 x3 3 := by
  simp only [kernelRun0_A.sl.r_20, kernelRun0_A.sl.r_17, w_r, w_r_1, w_r_16, harg0.read_unread, harg1.read_unread, harg2.read_unread, harg3.read_unread, View.readAt_eq_ld, View.ld_unit_zero (S := S32x1280) hz2, View.ld_unit_zero (S := S20x64x1280) hz3, shapeCast_self]
  rfl

theorem w_r_21 : (kernelRun0_A.sl.r_21 c arg2 harg2 x2) = extractStridedSlice S1x1280 ![9, 0] x2 slices_S32x1280_o9_0_S1x1280 := by
  simp only [kernelRun0_A.sl.r_21, w_r, harg2.read_unread, View.readAt_eq_ld, View.ld_unit_zero (S := S32x1280) hz2, View.ld_unit_zero (S := S20x64x1280) hz3, shapeCast_self]
  rfl

theorem w_r_22 : (kernelRun0_A.sl.r_22 c arg2 harg2 x2) = extractStridedSlice S1x1280 ![10, 0] x2 slices_S32x1280_o10_0_S1x1280 := by
  simp only [kernelRun0_A.sl.r_22, w_r, harg2.read_unread, View.readAt_eq_ld, View.ld_unit_zero (S := S32x1280) hz2, View.ld_unit_zero (S := S20x64x1280) hz3, shapeCast_self]
  rfl

theorem w_r_25 : (kernelRun0_A.sl.r_25 c arg0 harg0 arg1 harg1 arg2 harg2 arg3 harg3 x0 x1 x2 x3) = rowSums (Block.h2 x0 x1 x2 x3 0) := by
  simp only [kernelRun0_A.sl.r_25, kernelRun0_A.sl.r_23, kernelRun0_A.sl.r_24, w_r_6, harg0.read_unread, harg1.read_unread, harg2.read_unread, harg3.read_unread, View.readAt_eq_ld, View.ld_unit_zero (S := S32x1280) hz2, View.ld_unit_zero (S := S20x64x1280) hz3, shapeCast_self]
  rfl

theorem w_r_27 : (kernelRun0_A.sl.r_27 c arg0 harg0 arg1 harg1 arg2 harg2 arg3 harg3 x0 x1 x2 x3) = rowSums (Block.h2 x0 x1 x2 x3 1) := by
  simp only [kernelRun0_A.sl.r_27, kernelRun0_A.sl.r_26, w_r_10, harg0.read_unread, harg1.read_unread, harg2.read_unread, harg3.read_unread, View.readAt_eq_ld, View.ld_unit_zero (S := S32x1280) hz2, View.ld_unit_zero (S := S20x64x1280) hz3, shapeCast_self]
  rfl

theorem w_r_30 : (kernelRun0_A.sl.r_30 c arg0 harg0 arg1 harg1 arg2 harg2 arg3 harg3 x0 x1 x2 x3) = rowSums (Block.h2 x0 x1 x2 x3 2) := by
  simp only [kernelRun0_A.sl.r_30, kernelRun0_A.sl.r_28, kernelRun0_A.sl.r_29, w_r_15, harg0.read_unread, harg1.read_unread, harg2.read_unread, harg3.read_unread, View.readAt_eq_ld, View.ld_unit_zero (S := S32x1280) hz2, View.ld_unit_zero (S := S20x64x1280) hz3, shapeCast_self]
  rfl

theorem w_r_32 : (kernelRun0_A.sl.r_32 c arg0 harg0 arg1 harg1 arg2 harg2 arg3 harg3 x0 x1 x2 x3) = Block.sums x0 x1 x2 x3 := by
  simp only [kernelRun0_A.sl.r_32, kernelRun0_A.sl.r_31, w_r_20, w_r_25, w_r_27, w_r_30, harg0.read_unread, harg1.read_unread, harg2.read_unread, harg3.read_unread, View.readAt_eq_ld, View.ld_unit_zero (S := S32x1280) hz2, View.ld_unit_zero (S := S20x64x1280) hz3, shapeCast_self]
  rfl

theorem w_r_33 : (kernelRun0_A.sl.r_33 c arg0 harg0 arg1 harg1 arg2 harg2 arg3 harg3 x0 x1 x2 x3) = mean0 (Block.sums x0 x1 x2 x3) := by
  simp only [kernelRun0_A.sl.r_33, kernelRun0_A.sl.r_31, w_r_20, w_r_25, w_r_27, w_r_30, harg0.read_unread, harg1.read_unread, harg2.read_unread, harg3.read_unread, View.readAt_eq_ld, View.ld_unit_zero (S := S32x1280) hz2, View.ld_unit_zero (S := S20x64x1280) hz3, shapeCast_self]
  rfl

theorem w_r_34 : (kernelRun0_A.sl.r_34 c arg0 harg0 arg1 harg1 arg2 harg2 arg3 harg3 x0 x1 x2 x3) = mean1 (Block.sums x0 x1 x2 x3) := by
  simp only [kernelRun0_A.sl.r_34, kernelRun0_A.sl.r_31, w_r_20, w_r_25, w_r_27, w_r_30, harg0.read_unread, harg1.read_unread, harg2.read_unread, harg3.read_unread, View.readAt_eq_ld, View.ld_unit_zero (S := S32x1280) hz2, View.ld_unit_zero (S := S20x64x1280) hz3, shapeCast_self]
  rfl

theorem w_r_35 : (kernelRun0_A.sl.r_35 c arg0 harg0 arg1 harg1 arg2 harg2 arg3 harg3 x0 x1 x2 x3) = Block.dev x0 x1 x2 x3 0 := by
  simp only [kernelRun0_A.sl.r_35, w_r_33, w_r_6, harg0.read_unread, harg1.read_unread, harg2.read_unread, harg3.read_unread, View.readAt_eq_ld, View.ld_unit_zero (S := S32x1280) hz2, View.ld_unit_zero (S := S20x64x1280) hz3, shapeCast_self]
  rfl

theorem w_r_36 : (kernelRun0_A.sl.r_36 c arg0 harg0 arg1 harg1 arg2 harg2 arg3 harg3 x0 x1 x2 x3) = Block.dev x0 x1 x2 x3 1 := by
  simp only [kernelRun0_A.sl.r_36, w_r_10, w_r_34, harg0.read_unread, harg1.read_unread, harg2.read_unread, harg3.read_unread, View.readAt_eq_ld, View.ld_unit_zero (S := S32x1280) hz2, View.ld_unit_zero (S := S20x64x1280) hz3, shapeCast_self]
  rfl

theorem w_r_37 : (kernelRun0_A.sl.r_37 c arg0 harg0 arg1 harg1 arg2 harg2 arg3 harg3 x0 x1 x2 x3) = Block.dev x0 x1 x2 x3 2 := by
  simp only [kernelRun0_A.sl.r_37, w_r_15, w_r_32, harg0.read_unread, harg1.read_unread, harg2.read_unread, harg3.read_unread, View.readAt_eq_ld, View.ld_unit_zero (S := S32x1280) hz2, View.ld_unit_zero (S := S20x64x1280) hz3, shapeCast_self]
  rfl

theorem w_r_38 : (kernelRun0_A.sl.r_38 c arg0 harg0 arg1 harg1 arg2 harg2 arg3 harg3 x0 x1 x2 x3) = Block.dev x0 x1 x2 x3 3 := by
  simp only [kernelRun0_A.sl.r_38, w_r_20, w_r_32, harg0.read_unread, harg1.read_unread, harg2.read_unread, harg3.read_unread, View.readAt_eq_ld, View.ld_unit_zero (S := S32x1280) hz2, View.ld_unit_zero (S := S20x64x1280) hz3, shapeCast_self]
  rfl

theorem w_r_39 : (kernelRun0_A.sl.r_39 c arg0 harg0 arg1 harg1 arg2 harg2 arg3 harg3 x0 x1 x2 x3) = Block.sq x0 x1 x2 x3 1 := by
  simp only [kernelRun0_A.sl.r_39, w_r_10, w_r_34, harg0.read_unread, harg1.read_unread, harg2.read_unread, harg3.read_unread, View.readAt_eq_ld, View.ld_unit_zero (S := S32x1280) hz2, View.ld_unit_zero (S := S20x64x1280) hz3, shapeCast_self]
  rfl

theorem w_r_40 : (kernelRun0_A.sl.r_40 c arg0 harg0 arg1 harg1 arg2 harg2 arg3 harg3 x0 x1 x2 x3) = Block.sq x0 x1 x2 x3 2 := by
  simp only [kernelRun0_A.sl.r_40, w_r_15, w_r_32, harg0.read_unread, harg1.read_unread, harg2.read_unread, harg3.read_unread, View.readAt_eq_ld, View.ld_unit_zero (S := S32x1280) hz2, View.ld_unit_zero (S := S20x64x1280) hz3, shapeCast_self]
  rfl

theorem w_r_41 : (kernelRun0_A.sl.r_41 c arg0 harg0 arg1 harg1 arg2 harg2 arg3 harg3 x0 x1 x2 x3) = Block.sq x0 x1 x2 x3 3 := by
  simp only [kernelRun0_A.sl.r_41, w_r_20, w_r_32, harg0.read_unread, harg1.read_unread, harg2.read_unread, harg3.read_unread, View.readAt_eq_ld, View.ld_unit_zero (S := S32x1280) hz2, View.ld_unit_zero (S := S20x64x1280) hz3, shapeCast_self]
  rfl

theorem w_r_44 : (kernelRun0_A.sl.r_44 c arg0 harg0 arg1 harg1 arg2 harg2 arg3 harg3 x0 x1 x2 x3) = rowSums (Block.sq x0 x1 x2 x3 0) := by
  simp only [kernelRun0_A.sl.r_44, kernelRun0_A.sl.r_42, kernelRun0_A.sl.r_43, w_r_33, w_r_6, harg0.read_unread, harg1.read_unread, harg2.read_unread, harg3.read_unread, View.readAt_eq_ld, View.ld_unit_zero (S := S32x1280) hz2, View.ld_unit_zero (S := S20x64x1280) hz3, shapeCast_self]
  rfl

theorem w_r_48 : (kernelRun0_A.sl.r_48 c arg0 harg0 arg1 harg1 arg2 harg2 arg3 harg3 x0 x1 x2 x3) = rowSums (Block.sq x0 x1 x2 x3 1) := by
  simp only [kernelRun0_A.sl.r_48, kernelRun0_A.sl.r_45, kernelRun0_A.sl.r_46, kernelRun0_A.sl.r_47, w_r_39, harg0.read_unread, harg1.read_unread, harg2.read_unread, harg3.read_unread, View.readAt_eq_ld, View.ld_unit_zero (S := S32x1280) hz2, View.ld_unit_zero (S := S20x64x1280) hz3, shapeCast_self]
  rfl

theorem w_r_51 : (kernelRun0_A.sl.r_51 c arg0 harg0 arg1 harg1 arg2 harg2 arg3 harg3 x0 x1 x2 x3) = rowSums (Block.sq x0 x1 x2 x3 2) := by
  simp only [kernelRun0_A.sl.r_51, kernelRun0_A.sl.r_49, kernelRun0_A.sl.r_50, w_r_40, harg0.read_unread, harg1.read_unread, harg2.read_unread, harg3.read_unread, View.readAt_eq_ld, View.ld_unit_zero (S := S32x1280) hz2, View.ld_unit_zero (S := S20x64x1280) hz3, shapeCast_self]
  rfl

theorem w_r_55 : (kernelRun0_A.sl.r_55 c arg0 harg0 arg1 harg1 arg2 harg2 arg3 harg3 x0 x1 x2 x3) = mean2 (Block.sqSums x0 x1 x2 x3) := by
  simp only [kernelRun0_A.sl.r_55, kernelRun0_A.sl.r_52, kernelRun0_A.sl.r_53, kernelRun0_A.sl.r_54, w_r_41, w_r_44, w_r_48, w_r_51, harg0.read_unread, harg1.read_unread, harg2.read_unread, harg3.read_unread, View.readAt_eq_ld, View.ld_unit_zero (S := S32x1280) hz2, View.ld_unit_zero (S := S20x64x1280) hz3, shapeCast_self]
  rfl

theorem w_r_56 : (kernelRun0_A.sl.r_56 c arg0 harg0 arg1 harg1 arg2 harg2 arg3 harg3 x0 x1 x2 x3) = mean3 (Block.sqSums x0 x1 x2 x3) := by
  simp only [kernelRun0_A.sl.r_56, kernelRun0_A.sl.r_52, kernelRun0_A.sl.r_53, kernelRun0_A.sl.r_54, w_r_41, w_r_44, w_r_48, w_r_51, harg0.read_unread, harg1.read_unread, harg2.read_unread, harg3.read_unread, View.readAt_eq_ld, View.ld_unit_zero (S := S32x1280) hz2, View.ld_unit_zero (S := S20x64x1280) hz3, shapeCast_self]
  rfl

theorem w_r_57 : (kernelRun0_A.sl.r_57 c arg0 harg0 arg1 harg1 arg2 harg2 arg3 harg3 x0 x1 x2 x3) = rsqrt (addf (mean0 (Block.sqSums x0 x1 x2 x3)) (broadcast S72x1 (Scalar.ofBits .f32 0x3727C5AC#32))) := by
  simp only [kernelRun0_A.sl.r_57, kernelRun0_A.sl.r_52, kernelRun0_A.sl.r_53, kernelRun0_A.sl.r_54, w_r_41, w_r_44, w_r_48, w_r_51, harg0.read_unread, harg1.read_unread, harg2.read_unread, harg3.read_unread, View.readAt_eq_ld, View.ld_unit_zero (S := S32x1280) hz2, View.ld_unit_zero (S := S20x64x1280) hz3, shapeCast_self]
  rfl

theorem w_r_58 : (kernelRun0_A.sl.r_58 c arg0 harg0 arg1 harg1 arg2 harg2 arg3 harg3 x0 x1 x2 x3) = rsqrt (addf (mean1 (Block.sqSums x0 x1 x2 x3)) (broadcast S72x1 (Scalar.ofBits .f32 0x3727C5AC#32))) := by
  simp only [kernelRun0_A.sl.r_58, kernelRun0_A.sl.r_52, kernelRun0_A.sl.r_53, kernelRun0_A.sl.r_54, w_r_41, w_r_44, w_r_48, w_r_51, harg0.read_unread, harg1.read_unread, harg2.read_unread, harg3.read_unread, View.readAt_eq_ld, View.ld_unit_zero (S := S32x1280) hz2, View.ld_unit_zero (S := S20x64x1280) hz3, shapeCast_self]
  rfl

theorem w_r_59 : (kernelRun0_A.sl.r_59 c arg0 harg0 arg1 harg1 arg2 harg2 arg3 harg3 x0 x1 x2 x3) = Block.ln x0 x1 x2 x3 1 := by
  simp only [kernelRun0_A.sl.r_59, w_r_21, w_r_22, w_r_36, w_r_58, harg0.read_unread, harg1.read_unread, harg2.read_unread, harg3.read_unread, View.readAt_eq_ld, View.ld_unit_zero (S := S32x1280) hz2, View.ld_unit_zero (S := S20x64x1280) hz3, shapeCast_self]
  rfl

theorem w_r_60 : (kernelRun0_A.sl.r_60 c arg0 harg0 arg1 harg1 arg2 harg2 arg3 harg3 x0 x1 x2 x3) = Block.ln x0 x1 x2 x3 2 := by
  simp only [kernelRun0_A.sl.r_60, w_r_21, w_r_22, w_r_37, w_r_55, harg0.read_unread, harg1.read_unread, harg2.read_unread, harg3.read_unread, View.readAt_eq_ld, View.ld_unit_zero (S := S32x1280) hz2, View.ld_unit_zero (S := S20x64x1280) hz3, shapeCast_self]
  rfl

theorem w_r_61 : (kernelRun0_A.sl.r_61 c arg0 harg0 arg1 harg1 arg2 harg2 arg3 harg3 x0 x1 x2 x3) = Block.ln x0 x1 x2 x3 3 := by
  simp only [kernelRun0_A.sl.r_61, w_r_21, w_r_22, w_r_38, w_r_56, harg0.read_unread, harg1.read_unread, harg2.read_unread, harg3.read_unread, View.readAt_eq_ld, View.ld_unit_zero (S := S32x1280) hz2, View.ld_unit_zero (S := S20x64x1280) hz3, shapeCast_self]
  rfl

theorem w_r_62 : (kernelRun0_A.sl.r_62 c arg0 harg0 arg1 harg1 arg2 harg2 arg3 harg3 x0 x1 x2 x3) = Block.s3 x0 x1 x2 x3 0 := by
  simp only [kernelRun0_A.sl.r_62, w_r_21, w_r_22, w_r_35, w_r_57, harg0.read_unread, harg1.read_unread, harg2.read_unread, harg3.read_unread, View.readAt_eq_ld, View.ld_unit_zero (S := S32x1280) hz2, View.ld_unit_zero (S := S20x64x1280) hz3, shapeCast_self]
  rfl

theorem w_r_63 : (kernelRun0_A.sl.r_63 c arg0 harg0 arg1 harg1 arg2 harg2 arg3 harg3 x0 x1 x2 x3) = Block.q3 x0 x1 x2 x3 0 := by
  simp only [kernelRun0_A.sl.r_63, w_r_21, w_r_22, w_r_35, w_r_57, harg0.read_unread, harg1.read_unread, harg2.read_unread, harg3.read_unread, View.readAt_eq_ld, View.ld_unit_zero (S := S32x1280) hz2, View.ld_unit_zero (S := S20x64x1280) hz3, shapeCast_self]
  rfl

theorem w_r_65 : (kernelRun0_A.sl.r_65 c arg0 harg0 arg1 harg1 arg2 harg2 arg3 harg3 x0 x1 x2 x3) = colRow (Block.s3 x0 x1 x2 x3 0) := by
  simp only [kernelRun0_A.sl.r_65, w_r_62, harg0.read_unread, harg1.read_unread, harg2.read_unread, harg3.read_unread, View.readAt_eq_ld, View.ld_unit_zero (S := S32x1280) hz2, View.ld_unit_zero (S := S20x64x1280) hz3, shapeCast_self]
  rfl

theorem w_r_79 : (kernelRun0_A.sl.r_79 c arg0 harg0 arg1 harg1 arg2 harg2 arg3 harg3 x0 x1 x2 x3) = Block.s3 x0 x1 x2 x3 1 := by
  simp only [kernelRun0_A.sl.r_79, w_r_59, harg0.read_unread, harg1.read_unread, harg2.read_unread, harg3.read_unread, View.readAt_eq_ld, View.ld_unit_zero (S := S32x1280) hz2, View.ld_unit_zero (S := S20x64x1280) hz3, shapeCast_self]
  rfl

theorem w_r_81 : (kernelRun0_A.sl.r_81 c arg0 harg0 arg1 harg1 arg2 harg2 arg3 harg3 x0 x1 x2 x3) = colRow (Block.s3 x0 x1 x2 x3 1) := by
  simp only [kernelRun0_A.sl.r_81, w_r_79, harg0.read_unread, harg1.read_unread, harg2.read_unread, harg3.read_unread, View.readAt_eq_ld, View.ld_unit_zero (S := S32x1280) hz2, View.ld_unit_zero (S := S20x64x1280) hz3, shapeCast_self]
  rfl

theorem w_r_93 : (kernelRun0_A.sl.r_93 c arg0 harg0 arg1 harg1 arg2 harg2 arg3 harg3 x0 x1 x2 x3) = Block.s3 x0 x1 x2 x3 2 := by
  simp only [kernelRun0_A.sl.r_93, w_r_60, harg0.read_unread, harg1.read_unread, harg2.read_unread, harg3.read_unread, View.readAt_eq_ld, View.ld_unit_zero (S := S32x1280) hz2, View.ld_unit_zero (S := S20x64x1280) hz3, shapeCast_self]
  rfl

theorem w_r_95 : (kernelRun0_A.sl.r_95 c arg0 harg0 arg1 harg1 arg2 harg2 arg3 harg3 x0 x1 x2 x3) = colRow (Block.s3 x0 x1 x2 x3 2) := by
  simp only [kernelRun0_A.sl.r_95, w_r_93, harg0.read_unread, harg1.read_unread, harg2.read_unread, harg3.read_unread, View.readAt_eq_ld, View.ld_unit_zero (S := S32x1280) hz2, View.ld_unit_zero (S := S20x64x1280) hz3, shapeCast_self]
  rfl

theorem w_r_112 : (kernelRun0_A.sl.r_112 c arg0 harg0 arg1 harg1 arg2 harg2 arg3 harg3 x0 x1 x2 x3) = colRow (Block.s3 x0 x1 x2 x3 3) := by
  simp only [kernelRun0_A.sl.r_112, kernelRun0_A.sl.r_109, kernelRun0_A.sl.r_110, w_r_61, harg0.read_unread, harg1.read_unread, harg2.read_unread, harg3.read_unread, View.readAt_eq_ld, View.ld_unit_zero (S := S32x1280) hz2, View.ld_unit_zero (S := S20x64x1280) hz3, shapeCast_self]
  rfl

theorem w_r_74 : (kernelRun0_A.sl.r_74 c arg0 harg0 arg1 harg1 arg2 harg2 arg3 harg3 arg4 harg4 x0 x1 x2 x3 x4) = Block.s4 x0 x1 x2 x3 x4 0 := by
  simp only [kernelRun0_A.sl.r_74, kernelRun0_A.sl.cst_139, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, w_r, w_r_62, w_r_63, harg0.read_unread, harg1.read_unread, harg2.read_unread, harg3.read_unread, harg4.read_unread, View.readAt_eq_ld, View.ld_unit_zero (S := S32x1280) hz2, View.ld_unit_zero (S := S20x64x1280) hz3, shapeCast_self]
  rfl

theorem w_r_88 : (kernelRun0_A.sl.r_88 c arg0 harg0 arg1 harg1 arg2 harg2 arg3 harg3 arg4 harg4 x0 x1 x2 x3 x4) = Block.s4 x0 x1 x2 x3 x4 1 := by
  simp only [kernelRun0_A.sl.r_88, kernelRun0_A.sl.r_80, kernelRun0_A.sl.r_82, kernelRun0_A.sl.r_83, kernelRun0_A.sl.r_84, kernelRun0_A.sl.r_85, kernelRun0_A.sl.r_86, kernelRun0_A.sl.r_87, w_r, w_r_59, w_r_79, harg0.read_unread, harg1.read_unread, harg2.read_unread, harg3.read_unread, harg4.read_unread, View.readAt_eq_ld, View.ld_unit_zero (S := S32x1280) hz2, View.ld_unit_zero (S := S20x64x1280) hz3, shapeCast_self]
  rfl

theorem w_r_103 : (kernelRun0_A.sl.r_103 c arg0 harg0 arg1 harg1 arg2 harg2 arg3 harg3 arg4 harg4 x0 x1 x2 x3 x4) = Block.s4 x0 x1 x2 x3 x4 2 := by
  simp only [kernelRun0_A.sl.r_103, kernelRun0_A.sl.r_100, kernelRun0_A.sl.r_101, kernelRun0_A.sl.r_102, kernelRun0_A.sl.r_94, kernelRun0_A.sl.r_96, kernelRun0_A.sl.r_97, kernelRun0_A.sl.r_98, kernelRun0_A.sl.r_99, w_r, w_r_60, w_r_93, harg0.read_unread, harg1.read_unread, harg2.read_unread, harg3.read_unread, harg4.read_unread, View.readAt_eq_ld, View.ld_unit_zero (S := S32x1280) hz2, View.ld_unit_zero (S := S20x64x1280) hz3, shapeCast_self]
  rfl

theorem w_r_120 : (kernelRun0_A.sl.r_120 c arg0 harg0 arg1 harg1 arg2 harg2 arg3 harg3 arg4 harg4 x0 x1 x2 x3 x4) = Block.s4 x0 x1 x2 x3 x4 3 := by
  simp only [kernelRun0_A.sl.r_120, kernelRun0_A.sl.r_109, kernelRun0_A.sl.r_110, kernelRun0_A.sl.r_111, kernelRun0_A.sl.r_113, kernelRun0_A.sl.r_114, kernelRun0_A.sl.r_115, kernelRun0_A.sl.r_116, kernelRun0_A.sl.r_117, kernelRun0_A.sl.r_118, kernelRun0_A.sl.r_119, w_r, w_r_61, harg0.read_unread, harg1.read_unread, harg2.read_unread, harg3.read_unread, harg4.read_unread, View.readAt_eq_ld, View.ld_unit_zero (S := S32x1280) hz2, View.ld_unit_zero (S := S20x64x1280) hz3, shapeCast_self]
  rfl

theorem w_r_75 : (kernelRun0_A.sl.r_75 c arg0 harg0 arg1 harg1 arg2 harg2 arg3 harg3 arg4 harg4 x0 x1 x2 x3 x4) = colRow (Block.s4 x0 x1 x2 x3 x4 0) := by
  simp only [kernelRun0_A.sl.r_75, kernelRun0_A.sl.cst_139, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, w_r, w_r_62, w_r_63, harg0.read_unread, harg1.read_unread, harg2.read_unread, harg3.read_unread, harg4.read_unread, View.readAt_eq_ld, View.ld_unit_zero (S := S32x1280) hz2, View.ld_unit_zero (S := S20x64x1280) hz3, shapeCast_self]
  rfl

theorem w_r_89 : (kernelRun0_A.sl.r_89 c arg0 harg0 arg1 harg1 arg2 harg2 arg3 harg3 arg4 harg4 x0 x1 x2 x3 x4) = colRow (Block.s4 x0 x1 x2 x3 x4 1) := by
  simp only [kernelRun0_A.sl.r_89, kernelRun0_A.sl.r_80, kernelRun0_A.sl.r_82, kernelRun0_A.sl.r_83, kernelRun0_A.sl.r_84, kernelRun0_A.sl.r_85, kernelRun0_A.sl.r_86, kernelRun0_A.sl.r_87, w_r, w_r_59, w_r_79, harg0.read_unread, harg1.read_unread, harg2.read_unread, harg3.read_unread, harg4.read_unread, View.readAt_eq_ld, View.ld_unit_zero (S := S32x1280) hz2, View.ld_unit_zero (S := S20x64x1280) hz3, shapeCast_self]
  rfl

theorem w_r_104 : (kernelRun0_A.sl.r_104 c arg0 harg0 arg1 harg1 arg2 harg2 arg3 harg3 arg4 harg4 x0 x1 x2 x3 x4) = colRow (Block.s4 x0 x1 x2 x3 x4 2) := by
  simp only [kernelRun0_A.sl.r_104, kernelRun0_A.sl.r_100, kernelRun0_A.sl.r_101, kernelRun0_A.sl.r_102, kernelRun0_A.sl.r_94, kernelRun0_A.sl.r_96, kernelRun0_A.sl.r_97, kernelRun0_A.sl.r_98, kernelRun0_A.sl.r_99, w_r, w_r_60, w_r_93, harg0.read_unread, harg1.read_unread, harg2.read_unread, harg3.read_unread, harg4.read_unread, View.readAt_eq_ld, View.ld_unit_zero (S := S32x1280) hz2, View.ld_unit_zero (S := S20x64x1280) hz3, shapeCast_self]
  rfl

theorem w_r_121 : (kernelRun0_A.sl.r_121 c arg0 harg0 arg1 harg1 arg2 harg2 arg3 harg3 arg4 harg4 x0 x1 x2 x3 x4) = colRow (Block.s4 x0 x1 x2 x3 x4 3) := by
  simp only [kernelRun0_A.sl.r_121, kernelRun0_A.sl.r_109, kernelRun0_A.sl.r_110, kernelRun0_A.sl.r_111, kernelRun0_A.sl.r_113, kernelRun0_A.sl.r_114, kernelRun0_A.sl.r_115, kernelRun0_A.sl.r_116, kernelRun0_A.sl.r_117, kernelRun0_A.sl.r_118, kernelRun0_A.sl.r_119, w_r, w_r_61, harg0.read_unread, harg1.read_unread, harg2.read_unread, harg3.read_unread, harg4.read_unread, View.readAt_eq_ld, View.ld_unit_zero (S := S32x1280) hz2, View.ld_unit_zero (S := S20x64x1280) hz3, shapeCast_self]
  rfl

theorem w_v922 : (kernelRun0_A.sl.v922 c arg0 harg0 arg1 harg1 arg2 harg2 arg3 harg3 arg4 harg4 arg15 x0 x1 x2 x3 x4) = wide (Block.hid x0 x1 x2 x3 x4 0 0) := by
  unfold kernelRun0_A.sl.v922 kernelRun0_A.sl.HS0_4
  rw [skip _ 3840 0 _ _ (by omega)]
  rw [skip _ 2560 0 _ _ (by omega)]
  rw [skip _ 1280 0 _ _ (by omega)]
  rw [View.readCov_cons_toLoadRect]
  simp only [kernelRun0_A.sl.cst_139, kernelRun0_A.sl.r_66, kernelRun0_A.sl.r_68, kernelRun0_A.sl.r_70, kernelRun0_A.sl.r_71, kernelRun0_A.sl.r_73, w_r, w_r_62, w_r_63, harg0.read_unread, harg1.read_unread, harg2.read_unread, harg3.read_unread, harg4.read_unread, View.readAt_eq_ld, View.ld_unit_zero (S := S32x1280) hz2, View.ld_unit_zero (S := S20x64x1280) hz3, shapeCast_self]
  exact shapeCast_self _ _

theorem w_v939 : (kernelRun0_A.sl.v939 c arg0 harg0 arg1 harg1 arg2 harg2 arg3 harg3 arg4 harg4 arg15 x0 x1 x2 x3 x4) = wide (Block.hid x0 x1 x2 x3 x4 0 1) := by
  unfold kernelRun0_A.sl.v939 kernelRun0_A.sl.HS0_4
  rw [skip _ 3840 1280 _ _ (by omega)]
  rw [skip _ 2560 1280 _ _ (by omega)]
  rw [View.readCov_cons_toLoadRect]
  simp only [kernelRun0_A.sl.cst_139, kernelRun0_A.sl.r_66, kernelRun0_A.sl.r_68, kernelRun0_A.sl.r_70, kernelRun0_A.sl.r_71, kernelRun0_A.sl.r_73, w_r, w_r_62, w_r_63, harg0.read_unread, harg1.read_unread, harg2.read_unread, harg3.read_unread, harg4.read_unread, View.readAt_eq_ld, View.ld_unit_zero (S := S32x1280) hz2, View.ld_unit_zero (S := S20x64x1280) hz3, shapeCast_self]
  exact shapeCast_self _ _

theorem w_v956 : (kernelRun0_A.sl.v956 c arg0 harg0 arg1 harg1 arg2 harg2 arg3 harg3 arg4 harg4 arg15 x0 x1 x2 x3 x4) = wide (Block.hid x0 x1 x2 x3 x4 0 2) := by
  unfold kernelRun0_A.sl.v956 kernelRun0_A.sl.HS0_4
  rw [skip _ 3840 2560 _ _ (by omega)]
  rw [View.readCov_cons_toLoadRect]
  simp only [kernelRun0_A.sl.cst_139, kernelRun0_A.sl.r_66, kernelRun0_A.sl.r_68, kernelRun0_A.sl.r_70, kernelRun0_A.sl.r_71, kernelRun0_A.sl.r_73, w_r, w_r_62, w_r_63, harg0.read_unread, harg1.read_unread, harg2.read_unread, harg3.read_unread, harg4.read_unread, View.readAt_eq_ld, View.ld_unit_zero (S := S32x1280) hz2, View.ld_unit_zero (S := S20x64x1280) hz3, shapeCast_self]
  exact shapeCast_self _ _

theorem w_v973 : (kernelRun0_A.sl.v973 c arg0 harg0 arg1 harg1 arg2 harg2 arg3 harg3 arg4 harg4 arg15 x0 x1 x2 x3 x4) = wide (Block.hid x0 x1 x2 x3 x4 0 3) := by
  unfold kernelRun0_A.sl.v973 kernelRun0_A.sl.HS0_4
  rw [View.readCov_cons_toLoadRect]
  simp only [kernelRun0_A.sl.cst_139, kernelRun0_A.sl.r_66, kernelRun0_A.sl.r_68, kernelRun0_A.sl.r_70, kernelRun0_A.sl.r_71, kernelRun0_A.sl.r_73, w_r, w_r_62, w_r_63, harg0.read_unread, harg1.read_unread, harg2.read_unread, harg3.read_unread, harg4.read_unread, View.readAt_eq_ld, View.ld_unit_zero (S := S32x1280) hz2, View.ld_unit_zero (S := S20x64x1280) hz3, shapeCast_self]
  exact shapeCast_self _ _

theorem w_v1168 : (kernelRun0_A.sl.v1168 c arg0 harg0 arg1 harg1 arg2 harg2 arg3 harg3 arg4 harg4 arg15 x0 x1 x2 x3 x4) = wide (Block.hid x0 x1 x2 x3 x4 1 0) := by
  unfold kernelRun0_A.sl.v1168 kernelRun0_A.sl.HS0_8
  rw [skip _ 3840 0 _ _ (by omega)]
  rw [skip _ 2560 0 _ _ (by omega)]
  rw [skip _ 1280 0 _ _ (by omega)]
  rw [View.readCov_cons_toLoadRect]
  simp only [kernelRun0_A.sl.HS0_4, kernelRun0_A.sl.cst_139, kernelRun0_A.sl.r_66, kernelRun0_A.sl.r_68, kernelRun0_A.sl.r_70, kernelRun0_A.sl.r_71, kernelRun0_A.sl.r_73, kernelRun0_A.sl.r_80, kernelRun0_A.sl.r_82, kernelRun0_A.sl.r_85, kernelRun0_A.sl.r_87, w_r, w_r_59, w_r_62, w_r_63, w_r_79, harg0.read_unread, harg1.read_unread, harg2.read_unread, harg3.read_unread, harg4.read_unread, View.readAt_eq_ld, View.ld_unit_zero (S := S32x1280) hz2, View.ld_unit_zero (S := S20x64x1280) hz3, shapeCast_self]
  exact shapeCast_self _ _

theorem w_v1185 : (kernelRun0_A.sl.v1185 c arg0 harg0 arg1 harg1 arg2 harg2 arg3 harg3 arg4 harg4 arg15 x0 x1 x2 x3 x4) = wide (Block.hid x0 x1 x2 x3 x4 1 1) := by
  unfold kernelRun0_A.sl.v1185 kernelRun0_A.sl.HS0_8
  rw [skip _ 3840 1280 _ _ (by omega)]
  rw [skip _ 2560 1280 _ _ (by omega)]
  rw [View.readCov_cons_toLoadRect]
  simp only [kernelRun0_A.sl.HS0_4, kernelRun0_A.sl.cst_139, kernelRun0_A.sl.r_66, kernelRun0_A.sl.r_68, kernelRun0_A.sl.r_70, kernelRun0_A.sl.r_71, kernelRun0_A.sl.r_73, kernelRun0_A.sl.r_80, kernelRun0_A.sl.r_82, kernelRun0_A.sl.r_85, kernelRun0_A.sl.r_87, w_r, w_r_59, w_r_62, w_r_63, w_r_79, harg0.read_unread, harg1.read_unread, harg2.read_unread, harg3.read_unread, harg4.read_unread, View.readAt_eq_ld, View.ld_unit_zero (S := S32x1280) hz2, View.ld_unit_zero (S := S20x64x1280) hz3, shapeCast_self]
  exact shapeCast_self _ _

theorem w_v1202 : (kernelRun0_A.sl.v1202 c arg0 harg0 arg1 harg1 arg2 harg2 arg3 harg3 arg4 harg4 arg15 x0 x1 x2 x3 x4) = wide (Block.hid x0 x1 x2 x3 x4 1 2) := by
  unfold kernelRun0_A.sl.v1202 kernelRun0_A.sl.HS0_8
  rw [skip _ 3840 2560 _ _ (by omega)]
  rw [View.readCov_cons_toLoadRect]
  simp only [kernelRun0_A.sl.HS0_4, kernelRun0_A.sl.cst_139, kernelRun0_A.sl.r_66, kernelRun0_A.sl.r_68, kernelRun0_A.sl.r_70, kernelRun0_A.sl.r_71, kernelRun0_A.sl.r_73, kernelRun0_A.sl.r_80, kernelRun0_A.sl.r_82, kernelRun0_A.sl.r_85, kernelRun0_A.sl.r_87, w_r, w_r_59, w_r_62, w_r_63, w_r_79, harg0.read_unread, harg1.read_unread, harg2.read_unread, harg3.read_unread, harg4.read_unread, View.readAt_eq_ld, View.ld_unit_zero (S := S32x1280) hz2, View.ld_unit_zero (S := S20x64x1280) hz3, shapeCast_self]
  exact shapeCast_self _ _

theorem w_v1219 : (kernelRun0_A.sl.v1219 c arg0 harg0 arg1 harg1 arg2 harg2 arg3 harg3 arg4 harg4 arg15 x0 x1 x2 x3 x4) = wide (Block.hid x0 x1 x2 x3 x4 1 3) := by
  unfold kernelRun0_A.sl.v1219 kernelRun0_A.sl.HS0_8
  rw [View.readCov_cons_toLoadRect]
  simp only [kernelRun0_A.sl.HS0_4, kernelRun0_A.sl.cst_139, kernelRun0_A.sl.r_66, kernelRun0_A.sl.r_68, kernelRun0_A.sl.r_70, kernelRun0_A.sl.r_71, kernelRun0_A.sl.r_73, kernelRun0_A.sl.r_80, kernelRun0_A.sl.r_82, kernelRun0_A.sl.r_85, kernelRun0_A.sl.r_87, w_r, w_r_59, w_r_62, w_r_63, w_r_79, harg0.read_unread, harg1.read_unread, harg2.read_unread, harg3.read_unread, harg4.read_unread, View.readAt_eq_ld, View.ld_unit_zero (S := S32x1280) hz2, View.ld_unit_zero (S := S20x64x1280) hz3, shapeCast_self]
  exact shapeCast_self _ _

theorem w_v1414 : (kernelRun0_A.sl.v1414 c arg0 harg0 arg1 harg1 arg2 harg2 arg3 harg3 arg4 harg4 arg15 x0 x1 x2 x3 x4) = wide (Block.hid x0 x1 x2 x3 x4 2 0) := by
  unfold kernelRun0_A.sl.v1414 kernelRun0_A.sl.HS0_12
  rw [skip _ 3840 0 _ _ (by omega)]
  rw [skip _ 2560 0 _ _ (by omega)]
  rw [skip _ 1280 0 _ _ (by omega)]
  rw [View.readCov_cons_toLoadRect]
  simp only [kernelRun0_A.sl.HS0_4, kernelRun0_A.sl.HS0_8, kernelRun0_A.sl.cst_139, kernelRun0_A.sl.r_101, kernelRun0_A.sl.r_102, kernelRun0_A.sl.r_66, kernelRun0_A.sl.r_68, kernelRun0_A.sl.r_70, kernelRun0_A.sl.r_71, kernelRun0_A.sl.r_73, kernelRun0_A.sl.r_80, kernelRun0_A.sl.r_82, kernelRun0_A.sl.r_85, kernelRun0_A.sl.r_87, kernelRun0_A.sl.r_94, kernelRun0_A.sl.r_96, kernelRun0_A.sl.r_97, kernelRun0_A.sl.r_99, w_r, w_r_59, w_r_60, w_r_62, w_r_63, w_r_79, w_r_93, harg0.read_unread, harg1.read_unread, harg2.read_unread, harg3.read_unread, harg4.read_unread, View.readAt_eq_ld, View.ld_unit_zero (S := S32x1280) hz2, View.ld_unit_zero (S := S20x64x1280) hz3, shapeCast_self]
  exact shapeCast_self _ _

theorem w_v1431 : (kernelRun0_A.sl.v1431 c arg0 harg0 arg1 harg1 arg2 harg2 arg3 harg3 arg4 harg4 arg15 x0 x1 x2 x3 x4) = wide (Block.hid x0 x1 x2 x3 x4 2 1) := by
  unfold kernelRun0_A.sl.v1431 kernelRun0_A.sl.HS0_12
  rw [skip _ 3840 1280 _ _ (by omega)]
  rw [skip _ 2560 1280 _ _ (by omega)]
  rw [View.readCov_cons_toLoadRect]
  simp only [kernelRun0_A.sl.HS0_4, kernelRun0_A.sl.HS0_8, kernelRun0_A.sl.cst_139, kernelRun0_A.sl.r_101, kernelRun0_A.sl.r_102, kernelRun0_A.sl.r_66, kernelRun0_A.sl.r_68, kernelRun0_A.sl.r_70, kernelRun0_A.sl.r_71, kernelRun0_A.sl.r_73, kernelRun0_A.sl.r_80, kernelRun0_A.sl.r_82, kernelRun0_A.sl.r_85, kernelRun0_A.sl.r_87, kernelRun0_A.sl.r_94, kernelRun0_A.sl.r_96, kernelRun0_A.sl.r_97, kernelRun0_A.sl.r_99, w_r, w_r_59, w_r_60, w_r_62, w_r_63, w_r_79, w_r_93, harg0.read_unread, harg1.read_unread, harg2.read_unread, harg3.read_unread, harg4.read_unread, View.readAt_eq_ld, View.ld_unit_zero (S := S32x1280) hz2, View.ld_unit_zero (S := S20x64x1280) hz3, shapeCast_self]
  exact shapeCast_self _ _

theorem w_v1448 : (kernelRun0_A.sl.v1448 c arg0 harg0 arg1 harg1 arg2 harg2 arg3 harg3 arg4 harg4 arg15 x0 x1 x2 x3 x4) = wide (Block.hid x0 x1 x2 x3 x4 2 2) := by
  unfold kernelRun0_A.sl.v1448 kernelRun0_A.sl.HS0_12
  rw [skip _ 3840 2560 _ _ (by omega)]
  rw [View.readCov_cons_toLoadRect]
  simp only [kernelRun0_A.sl.HS0_4, kernelRun0_A.sl.HS0_8, kernelRun0_A.sl.cst_139, kernelRun0_A.sl.r_101, kernelRun0_A.sl.r_102, kernelRun0_A.sl.r_66, kernelRun0_A.sl.r_68, kernelRun0_A.sl.r_70, kernelRun0_A.sl.r_71, kernelRun0_A.sl.r_73, kernelRun0_A.sl.r_80, kernelRun0_A.sl.r_82, kernelRun0_A.sl.r_85, kernelRun0_A.sl.r_87, kernelRun0_A.sl.r_94, kernelRun0_A.sl.r_96, kernelRun0_A.sl.r_97, kernelRun0_A.sl.r_99, w_r, w_r_59, w_r_60, w_r_62, w_r_63, w_r_79, w_r_93, harg0.read_unread, harg1.read_unread, harg2.read_unread, harg3.read_unread, harg4.read_unread, View.readAt_eq_ld, View.ld_unit_zero (S := S32x1280) hz2, View.ld_unit_zero (S := S20x64x1280) hz3, shapeCast_self]
  exact shapeCast_self _ _

theorem w_v1465 : (kernelRun0_A.sl.v1465 c arg0 harg0 arg1 harg1 arg2 harg2 arg3 harg3 arg4 harg4 arg15 x0 x1 x2 x3 x4) = wide (Block.hid x0 x1 x2 x3 x4 2 3) := by
  unfold kernelRun0_A.sl.v1465 kernelRun0_A.sl.HS0_12
  rw [View.readCov_cons_toLoadRect]
  simp only [kernelRun0_A.sl.HS0_4, kernelRun0_A.sl.HS0_8, kernelRun0_A.sl.cst_139, kernelRun0_A.sl.r_101, kernelRun0_A.sl.r_102, kernelRun0_A.sl.r_66, kernelRun0_A.sl.r_68, kernelRun0_A.sl.r_70, kernelRun0_A.sl.r_71, kernelRun0_A.sl.r_73, kernelRun0_A.sl.r_80, kernelRun0_A.sl.r_82, kernelRun0_A.sl.r_85, kernelRun0_A.sl.r_87, kernelRun0_A.sl.r_94, kernelRun0_A.sl.r_96, kernelRun0_A.sl.r_97, kernelRun0_A.sl.r_99, w_r, w_r_59, w_r_60, w_r_62, w_r_63, w_r_79, w_r_93, harg0.read_unread, harg1.read_unread, harg2.read_unread, harg3.read_unread, harg4.read_unread, View.readAt_eq_ld, View.ld_unit_zero (S := S32x1280) hz2, View.ld_unit_zero (S := S20x64x1280) hz3, shapeCast_self]
  exact shapeCast_self _ _

theorem w_v1660 : (kernelRun0_A.sl.v1660 c arg0 harg0 arg1 harg1 arg2 harg2 arg3 harg3 arg4 harg4 arg15 x0 x1 x2 x3 x4) = wide (Block.hid x0 x1 x2 x3 x4 3 0) := by
  unfold kernelRun0_A.sl.v1660 kernelRun0_A.sl.HS0_16
  rw [skip _ 3840 0 _ _ (by omega)]
  rw [skip _ 2560 0 _ _ (by omega)]
  rw [skip _ 1280 0 _ _ (by omega)]
  rw [View.readCov_cons_toLoadRect]
  simp only [kernelRun0_A.sl.HS0_12, kernelRun0_A.sl.HS0_4, kernelRun0_A.sl.HS0_8, kernelRun0_A.sl.cst_139, kernelRun0_A.sl.r_101, kernelRun0_A.sl.r_102, kernelRun0_A.sl.r_109, kernelRun0_A.sl.r_110, kernelRun0_A.sl.r_111, kernelRun0_A.sl.r_113, kernelRun0_A.sl.r_114, kernelRun0_A.sl.r_118, kernelRun0_A.sl.r_119, kernelRun0_A.sl.r_66, kernelRun0_A.sl.r_68, kernelRun0_A.sl.r_70, kernelRun0_A.sl.r_71, kernelRun0_A.sl.r_73, kernelRun0_A.sl.r_80, kernelRun0_A.sl.r_82, kernelRun0_A.sl.r_85, kernelRun0_A.sl.r_87, kernelRun0_A.sl.r_94, kernelRun0_A.sl.r_96, kernelRun0_A.sl.r_97, kernelRun0_A.sl.r_99, w_r, w_r_59, w_r_60, w_r_61, w_r_62, w_r_63, w_r_79, w_r_93, harg0.read_unread, harg1.read_unread, harg2.read_unread, harg3.read_unread, harg4.read_unread, View.readAt_eq_ld, View.ld_unit_zero (S := S32x1280) hz2, View.ld_unit_zero (S := S20x64x1280) hz3, shapeCast_self]
  exact shapeCast_self _ _

theorem w_v1677 : (kernelRun0_A.sl.v1677 c arg0 harg0 arg1 harg1 arg2 harg2 arg3 harg3 arg4 harg4 arg15 x0 x1 x2 x3 x4) = wide (Block.hid x0 x1 x2 x3 x4 3 1) := by
  unfold kernelRun0_A.sl.v1677 kernelRun0_A.sl.HS0_16
  rw [skip _ 3840 1280 _ _ (by omega)]
  rw [skip _ 2560 1280 _ _ (by omega)]
  rw [View.readCov_cons_toLoadRect]
  simp only [kernelRun0_A.sl.HS0_12, kernelRun0_A.sl.HS0_4, kernelRun0_A.sl.HS0_8, kernelRun0_A.sl.cst_139, kernelRun0_A.sl.r_101, kernelRun0_A.sl.r_102, kernelRun0_A.sl.r_109, kernelRun0_A.sl.r_110, kernelRun0_A.sl.r_111, kernelRun0_A.sl.r_113, kernelRun0_A.sl.r_114, kernelRun0_A.sl.r_118, kernelRun0_A.sl.r_119, kernelRun0_A.sl.r_66, kernelRun0_A.sl.r_68, kernelRun0_A.sl.r_70, kernelRun0_A.sl.r_71, kernelRun0_A.sl.r_73, kernelRun0_A.sl.r_80, kernelRun0_A.sl.r_82, kernelRun0_A.sl.r_85, kernelRun0_A.sl.r_87, kernelRun0_A.sl.r_94, kernelRun0_A.sl.r_96, kernelRun0_A.sl.r_97, kernelRun0_A.sl.r_99, w_r, w_r_59, w_r_60, w_r_61, w_r_62, w_r_63, w_r_79, w_r_93, harg0.read_unread, harg1.read_unread, harg2.read_unread, harg3.read_unread, harg4.read_unread, View.readAt_eq_ld, View.ld_unit_zero (S := S32x1280) hz2, View.ld_unit_zero (S := S20x64x1280) hz3, shapeCast_self]
  exact shapeCast_self _ _

theorem w_v1694 : (kernelRun0_A.sl.v1694 c arg0 harg0 arg1 harg1 arg2 harg2 arg3 harg3 arg4 harg4 arg15 x0 x1 x2 x3 x4) = wide (Block.hid x0 x1 x2 x3 x4 3 2) := by
  unfold kernelRun0_A.sl.v1694 kernelRun0_A.sl.HS0_16
  rw [skip _ 3840 2560 _ _ (by omega)]
  rw [View.readCov_cons_toLoadRect]
  simp only [kernelRun0_A.sl.HS0_12, kernelRun0_A.sl.HS0_4, kernelRun0_A.sl.HS0_8, kernelRun0_A.sl.cst_139, kernelRun0_A.sl.r_101, kernelRun0_A.sl.r_102, kernelRun0_A.sl.r_109, kernelRun0_A.sl.r_110, kernelRun0_A.sl.r_111, kernelRun0_A.sl.r_113, kernelRun0_A.sl.r_114, kernelRun0_A.sl.r_118, kernelRun0_A.sl.r_119, kernelRun0_A.sl.r_66, kernelRun0_A.sl.r_68, kernelRun0_A.sl.r_70, kernelRun0_A.sl.r_71, kernelRun0_A.sl.r_73, kernelRun0_A.sl.r_80, kernelRun0_A.sl.r_82, kernelRun0_A.sl.r_85, kernelRun0_A.sl.r_87, kernelRun0_A.sl.r_94, kernelRun0_A.sl.r_96, kernelRun0_A.sl.r_97, kernelRun0_A.sl.r_99, w_r, w_r_59, w_r_60, w_r_61, w_r_62, w_r_63, w_r_79, w_r_93, harg0.read_unread, harg1.read_unread, harg2.read_unread, harg3.read_unread, harg4.read_unread, View.readAt_eq_ld, View.ld_unit_zero (S := S32x1280) hz2, View.ld_unit_zero (S := S20x64x1280) hz3, shapeCast_self]
  exact shapeCast_self _ _

theorem w_v1711 : (kernelRun0_A.sl.v1711 c arg0 harg0 arg1 harg1 arg2 harg2 arg3 harg3 arg4 harg4 arg15 x0 x1 x2 x3 x4) = wide (Block.hid x0 x1 x2 x3 x4 3 3) := by
  unfold kernelRun0_A.sl.v1711 kernelRun0_A.sl.HS0_16
  rw [View.readCov_cons_toLoadRect]
  simp only [kernelRun0_A.sl.HS0_12, kernelRun0_A.sl.HS0_4, kernelRun0_A.sl.HS0_8, kernelRun0_A.sl.cst_139, kernelRun0_A.sl.r_101, kernelRun0_A.sl.r_102, kernelRun0_A.sl.r_109, kernelRun0_A.sl.r_110, kernelRun0_A.sl.r_111, kernelRun0_A.sl.r_113, kernelRun0_A.sl.r_114, kernelRun0_A.sl.r_118, kernelRun0_A.sl.r_119, kernelRun0_A.sl.r_66, kernelRun0_A.sl.r_68, kernelRun0_A.sl.r_70, kernelRun0_A.sl.r_71, kernelRun0_A.sl.r_73, kernelRun0_A.sl.r_80, kernelRun0_A.sl.r_82, kernelRun0_A.sl.r_85, kernelRun0_A.sl.r_87, kernelRun0_A.sl.r_94, kernelRun0_A.sl.r_96, kernelRun0_A.sl.r_97, kernelRun0_A.sl.r_99, w_r, w_r_59, w_r_60, w_r_61, w_r_62, w_r_63, w_r_79, w_r_93, harg0.read_unread, harg1.read_unread, harg2.read_unread, harg3.read_unread, harg4.read_unread, View.readAt_eq_ld, View.ld_unit_zero (S := S32x1280) hz2, View.ld_unit_zero (S := S20x64x1280) hz3, shapeCast_self]
  exact shapeCast_self _ _

/-- What the body stores for output 6, the attention codes, last store first. -/
theorem pieces6 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).1 = ([⟨Rect.unit ![3, 0, 0] S1x72x1280.size inb_S4x72x1280_S1x72x1280_3_0_0, shapeCast S1x72x1280 (fptosi 8 (Block.q1 x0 3)) shapeCasts_S72x1280_S1x72x1280⟩,
    ⟨Rect.unit ![2, 0, 0] S1x72x1280.size inb_S4x72x1280_S1x72x1280_2_0_0, shapeCast S1x72x1280 (fptosi 8 (Block.q1 x0 2)) shapeCasts_S72x1280_S1x72x1280⟩,
    ⟨Rect.unit ![1, 0, 0] S1x72x1280.size inb_S4x72x1280_S1x72x1280_1_0_0, shapeCast S1x72x1280 (fptosi 8 (Block.q1 x0 1)) shapeCasts_S72x1280_S1x72x1280⟩,
    ⟨Rect.unit ![0, 0, 0] S1x72x1280.size inb_S4x72x1280_S1x72x1280_0_0_0, shapeCast S1x72x1280 (fptosi 8 (Block.q1 x0 0)) shapeCasts_S72x1280_S1x72x1280⟩] : List (View.Piece (Elt F) S4x72x1280 .i8)) := by
  unfold kernelRun0_A
  dsimp only
  simp only [kernelRun0_A.sl.r_18, harg0.read_unread, View.readAt_eq_ld, View.ld_unit_zero (S := S32x1280) hz2, View.ld_unit_zero (S := S20x64x1280) hz3, shapeCast_self]
  rfl

/-- What the body stores for output 7, the attention scales, last store first. -/
theorem pieces7 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.1 = ([⟨Rect.unit ![0, 0] S4x128.size inb_S4x128_S4x128_0_0, concatenate S4x128 0 [⟨S1x128, colRow (Block.s1 x0 0)⟩, ⟨S1x128, colRow (Block.s1 x0 1)⟩, ⟨S1x128, colRow (Block.s1 x0 2)⟩, ⟨S1x128, colRow (Block.s1 x0 3)⟩] concatenates_S1x128_S1x128_S1x128_S1x128_S4x128_d0⟩] : List (View.Piece (Elt F) S4x128 .f32)) := by
  unfold kernelRun0_A
  dsimp only
  simp only [w_r_14, w_r_19, w_r_3, w_r_8, harg0.read_unread, View.readAt_eq_ld, View.ld_unit_zero (S := S32x1280) hz2, View.ld_unit_zero (S := S20x64x1280) hz3, shapeCast_self]
  rfl

/-- What the body stores for output 8, the residual rows, last store first. -/
theorem pieces8 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.1 = ([⟨Rect.unit ![3, 0, 0] S1x72x1280.size inb_S4x72x1280_S1x72x1280_3_0_0, shapeCast S1x72x1280 (Block.h2 x0 x1 x2 x3 3) shapeCasts_S72x1280_S1x72x1280⟩,
    ⟨Rect.unit ![2, 0, 0] S1x72x1280.size inb_S4x72x1280_S1x72x1280_2_0_0, shapeCast S1x72x1280 (Block.h2 x0 x1 x2 x3 2) shapeCasts_S72x1280_S1x72x1280⟩,
    ⟨Rect.unit ![1, 0, 0] S1x72x1280.size inb_S4x72x1280_S1x72x1280_1_0_0, shapeCast S1x72x1280 (Block.h2 x0 x1 x2 x3 1) shapeCasts_S72x1280_S1x72x1280⟩,
    ⟨Rect.unit ![0, 0, 0] S1x72x1280.size inb_S4x72x1280_S1x72x1280_0_0_0, shapeCast S1x72x1280 (Block.h2 x0 x1 x2 x3 0) shapeCasts_S72x1280_S1x72x1280⟩] : List (View.Piece (Elt F) S4x72x1280 .f32)) := by
  unfold kernelRun0_A
  dsimp only
  simp only [kernelRun0_A.sl.cst_35, kernelRun0_A.sl.r_12, kernelRun0_A.sl.r_17, kernelRun0_A.sl.r_9, w_r, w_r_1, w_r_11, w_r_16, w_r_2, w_r_4, w_r_5, w_r_7, harg0.read_unread, harg1.read_unread, harg2.read_unread, harg3.read_unread, View.readAt_eq_ld, View.ld_unit_zero (S := S32x1280) hz2, View.ld_unit_zero (S := S20x64x1280) hz3, shapeCast_self]
  rfl

/-- What the body stores for output 9, the normalised codes, last store first. -/
theorem pieces9 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.1 = ([⟨Rect.unit ![3, 0, 0] S1x72x1280.size inb_S4x72x1280_S1x72x1280_3_0_0, shapeCast S1x72x1280 (fptosi 8 (Block.q3 x0 x1 x2 x3 3)) shapeCasts_S72x1280_S1x72x1280⟩,
    ⟨Rect.unit ![2, 0, 0] S1x72x1280.size inb_S4x72x1280_S1x72x1280_2_0_0, shapeCast S1x72x1280 (fptosi 8 (Block.q3 x0 x1 x2 x3 2)) shapeCasts_S72x1280_S1x72x1280⟩,
    ⟨Rect.unit ![1, 0, 0] S1x72x1280.size inb_S4x72x1280_S1x72x1280_1_0_0, shapeCast S1x72x1280 (fptosi 8 (Block.q3 x0 x1 x2 x3 1)) shapeCasts_S72x1280_S1x72x1280⟩,
    ⟨Rect.unit ![0, 0, 0] S1x72x1280.size inb_S4x72x1280_S1x72x1280_0_0_0, shapeCast S1x72x1280 (fptosi 8 (Block.q3 x0 x1 x2 x3 0)) shapeCasts_S72x1280_S1x72x1280⟩] : List (View.Piece (Elt F) S4x72x1280 .i8)) := by
  unfold kernelRun0_A
  dsimp only
  simp only [kernelRun0_A.sl.r_109, kernelRun0_A.sl.r_110, kernelRun0_A.sl.r_64, kernelRun0_A.sl.r_80, kernelRun0_A.sl.r_94, w_r_21, w_r_22, w_r_35, w_r_57, w_r_59, w_r_60, w_r_61, harg0.read_unread, harg1.read_unread, harg2.read_unread, harg3.read_unread, View.readAt_eq_ld, View.ld_unit_zero (S := S32x1280) hz2, View.ld_unit_zero (S := S20x64x1280) hz3, shapeCast_self]
  rfl

/-- What the body stores for output 10, the normalised scales, last store first. -/
theorem pieces10 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.1 = ([⟨Rect.unit ![0, 0] S4x128.size inb_S4x128_S4x128_0_0, concatenate S4x128 0 [⟨S1x128, colRow (Block.s3 x0 x1 x2 x3 0)⟩, ⟨S1x128, colRow (Block.s3 x0 x1 x2 x3 1)⟩, ⟨S1x128, colRow (Block.s3 x0 x1 x2 x3 2)⟩, ⟨S1x128, colRow (Block.s3 x0 x1 x2 x3 3)⟩] concatenates_S1x128_S1x128_S1x128_S1x128_S4x128_d0⟩] : List (View.Piece (Elt F) S4x128 .f32)) := by
  unfold kernelRun0_A
  dsimp only
  simp only [w_r_112, w_r_65, w_r_81, w_r_95, harg0.read_unread, harg1.read_unread, harg2.read_unread, harg3.read_unread, View.readAt_eq_ld, View.ld_unit_zero (S := S32x1280) hz2, View.ld_unit_zero (S := S20x64x1280) hz3, shapeCast_self]
  rfl

/-- What the body stores for output 11, the hidden rows, last store first. -/
theorem pieces11 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.1 = ([⟨Rect.unit ![3, 0, 3840] S1x72x1280.size inb_S4x72x5120_S1x72x1280_3_0_3840, shapeCast S1x72x1280 (Block.hid x0 x1 x2 x3 x4 3 3) shapeCasts_S72x1280_S1x72x1280⟩,
    ⟨Rect.unit ![3, 0, 2560] S1x72x1280.size inb_S4x72x5120_S1x72x1280_3_0_2560, shapeCast S1x72x1280 (Block.hid x0 x1 x2 x3 x4 3 2) shapeCasts_S72x1280_S1x72x1280⟩,
    ⟨Rect.unit ![3, 0, 1280] S1x72x1280.size inb_S4x72x5120_S1x72x1280_3_0_1280, shapeCast S1x72x1280 (Block.hid x0 x1 x2 x3 x4 3 1) shapeCasts_S72x1280_S1x72x1280⟩,
    ⟨Rect.unit ![3, 0, 0] S1x72x1280.size inb_S4x72x5120_S1x72x1280_3_0_0, shapeCast S1x72x1280 (Block.hid x0 x1 x2 x3 x4 3 0) shapeCasts_S72x1280_S1x72x1280⟩,
    ⟨Rect.unit ![2, 0, 3840] S1x72x1280.size inb_S4x72x5120_S1x72x1280_2_0_3840, shapeCast S1x72x1280 (Block.hid x0 x1 x2 x3 x4 2 3) shapeCasts_S72x1280_S1x72x1280⟩,
    ⟨Rect.unit ![2, 0, 2560] S1x72x1280.size inb_S4x72x5120_S1x72x1280_2_0_2560, shapeCast S1x72x1280 (Block.hid x0 x1 x2 x3 x4 2 2) shapeCasts_S72x1280_S1x72x1280⟩,
    ⟨Rect.unit ![2, 0, 1280] S1x72x1280.size inb_S4x72x5120_S1x72x1280_2_0_1280, shapeCast S1x72x1280 (Block.hid x0 x1 x2 x3 x4 2 1) shapeCasts_S72x1280_S1x72x1280⟩,
    ⟨Rect.unit ![2, 0, 0] S1x72x1280.size inb_S4x72x5120_S1x72x1280_2_0_0, shapeCast S1x72x1280 (Block.hid x0 x1 x2 x3 x4 2 0) shapeCasts_S72x1280_S1x72x1280⟩,
    ⟨Rect.unit ![1, 0, 3840] S1x72x1280.size inb_S4x72x5120_S1x72x1280_1_0_3840, shapeCast S1x72x1280 (Block.hid x0 x1 x2 x3 x4 1 3) shapeCasts_S72x1280_S1x72x1280⟩,
    ⟨Rect.unit ![1, 0, 2560] S1x72x1280.size inb_S4x72x5120_S1x72x1280_1_0_2560, shapeCast S1x72x1280 (Block.hid x0 x1 x2 x3 x4 1 2) shapeCasts_S72x1280_S1x72x1280⟩,
    ⟨Rect.unit ![1, 0, 1280] S1x72x1280.size inb_S4x72x5120_S1x72x1280_1_0_1280, shapeCast S1x72x1280 (Block.hid x0 x1 x2 x3 x4 1 1) shapeCasts_S72x1280_S1x72x1280⟩,
    ⟨Rect.unit ![1, 0, 0] S1x72x1280.size inb_S4x72x5120_S1x72x1280_1_0_0, shapeCast S1x72x1280 (Block.hid x0 x1 x2 x3 x4 1 0) shapeCasts_S72x1280_S1x72x1280⟩,
    ⟨Rect.unit ![0, 0, 3840] S1x72x1280.size inb_S4x72x5120_S1x72x1280_0_0_3840, shapeCast S1x72x1280 (Block.hid x0 x1 x2 x3 x4 0 3) shapeCasts_S72x1280_S1x72x1280⟩,
    ⟨Rect.unit ![0, 0, 2560] S1x72x1280.size inb_S4x72x5120_S1x72x1280_0_0_2560, shapeCast S1x72x1280 (Block.hid x0 x1 x2 x3 x4 0 2) shapeCasts_S72x1280_S1x72x1280⟩,
    ⟨Rect.unit ![0, 0, 1280] S1x72x1280.size inb_S4x72x5120_S1x72x1280_0_0_1280, shapeCast S1x72x1280 (Block.hid x0 x1 x2 x3 x4 0 1) shapeCasts_S72x1280_S1x72x1280⟩,
    ⟨Rect.unit ![0, 0, 0] S1x72x1280.size inb_S4x72x5120_S1x72x1280_0_0_0, shapeCast S1x72x1280 (Block.hid x0 x1 x2 x3 x4 0 0) shapeCasts_S72x1280_S1x72x1280⟩] : List (View.Piece (Elt F) S4x72x5120 .bf16)) := by
  unfold kernelRun0_A
  dsimp only
  simp only [kernelRun0_A.sl.cst_139, kernelRun0_A.sl.r_101, kernelRun0_A.sl.r_102, kernelRun0_A.sl.r_109, kernelRun0_A.sl.r_110, kernelRun0_A.sl.r_111, kernelRun0_A.sl.r_113, kernelRun0_A.sl.r_114, kernelRun0_A.sl.r_118, kernelRun0_A.sl.r_119, kernelRun0_A.sl.r_66, kernelRun0_A.sl.r_68, kernelRun0_A.sl.r_70, kernelRun0_A.sl.r_71, kernelRun0_A.sl.r_80, kernelRun0_A.sl.r_82, kernelRun0_A.sl.r_85, kernelRun0_A.sl.r_87, kernelRun0_A.sl.r_94, kernelRun0_A.sl.r_96, kernelRun0_A.sl.r_99, w_r, w_r_59, w_r_60, w_r_61, w_r_62, w_r_63, w_r_79, w_r_93, harg0.read_unread, harg1.read_unread, harg2.read_unread, harg3.read_unread, harg4.read_unread, View.readAt_eq_ld, View.ld_unit_zero (S := S32x1280) hz2, View.ld_unit_zero (S := S20x64x1280) hz3, shapeCast_self]
  rfl

/-- What the body stores for output 12, the hidden codes, last store first. -/
theorem pieces12 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.1 = ([⟨Rect.unit ![3, 0, 3840] S1x72x1280.size inb_S4x72x5120_S1x72x1280_3_0_3840, shapeCast S1x72x1280 (fptosi 8 (Block.q4 x0 x1 x2 x3 x4 3 3)) shapeCasts_S72x1280_S1x72x1280⟩,
    ⟨Rect.unit ![3, 0, 2560] S1x72x1280.size inb_S4x72x5120_S1x72x1280_3_0_2560, shapeCast S1x72x1280 (fptosi 8 (Block.q4 x0 x1 x2 x3 x4 3 2)) shapeCasts_S72x1280_S1x72x1280⟩,
    ⟨Rect.unit ![3, 0, 1280] S1x72x1280.size inb_S4x72x5120_S1x72x1280_3_0_1280, shapeCast S1x72x1280 (fptosi 8 (Block.q4 x0 x1 x2 x3 x4 3 1)) shapeCasts_S72x1280_S1x72x1280⟩,
    ⟨Rect.unit ![3, 0, 0] S1x72x1280.size inb_S4x72x5120_S1x72x1280_3_0_0, shapeCast S1x72x1280 (fptosi 8 (Block.q4 x0 x1 x2 x3 x4 3 0)) shapeCasts_S72x1280_S1x72x1280⟩,
    ⟨Rect.unit ![2, 0, 3840] S1x72x1280.size inb_S4x72x5120_S1x72x1280_2_0_3840, shapeCast S1x72x1280 (fptosi 8 (Block.q4 x0 x1 x2 x3 x4 2 3)) shapeCasts_S72x1280_S1x72x1280⟩,
    ⟨Rect.unit ![2, 0, 2560] S1x72x1280.size inb_S4x72x5120_S1x72x1280_2_0_2560, shapeCast S1x72x1280 (fptosi 8 (Block.q4 x0 x1 x2 x3 x4 2 2)) shapeCasts_S72x1280_S1x72x1280⟩,
    ⟨Rect.unit ![2, 0, 1280] S1x72x1280.size inb_S4x72x5120_S1x72x1280_2_0_1280, shapeCast S1x72x1280 (fptosi 8 (Block.q4 x0 x1 x2 x3 x4 2 1)) shapeCasts_S72x1280_S1x72x1280⟩,
    ⟨Rect.unit ![2, 0, 0] S1x72x1280.size inb_S4x72x5120_S1x72x1280_2_0_0, shapeCast S1x72x1280 (fptosi 8 (Block.q4 x0 x1 x2 x3 x4 2 0)) shapeCasts_S72x1280_S1x72x1280⟩,
    ⟨Rect.unit ![1, 0, 3840] S1x72x1280.size inb_S4x72x5120_S1x72x1280_1_0_3840, shapeCast S1x72x1280 (fptosi 8 (Block.q4 x0 x1 x2 x3 x4 1 3)) shapeCasts_S72x1280_S1x72x1280⟩,
    ⟨Rect.unit ![1, 0, 2560] S1x72x1280.size inb_S4x72x5120_S1x72x1280_1_0_2560, shapeCast S1x72x1280 (fptosi 8 (Block.q4 x0 x1 x2 x3 x4 1 2)) shapeCasts_S72x1280_S1x72x1280⟩,
    ⟨Rect.unit ![1, 0, 1280] S1x72x1280.size inb_S4x72x5120_S1x72x1280_1_0_1280, shapeCast S1x72x1280 (fptosi 8 (Block.q4 x0 x1 x2 x3 x4 1 1)) shapeCasts_S72x1280_S1x72x1280⟩,
    ⟨Rect.unit ![1, 0, 0] S1x72x1280.size inb_S4x72x5120_S1x72x1280_1_0_0, shapeCast S1x72x1280 (fptosi 8 (Block.q4 x0 x1 x2 x3 x4 1 0)) shapeCasts_S72x1280_S1x72x1280⟩,
    ⟨Rect.unit ![0, 0, 3840] S1x72x1280.size inb_S4x72x5120_S1x72x1280_0_0_3840, shapeCast S1x72x1280 (fptosi 8 (Block.q4 x0 x1 x2 x3 x4 0 3)) shapeCasts_S72x1280_S1x72x1280⟩,
    ⟨Rect.unit ![0, 0, 2560] S1x72x1280.size inb_S4x72x5120_S1x72x1280_0_0_2560, shapeCast S1x72x1280 (fptosi 8 (Block.q4 x0 x1 x2 x3 x4 0 2)) shapeCasts_S72x1280_S1x72x1280⟩,
    ⟨Rect.unit ![0, 0, 1280] S1x72x1280.size inb_S4x72x5120_S1x72x1280_0_0_1280, shapeCast S1x72x1280 (fptosi 8 (Block.q4 x0 x1 x2 x3 x4 0 1)) shapeCasts_S72x1280_S1x72x1280⟩,
    ⟨Rect.unit ![0, 0, 0] S1x72x1280.size inb_S4x72x5120_S1x72x1280_0_0_0, shapeCast S1x72x1280 (fptosi 8 (Block.q4 x0 x1 x2 x3 x4 0 0)) shapeCasts_S72x1280_S1x72x1280⟩] : List (View.Piece (Elt F) S4x72x5120 .i8)) := by
  unfold kernelRun0_A
  dsimp only
  simp only [kernelRun0_A.sl.cst_139, kernelRun0_A.sl.cst_487, kernelRun0_A.sl.r_100, kernelRun0_A.sl.r_101, kernelRun0_A.sl.r_102, kernelRun0_A.sl.r_106, kernelRun0_A.sl.r_109, kernelRun0_A.sl.r_110, kernelRun0_A.sl.r_111, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_122, kernelRun0_A.sl.r_125, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_78, kernelRun0_A.sl.r_80, kernelRun0_A.sl.r_82, kernelRun0_A.sl.r_83, kernelRun0_A.sl.r_84, kernelRun0_A.sl.r_85, kernelRun0_A.sl.r_86, kernelRun0_A.sl.r_87, kernelRun0_A.sl.r_94, kernelRun0_A.sl.r_96, kernelRun0_A.sl.r_97, kernelRun0_A.sl.r_98, kernelRun0_A.sl.r_99, w_r, w_r_103, w_r_120, w_r_59, w_r_60, w_r_61, w_r_62, w_r_63, w_r_74, w_r_79, w_r_88, w_r_93, w_v1168, w_v1185, w_v1202, w_v1219, w_v1414, w_v1431, w_v1448, w_v1465, w_v1660, w_v1677, w_v1694, w_v1711, w_v922, w_v939, w_v956, w_v973, harg0.read_unread, harg1.read_unread, harg2.read_unread, harg3.read_unread, harg4.read_unread, View.readAt_eq_ld, View.ld_unit_zero (S := S32x1280) hz2, View.ld_unit_zero (S := S20x64x1280) hz3, shapeCast_self]
  rfl

/-- What the body stores for output 13, the hidden scales, last store first. -/
theorem pieces13 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.2.1 = ([⟨Rect.unit ![0, 0] S4x128.size inb_S4x128_S4x128_0_0, concatenate S4x128 0 [⟨S1x128, colRow (Block.s4 x0 x1 x2 x3 x4 0)⟩, ⟨S1x128, colRow (Block.s4 x0 x1 x2 x3 x4 1)⟩, ⟨S1x128, colRow (Block.s4 x0 x1 x2 x3 x4 2)⟩, ⟨S1x128, colRow (Block.s4 x0 x1 x2 x3 x4 3)⟩] concatenates_S1x128_S1x128_S1x128_S1x128_S4x128_d0⟩] : List (View.Piece (Elt F) S4x128 .f32)) := by
  unfold kernelRun0_A
  dsimp only
  simp only [w_r_104, w_r_121, w_r_75, w_r_89, harg0.read_unread, harg1.read_unread, harg2.read_unread, harg3.read_unread, harg4.read_unread, View.readAt_eq_ld, View.ld_unit_zero (S := S32x1280) hz2, View.ld_unit_zero (S := S20x64x1280) hz3, shapeCast_self]
  rfl

/-- What the body stores for output 14, the layer's output, last store first. -/
theorem pieces14 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.2.2.1 = ([⟨Rect.unit ![3, 0, 0] S1x72x1280.size inb_S4x72x1280_S1x72x1280_3_0_0, shapeCast S1x72x1280 (Block.out x0 x1 x2 x3 x4 x5 3) shapeCasts_S72x1280_S1x72x1280⟩,
    ⟨Rect.unit ![2, 0, 0] S1x72x1280.size inb_S4x72x1280_S1x72x1280_2_0_0, shapeCast S1x72x1280 (Block.out x0 x1 x2 x3 x4 x5 2) shapeCasts_S72x1280_S1x72x1280⟩,
    ⟨Rect.unit ![1, 0, 0] S1x72x1280.size inb_S4x72x1280_S1x72x1280_1_0_0, shapeCast S1x72x1280 (Block.out x0 x1 x2 x3 x4 x5 1) shapeCasts_S72x1280_S1x72x1280⟩,
    ⟨Rect.unit ![0, 0, 0] S1x72x1280.size inb_S4x72x1280_S1x72x1280_0_0_0, shapeCast S1x72x1280 (Block.out x0 x1 x2 x3 x4 x5 0) shapeCasts_S72x1280_S1x72x1280⟩] : List (View.Piece (Elt F) S4x72x1280 .bf16)) := by
  unfold kernelRun0_A
  dsimp only
  simp only [kernelRun0_A.sl.cst_139, kernelRun0_A.sl.cst_487, kernelRun0_A.sl.r_100, kernelRun0_A.sl.r_101, kernelRun0_A.sl.r_102, kernelRun0_A.sl.r_105, kernelRun0_A.sl.r_107, kernelRun0_A.sl.r_108, kernelRun0_A.sl.r_109, kernelRun0_A.sl.r_110, kernelRun0_A.sl.r_111, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_122, kernelRun0_A.sl.r_123, kernelRun0_A.sl.r_124, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_76, kernelRun0_A.sl.r_77, kernelRun0_A.sl.r_78, kernelRun0_A.sl.r_80, kernelRun0_A.sl.r_82, kernelRun0_A.sl.r_83, kernelRun0_A.sl.r_84, kernelRun0_A.sl.r_85, kernelRun0_A.sl.r_86, kernelRun0_A.sl.r_87, kernelRun0_A.sl.r_90, kernelRun0_A.sl.r_91, kernelRun0_A.sl.r_92, kernelRun0_A.sl.r_94, kernelRun0_A.sl.r_96, kernelRun0_A.sl.r_97, kernelRun0_A.sl.r_98, kernelRun0_A.sl.r_99, w_r, w_r_10, w_r_103, w_r_120, w_r_15, w_r_20, w_r_59, w_r_6, w_r_60, w_r_61, w_r_62, w_r_63, w_r_74, w_r_79, w_r_88, w_r_93, w_v1168, w_v1185, w_v1202, w_v1219, w_v1414, w_v1431, w_v1448, w_v1465, w_v1660, w_v1677, w_v1694, w_v1711, w_v922, w_v939, w_v956, w_v973, harg0.read_unread, harg1.read_unread, harg2.read_unread, harg3.read_unread, harg4.read_unread, harg5.read_unread, View.readAt_eq_ld, View.ld_unit_zero (S := S32x1280) hz2, View.ld_unit_zero (S := S20x64x1280) hz3, shapeCast_self]
  rfl

end Cert.KernelIdeal.Pieces

end
-- ==== Proof.Spec.lean ====
/-
  WHAT THE BLOCK COMPUTES, on one row of one beam, over the extended reals: the quantiser, the layer norm, the scaled product,
  the exact gelu, and the feed-forward part of a decoder layer built from them. Nothing here is about either program; the two
  programs are read to these functions in `Proof/BeamValue.lean` and `Proof/RefRead.lean`. With them the laws that carry one
  way of computing a value to the other: sums and maxima in blocks, and a code being a whole number of at most 127 in size.
-/
module

public import Idealize.ShloMosaic.Lib.Pointwise

@[expose] public section

noncomputable section

namespace Cert.Spec

open Idealize.ShloMosaic

/-! ## The functions -/

/-- The largest absolute value of a row. -/
def amax {n : Nat} (x : Fin n → EReal) : EReal := Finset.univ.sup fun i => max (x i) (-x i)

/-- The quantiser's scale of a row whose largest absolute value is `a`: `a / 127`, and 1 where `a` is 0. -/
def scale (a : EReal) : EReal := if a = 0 then 1 else a * ((1 / 127 : ℝ) : EReal)

/-- A value's code under the scale `s`: divided, rounded to the nearest even integer, clipped to ±127. -/
def code (x s : EReal) : EReal :=
  min ((127 : ℝ) : EReal) (max ((-127 : ℝ) : EReal) (Ideal.liftRound Ideal.roundHalfEven (Ideal.div x s)))

/-- The mean of 1280 values. -/
def mean (x : Fin 1280 → EReal) : EReal := (∑ i, x i) * ((1 / 1280 : ℝ) : EReal)

/-- A row less its mean. -/
def centred (x : Fin 1280 → EReal) (i : Fin 1280) : EReal := x i - mean x

/-- The layer norm of a row, with gain `g`, shift `b` and the printed epsilon. -/
def layerNorm (x g b : Fin 1280 → EReal) (i : Fin 1280) : EReal :=
  centred x i * Ideal.rsqrt (mean (fun k => centred x k * centred x k) + Ideal.ofBits .f32 0x3727C5AC#32) * g i + b i

/-- A row of codes against a matrix of weights, rescaled: the sum of products, times the row's scale times the column's, plus
    the column's bias. -/
def linear {n m : Nat} (q : Fin n → EReal) (s : EReal) (w : Fin n → Fin m → EReal) (cs cb : Fin m → EReal) (j : Fin m) : EReal :=
  (∑ k, q k * w k j) * (s * cs j) + cb j

/-- The exact gelu by the error function, with the printed constants 1/2 and √(1/2). -/
def gelu (f : EReal) : EReal :=
  Ideal.ofBits .f32 0x3F000000#32 * f * (1 + Ideal.erf (f * Ideal.ofBits .f32 0x3F3504F3#32))

/-- A row's scale. -/
def rowScale {n : Nat} (x : Fin n → EReal) : EReal := scale (amax x)

/-- A row's codes. -/
def rowCode {n : Nat} (x : Fin n → EReal) (i : Fin n) : EReal := code (x i) (rowScale x)

/-- The residual stream after a projection: the row `x` quantised, multiplied by the matrix `w`, rescaled, and added to the
    row `h`. -/
def resid {n : Nat} (x : Fin n → EReal) (h : Fin 1280 → EReal) (w : Fin n → Fin 1280 → EReal) (cs cb : Fin 1280 → EReal) (j : Fin 1280) : EReal :=
  h j + linear (rowCode x) (rowScale x) w cs cb j

/-- The hidden row: the normalised row `v` quantised, multiplied by the first feed-forward matrix, rescaled, gelu. -/
def hidden {m : Nat} (v : Fin 1280 → EReal) (w : Fin 1280 → Fin m → EReal) (cs cb : Fin m → EReal) (j : Fin m) : EReal :=
  gelu (linear (rowCode v) (rowScale v) w cs cb j)

/-- The inputs as plain functions: the attention rows `x` and the residual rows `h` by beam and sequence, the layer norm's gain
    and shift, and weights, scales and biases of the three projections. -/
structure Inputs where
  x : Fin 4 → Fin 72 → Fin 1280 → EReal
  h : Fin 4 → Fin 72 → Fin 1280 → EReal
  g : Fin 1280 → EReal
  b : Fin 1280 → EReal
  wco : Fin 1280 → Fin 1280 → EReal
  sco : Fin 1280 → EReal
  bco : Fin 1280 → EReal
  w1 : Fin 1280 → Fin 5120 → EReal
  s1 : Fin 5120 → EReal
  b1 : Fin 5120 → EReal
  w2 : Fin 5120 → Fin 1280 → EReal
  s2 : Fin 1280 → EReal
  b2 : Fin 1280 → EReal

namespace Inputs
variable (I : Inputs) (j : Fin 4) (r : Fin 72)
/-- The residual row after the attention output's projection. -/
def h2 : Fin 1280 → EReal := resid (I.x j r) (I.h j r) I.wco I.sco I.bco
/-- Its layer norm. -/
def ln : Fin 1280 → EReal := layerNorm (I.h2 j r) I.g I.b
/-- The hidden row. -/
def hid : Fin 5120 → EReal := hidden (I.ln j r) I.w1 I.s1 I.b1
/-- The layer's output row. -/
def out : Fin 1280 → EReal := resid (I.hid j r) (I.h2 j r) I.w2 I.s2 I.b2
end Inputs

/-! ## The laws -/

/-- `0 ≤ max x (-x)`. -/
theorem abs_nonneg (x : EReal) : 0 ≤ max x (-x) := by
  rcases le_total 0 x with h | h
  · exact le_max_of_le_left h
  · exact le_max_of_le_right (EReal.neg_nonneg.mpr h)

/-- A row's largest absolute value is at least 0. -/
theorem amax_nonneg {n : Nat} (hn : 0 < n) (x : Fin n → EReal) : 0 ≤ amax x :=
  (abs_nonneg (x ⟨0, hn⟩)).trans (Finset.le_sup (f := fun i => max (x i) (-x i)) (Finset.mem_univ _))

/-- A code is a whole number of at most 127 in size. -/
theorem code_int (x s : EReal) : ∃ n : ℤ, -127 ≤ n ∧ n ≤ 127 ∧ code x s = ((n : ℝ) : EReal) := by
  unfold code
  generalize Ideal.div x s = v
  induction v with
  | bot => exact ⟨-127, by norm_num, by norm_num, by
      simp only [Ideal.liftRound_bot, bot_le, max_eq_left]
      rw [min_eq_right (by exact_mod_cast (by norm_num : (-127 : ℝ) ≤ 127))]; norm_num⟩
  | top => exact ⟨127, by norm_num, by norm_num, by
      simp only [Ideal.liftRound_top, le_top, max_eq_right, min_eq_left]; norm_num⟩
  | coe r =>
    refine ⟨min 127 (max (-127) (Ideal.roundHalfEven r)), by omega, by omega, ?_⟩
    rw [Ideal.liftRound_coe]
    push_cast
    rfl

/-- So a code written as an int8 and read back is the same value. -/
theorem code_cast (x s : EReal) : (((Ideal.fptosi 8 (code x s)).toInt : ℝ) : EReal) = code x s := by
  obtain ⟨n, h1, h2, h⟩ := code_int x s
  rw [h]
  unfold Ideal.fptosi
  rw [Ideal.toIntClamped_coe]
  have e : (if (0 : ℝ) ≤ (n : ℝ) then ⌊(n : ℝ)⌋ else ⌈(n : ℝ)⌉) = n := by simp
  rw [e]
  have e2 : max (-((2 ^ (8 - 1) : Nat) : ℤ)) (min (((2 ^ (8 - 1) : Nat) : ℤ) - 1) n) = n := by norm_num; omega
  rw [e2, BitVec.toInt_ofInt_eq_self (by norm_num) (by norm_num; omega) (by norm_num; omega)]

/-- A sum over `m * n` values, taken by residue: the values `j, n + j, 2 n + j, …` for each `j`. -/
theorem sum_residues (m n N : Nat) (hN : m * n = N) (f : Fin N → EReal) :
    ∑ i, f i = ∑ j : Fin n, ∑ t : Fin m, f ⟨n * t.val + j.val, by
      rw [← hN, mul_comm m n]; exact lt_of_lt_of_le (Nat.add_lt_add_left j.isLt _) (by rw [← Nat.mul_succ]; exact Nat.mul_le_mul_left _ t.isLt)⟩ := by
  subst hN
  rw [Finset.sum_comm, ← Fintype.sum_prod_type', ← Equiv.sum_comp finProdFinEquiv]
  exact Finset.sum_congr rfl fun p _ => congrArg f (Fin.ext (by simp [finProdFinEquiv, Nat.add_comm]))

/-- A sum over 5120 values, taken in four blocks of 1280 from 0 on. -/
theorem sum_blocks (f : Fin 5120 → EReal) :
    ∑ i, f i = (((0 + ∑ l : Fin 1280, f ⟨l.val, by omega⟩) + ∑ l : Fin 1280, f ⟨1280 + l.val, by omega⟩)
      + ∑ l : Fin 1280, f ⟨2560 + l.val, by omega⟩) + ∑ l : Fin 1280, f ⟨3840 + l.val, by omega⟩ := by
  rw [sum_residues 4 1280 5120 rfl f, Finset.sum_comm, Fin.sum_univ_four, zero_add]
  rfl

/-- A largest absolute value over 5120 values, taken in four blocks of 1280 from 0 up. -/
theorem amax_blocks (f : Fin 5120 → EReal) :
    amax f = max (max (max (max 0 (amax fun l : Fin 1280 => f ⟨l.val, by omega⟩)) (amax fun l : Fin 1280 => f ⟨1280 + l.val, by omega⟩))
      (amax fun l : Fin 1280 => f ⟨2560 + l.val, by omega⟩)) (amax fun l : Fin 1280 => f ⟨3840 + l.val, by omega⟩) := by
  have up : ∀ i : Fin 5120, max (f i) (-f i) ≤ amax f := fun i => Finset.le_sup (f := fun i => max (f i) (-f i)) (Finset.mem_univ i)
  have part : ∀ (n : Nat) (e : Fin n → Fin 5120), amax (fun l => f (e l)) ≤ amax f := fun n e => Finset.sup_le fun l _ => up (e l)
  have lo : ∀ (n : Nat) (e : Fin n → Fin 5120) (l : Fin n), max (f (e l)) (-f (e l)) ≤ amax (fun l => f (e l)) := fun n e l =>
    Finset.le_sup (f := fun l => max (f (e l)) (-f (e l))) (Finset.mem_univ l)
  apply le_antisymm
  · refine Finset.sup_le fun i _ => ?_
    have hi := i.isLt
    rcases Nat.lt_or_ge i.val 1280 with h | h
    · exact (lo 1280 (fun l => ⟨l.val, by omega⟩) ⟨i.val, h⟩).trans (by simp)
    rcases Nat.lt_or_ge i.val 2560 with h' | h'
    · have e : (⟨1280 + (i.val - 1280), by omega⟩ : Fin 5120) = i := Fin.ext (by dsimp only; omega)
      have := lo 1280 (fun l => ⟨1280 + l.val, by omega⟩) ⟨i.val - 1280, by omega⟩
      dsimp only at this; rw [e] at this; exact this.trans (by simp)
    rcases Nat.lt_or_ge i.val 3840 with h'' | h''
    · have e : (⟨2560 + (i.val - 2560), by omega⟩ : Fin 5120) = i := Fin.ext (by dsimp only; omega)
      have := lo 1280 (fun l => ⟨2560 + l.val, by omega⟩) ⟨i.val - 2560, by omega⟩
      dsimp only at this; rw [e] at this; exact this.trans (by simp)
    · have e : (⟨3840 + (i.val - 3840), by omega⟩ : Fin 5120) = i := Fin.ext (by dsimp only; omega)
      have := lo 1280 (fun l => ⟨3840 + l.val, by omega⟩) ⟨i.val - 3840, by omega⟩
      dsimp only at this; rw [e] at this; exact this.trans (by simp)
  · exact max_le (max_le (max_le (max_le (amax_nonneg (by omega) f) (part _ _)) (part _ _)) (part _ _)) (part _ _)

/-! ## The constants -/

theorem bits_neg_inf : Ideal.ofBits .f32 0xFF800000#32 = ⊥ := by simp [Ideal.ofBits, Ideal.ieee]
theorem bits_127 : Ideal.ofBits .f32 0x42FE0000#32 = ((127 : ℝ) : EReal) := by
  simp [Ideal.ofBits, Ideal.ieee, -EReal.coe_mul]; norm_num
theorem bits_neg_127 : Ideal.ofBits .f32 0xC2FE0000#32 = ((-127 : ℝ) : EReal) := by
  simp [Ideal.ofBits, Ideal.ieee, -EReal.coe_mul]; norm_num
theorem bits_1280 : Ideal.ofBits .f32 0x44A00000#32 = ((1280 : ℝ) : EReal) := by
  simp [Ideal.ofBits, Ideal.ieee, -EReal.coe_mul]; norm_num

/-- Division by 127 is multiplication by 1/127. -/
theorem div_127 (a : EReal) : Ideal.div a ((127 : ℝ) : EReal) = a * ((1 / 127 : ℝ) : EReal) := Ideal.div_coe (by norm_num) a
/-- Division by 1280 is multiplication by 1/1280. -/
theorem div_1280 (a : EReal) : Ideal.div a ((1280 : ℝ) : EReal) = a * ((1 / 1280 : ℝ) : EReal) := Ideal.div_coe (by norm_num) a

end Cert.Spec

end
-- ==== Proof.BeamValue.lean ====
/-
  WHAT THE BEAM'S FUNCTIONS COMPUTE at `Ideal`: each function of `Proof/Beam.lean`, read at an entry, is the function of
  `Proof/Spec.lean` of the same name on that row.
-/
module

public import proofs.«01_k».proof.Proof.Beam
public import proofs.«01_k».proof.Proof.Spec

@[expose] public section

set_option maxRecDepth 16384

noncomputable section

namespace Cert.KernelIdeal.Beam

open Idealize.ShloMosaic Cert.KernelIdeal Cert.KernelIdeal.Gen

/-- The ideal reading of the named 1/127. -/
theorem inv_127 : (Named.named κ "inv_127" 0x3C010204#32 : Ideal .f32) = ((1 / 127 : ℝ) : EReal) :=
  IdealRules.named_const.ideal_named_scalar _ _ _ _ rfl

/-- The ideal reading of the named 1/1280. -/
theorem inv_d : (Named.named κ "inv_d" 0x3A4CCCCD#32 : Ideal .f32) = ((1 / 1280 : ℝ) : EReal) :=
  IdealRules.named_const.ideal_named_scalar _ _ _ _ rfl

theorem amax_at (x : FVec Ideal S72x1280 .f32) (r : Fin 72) : amax x (ix2 r 0) = Spec.amax fun k => x (ix2 r k) := by
  pointwise [amax]
  rw [Spec.bits_neg_inf]
  rfl

theorem scaleOf_at (a : FVec Ideal S72x1 .f32) (r : Fin 72) : scaleOf a (ix2 r 0) = Spec.scale (a (ix2 r 0)) := by
  pointwise [scaleOf]
  erw [inv_127]
  rfl

theorem codes_at (x : FVec Ideal S72x1280 .f32) (a : FVec Ideal S72x1 .f32) (r : Fin 72) (l : Fin 1280) :
    codes x a (ix2 r l) = Spec.code (x (ix2 r l)) (a (ix2 r 0)) := by
  pointwise [codes]
  rw [Spec.bits_127, Spec.bits_neg_127]
  rfl

theorem colRow_at (a : FVec Ideal S72x1 .f32) (l : Fin 128) :
    colRow a (ix2 0 l) = if h : l.val < 72 then a (ix2 ⟨l.val, h⟩ 0) else 0 := by
  pointwise [colRow]

theorem prod_at (x : FVec Ideal S72x1280 .f32) (w : FVec Ideal S1280x1280 .bf16) (r : Fin 72) (l : Fin 1280) :
    prod x w (ix2 r l) = ∑ k, x (ix2 r k) * w (ix2 k l) := by
  pointwise [prod]

theorem rescale_at (x : FVec Ideal S72x1280 .f32) (s : FVec Ideal S72x1 .f32) (cs cb : FVec Ideal S1x1280 .f32) (r : Fin 72) (l : Fin 1280) :
    rescale x s cs cb (ix2 r l) = x (ix2 r l) * (s (ix2 r 0) * cs (ix2 0 l)) + cb (ix2 0 l) := by
  pointwise [rescale]

theorem laneSum_at (x : FVec Ideal S72x1280 .f32) (r : Fin 72) (l : Fin 128) :
    laneSum x (ix2 r l) = ∑ t : Fin 10, x (ix2 r ⟨128 * t.val + l.val, by omega⟩) := by
  pointwise [laneSum]
  simp [Fin.sum_univ_succ, ← add_assoc]

theorem turned_at (x : FVec Ideal S72x128 .f32) (p l : Fin 128) :
    turned x (ix2 p l) = if h : l.val < 72 then x (ix2 ⟨l.val, h⟩ p) else 0 := by
  pointwise [turned]

theorem eightSum_at (x : FVec Ideal S128x128 .f32) (r : Fin 8) (l : Fin 128) :
    eightSum x (ix2 r l) = ∑ t : Fin 16, x (ix2 ⟨8 * t.val + r.val, by omega⟩ l) := by
  pointwise [eightSum]
  simp [Fin.sum_univ_succ, ← add_assoc]

theorem halve_at (x : FVec Ideal S8x128 .f32) (l : Fin 128) : halve x (ix2 0 l) = ∑ t : Fin 8, x (ix2 t l) := by
  pointwise [halve]
  simp only [Fin.sum_univ_succ, Fin.sum_univ_zero, add_zero]
  show x (ix2 0 l) + x (ix2 4 l) + (x (ix2 2 l) + x (ix2 6 l)) + (x (ix2 1 l) + x (ix2 5 l) + (x (ix2 3 l) + x (ix2 7 l)))
    = x (ix2 0 l) + (x (ix2 1 l) + (x (ix2 2 l) + (x (ix2 3 l) + (x (ix2 4 l) + (x (ix2 5 l) + (x (ix2 6 l) + x (ix2 7 l)))))))
  abel

/-- The lanewise way of adding up a row gives the row's sum. -/
theorem rowSums_at (x : FVec Ideal S72x1280 .f32) (r : Fin 72) :
    rowSums x (ix2 0 ⟨r.val, by omega⟩) = ∑ k, x (ix2 r k) := by
  rw [Spec.sum_residues 10 128 1280 rfl, Spec.sum_residues 16 8 128 rfl]
  unfold rowSums
  rw [halve_at]
  refine Finset.sum_congr rfl fun j _ => ?_
  rw [eightSum_at]
  refine Finset.sum_congr rfl fun t _ => ?_
  rw [turned_at, dif_pos (show (⟨r.val, by omega⟩ : Fin 128).val < 72 from r.isLt), laneSum_at]

theorem mean0_at (r0 r1 r2 r3 : FVec Ideal S1x128 .f32) (r : Fin 72) :
    mean0 (sumCols r0 r1 r2 r3) (ix2 r 0) = r0 (ix2 0 ⟨r.val, by omega⟩) * ((1 / 1280 : ℝ) : EReal) := by
  pointwise [mean0, sumCols]; erw [inv_d]
theorem mean1_at (r0 r1 r2 r3 : FVec Ideal S1x128 .f32) (r : Fin 72) :
    mean1 (sumCols r0 r1 r2 r3) (ix2 r 0) = r1 (ix2 0 ⟨r.val, by omega⟩) * ((1 / 1280 : ℝ) : EReal) := by
  pointwise [mean1, sumCols]; erw [inv_d]
theorem mean2_at (r0 r1 r2 r3 : FVec Ideal S1x128 .f32) (r : Fin 72) :
    mean2 (sumCols r0 r1 r2 r3) (ix2 r 0) = r2 (ix2 0 ⟨r.val, by omega⟩) * ((1 / 1280 : ℝ) : EReal) := by
  pointwise [mean2, sumCols]; erw [inv_d]
theorem mean3_at (r0 r1 r2 r3 : FVec Ideal S1x128 .f32) (r : Fin 72) :
    mean3 (sumCols r0 r1 r2 r3) (ix2 r 0) = r3 (ix2 0 ⟨r.val, by omega⟩) * ((1 / 1280 : ℝ) : EReal) := by
  pointwise [mean3, sumCols]; erw [inv_d]

theorem centred_at (x : FVec Ideal S72x1280 .f32) (mu : FVec Ideal S72x1 .f32) (r : Fin 72) (l : Fin 1280) :
    centred x mu (ix2 r l) = x (ix2 r l) - mu (ix2 r 0) := by
  pointwise [centred]

theorem normed_at (d : FVec Ideal S72x1280 .f32) (var : FVec Ideal S72x1 .f32) (g b : FVec Ideal S1x1280 .f32) (r : Fin 72) (l : Fin 1280) :
    normed d var g b (ix2 r l) = d (ix2 r l) * Ideal.rsqrt (var (ix2 r 0) + Ideal.ofBits .f32 0x3727C5AC#32) * g (ix2 0 l) + b (ix2 0 l) := by
  pointwise [normed]

theorem gelu_at (f : FVec Ideal S72x1280 .f32) (r : Fin 72) (l : Fin 1280) : gelu f (ix2 r l) = Spec.gelu (f (ix2 r l)) := by
  pointwise [gelu]
  rfl

theorem wide_at (h : FVec Ideal S72x1280 .bf16) (r : Fin 72) (l : Fin 1280) : wide h (ix2 r l) = h (ix2 r l) := by
  pointwise [wide]

theorem amax4_at (h0 h1 h2 h3 : FVec Ideal S72x1280 .bf16) (r : Fin 72) :
    amax4 h0 h1 h2 h3 (ix2 r 0) = max (max (max (max 0 (Spec.amax fun k => h0 (ix2 r k))) (Spec.amax fun k => h1 (ix2 r k)))
      (Spec.amax fun k => h2 (ix2 r k))) (Spec.amax fun k => h3 (ix2 r k)) := by
  have e : ∀ h : FVec Ideal S72x1280 .bf16, amax (wide h) (ix2 r 0) = Spec.amax fun k => h (ix2 r k) := fun h => by
    rw [amax_at]; simp only [wide_at]
  rw [← e h0, ← e h1, ← e h2, ← e h3]
  pointwise [amax4]

theorem prod4_at (q0 q1 q2 q3 : FVec Ideal S72x1280 .f32) (w0 w1 w2 w3 : IVec S1280x1280 8) (r : Fin 72) (l : Fin 1280) :
    prod4 q0 q1 q2 q3 w0 w1 w2 w3 (ix2 r l)
      = (((0 + ∑ k, q0 (ix2 r k) * (((w0 (ix2 k l)).toInt : ℝ) : EReal)) + ∑ k, q1 (ix2 r k) * (((w1 (ix2 k l)).toInt : ℝ) : EReal))
        + ∑ k, q2 (ix2 r k) * (((w2 (ix2 k l)).toInt : ℝ) : EReal)) + ∑ k, q3 (ix2 r k) * (((w3 (ix2 k l)).toInt : ℝ) : EReal) := by
  have e : ∀ (q : FVec Ideal S72x1280 .f32) (w : IVec S1280x1280 8),
      prod q (sitofp .bf16 w) (ix2 r l) = ∑ k, q (ix2 r k) * (((w (ix2 k l)).toInt : ℝ) : EReal) := fun q w => by
    rw [prod_at]; rfl
  rw [← e q0, ← e q1, ← e q2, ← e q3]
  pointwise [prod4]

end Cert.KernelIdeal.Beam

end
-- ==== Proof.BlockValue.lean ====
/-
  WHAT THE BODY COMPUTES at `Ideal`: each value of `Proof/Block.lean`, read at row `r` of beam `j`, is the function of
  `Proof/Spec.lean` of the inputs the six blocks hold (`inputs`).
-/
module

public import proofs.«01_k».proof.Proof.Block
public import proofs.«01_k».proof.Proof.BeamValue

@[expose] public section

set_option maxRecDepth 16384

noncomputable section

namespace Cert.KernelIdeal.Block

open Idealize.ShloMosaic Cert.KernelIdeal Cert.KernelIdeal.Gen Cert.KernelIdeal.Beam

theorem slab_at (x : Vec Ideal S4x72x1280 .f32) (j : Fin 4) (r : Fin 72) (k : Fin 1280) : slab x j (ix2 r k) = x (ix3 j r k) := by
  fin_cases j <;> (dsimp only; pointwise [slab])

theorem fc1_at (x : IVec S1280x5120 8) (n : Fin 4) (k l : Fin 1280) :
    fc1 (F := Ideal) x n (ix2 k l) = x (ix2 k ⟨1280 * n.val + l.val, by omega⟩) := by
  fin_cases n <;> (dsimp only; pointwise [fc1])

theorem fc2_at (x : IVec S5120x1280 8) (n : Fin 4) (k l : Fin 1280) :
    fc2 (F := Ideal) x n (ix2 k l) = x (ix2 ⟨1280 * n.val + k.val, by omega⟩ l) := by
  fin_cases n <;> (dsimp only; pointwise [fc2])

theorem fc1Scale_at (x : FVec Ideal S32x1280 .f32) (n : Fin 4) (l : Fin 1280) :
    fc1Scale x n (ix2 0 l) = x (ix2 ⟨19 + n.val, by omega⟩ l) := by
  fin_cases n <;> (dsimp only; pointwise [fc1Scale])

theorem fc1Bias_at (x : FVec Ideal S32x1280 .f32) (n : Fin 4) (l : Fin 1280) :
    fc1Bias x n (ix2 0 l) = x (ix2 ⟨23 + n.val, by omega⟩ l) := by
  fin_cases n <;> (dsimp only; pointwise [fc1Bias])

theorem wco_at (x : IVec S20x64x1280 8) (k l : Fin 1280) :
    (wco x : FVec Ideal S1280x1280 .bf16) (ix2 k l) = (((x (ix3 ⟨k.val / 64, by omega⟩ ⟨k.val % 64, by omega⟩ l)).toInt : ℝ) : EReal) := by
  pointwise [wco]
  rfl

/-- The inputs the six blocks hold: the parameter rows at their places in the packed array, the attention output's weights with
    head and lane of the head taken together. -/
def inputs (x0 x1 : Vec Ideal S4x72x1280 .f32) (x2 : FVec Ideal S32x1280 .f32) (x3 : IVec S20x64x1280 8) (x4 : IVec S1280x5120 8)
    (x5 : IVec S5120x1280 8) : Spec.Inputs where
  x := fun j r k => x0 (ix3 j r k)
  h := fun j r k => x1 (ix3 j r k)
  g := fun l => x2 (ix2 9 l)
  b := fun l => x2 (ix2 10 l)
  wco := fun k l => (((x3 (ix3 ⟨k.val / 64, by omega⟩ ⟨k.val % 64, by omega⟩ l)).toInt : ℝ) : EReal)
  sco := fun l => x2 (ix2 15 l)
  bco := fun l => x2 (ix2 16 l)
  w1 := fun k l => (((x4 (ix2 k l)).toInt : ℝ) : EReal)
  s1 := fun l => x2 (ix2 ⟨19 + l.val / 1280, by omega⟩ ⟨l.val % 1280, by omega⟩)
  b1 := fun l => x2 (ix2 ⟨23 + l.val / 1280, by omega⟩ ⟨l.val % 1280, by omega⟩)
  w2 := fun k l => (((x5 (ix2 k l)).toInt : ℝ) : EReal)
  s2 := fun l => x2 (ix2 17 l)
  b2 := fun l => x2 (ix2 18 l)

variable (x0 x1 : Vec Ideal S4x72x1280 .f32) (x2 : FVec Ideal S32x1280 .f32) (x3 : IVec S20x64x1280 8) (x4 : IVec S1280x5120 8)
  (x5 : IVec S5120x1280 8) (j : Fin 4) (r : Fin 72) (l : Fin 1280)

/-- A sum of two arrays, read at an entry. -/
theorem addf_at (a b : FVec Ideal S72x1280 .f32) : addf a b (ix2 r l) = a (ix2 r l) + b (ix2 r l) := rfl
/-- A product of two arrays, read at an entry. -/
theorem mulf_at (a b : FVec Ideal S72x1280 .f32) : mulf a b (ix2 r l) = a (ix2 r l) * b (ix2 r l) := rfl
/-- A row of the packed parameters, read at an entry. -/
theorem row15_at (x : FVec Ideal S32x1280 .f32) : extractStridedSlice S1x1280 ![15, 0] x slices_S32x1280_o15_0_S1x1280 (ix2 0 l) = x (ix2 15 l) := by pointwise
theorem row16_at (x : FVec Ideal S32x1280 .f32) : extractStridedSlice S1x1280 ![16, 0] x slices_S32x1280_o16_0_S1x1280 (ix2 0 l) = x (ix2 16 l) := by pointwise
theorem row9_at (x : FVec Ideal S32x1280 .f32) : extractStridedSlice S1x1280 ![9, 0] x slices_S32x1280_o9_0_S1x1280 (ix2 0 l) = x (ix2 9 l) := by pointwise
theorem row10_at (x : FVec Ideal S32x1280 .f32) : extractStridedSlice S1x1280 ![10, 0] x slices_S32x1280_o10_0_S1x1280 (ix2 0 l) = x (ix2 10 l) := by pointwise
theorem row17_at (x : FVec Ideal S32x1280 .f32) : extractStridedSlice S1x1280 ![17, 0] x slices_S32x1280_o17_0_S1x1280 (ix2 0 l) = x (ix2 17 l) := by pointwise
theorem row18_at (x : FVec Ideal S32x1280 .f32) : extractStridedSlice S1x1280 ![18, 0] x slices_S32x1280_o18_0_S1x1280 (ix2 0 l) = x (ix2 18 l) := by pointwise

/-- The means of the four beams' rows. -/
theorem meanOf_at (y : Fin 4 → FVec Ideal S72x1280 .f32) :
    meanOf (sumCols (rowSums (y 0)) (rowSums (y 1)) (rowSums (y 2)) (rowSums (y 3))) j (ix2 r 0) = Spec.mean fun k => y j (ix2 r k) := by
  unfold Spec.mean
  rw [← rowSums_at]
  fin_cases j
  · exact mean0_at ..
  · exact mean1_at ..
  · exact mean2_at ..
  · exact mean3_at ..

theorem s1_at : s1 x0 j (ix2 r 0) = Spec.rowScale ((inputs x0 x1 x2 x3 x4 x5).x j r) := by
  unfold s1 Spec.rowScale
  rw [scaleOf_at, amax_at]
  simp only [slab_at]
  rfl

theorem q1_at : q1 x0 j (ix2 r l) = Spec.rowCode ((inputs x0 x1 x2 x3 x4 x5).x j r) l := by
  unfold q1 Spec.rowCode
  rw [codes_at, s1_at x0 x1 x2 x3 x4 x5, slab_at]
  rfl

theorem h2_at : h2 x0 x1 x2 x3 j (ix2 r l) = (inputs x0 x1 x2 x3 x4 x5).h2 j r l := by
  unfold h2 Spec.Inputs.h2 Spec.resid Spec.linear
  rw [addf_at, rescale_at, prod_at, slab_at, row15_at, row16_at]
  simp only [q1_at x0 x1 x2 x3 x4 x5, s1_at x0 x1 x2 x3 x4 x5, wco_at]
  rfl

theorem dev_at : dev x0 x1 x2 x3 j (ix2 r l) = Spec.centred ((inputs x0 x1 x2 x3 x4 x5).h2 j r) l := by
  unfold dev Spec.centred sums
  rw [centred_at, meanOf_at j r (h2 x0 x1 x2 x3)]
  simp only [h2_at x0 x1 x2 x3 x4 x5]

theorem ln_at : ln x0 x1 x2 x3 j (ix2 r l) = (inputs x0 x1 x2 x3 x4 x5).ln j r l := by
  unfold ln Spec.Inputs.ln Spec.layerNorm sqSums
  rw [normed_at, meanOf_at j r (sq x0 x1 x2 x3), row9_at, row10_at]
  unfold sq
  simp only [mulf_at, dev_at x0 x1 x2 x3 x4 x5]
  rfl

theorem s3_at : s3 x0 x1 x2 x3 j (ix2 r 0) = Spec.rowScale ((inputs x0 x1 x2 x3 x4 x5).ln j r) := by
  unfold s3 Spec.rowScale
  rw [scaleOf_at, amax_at]
  simp only [ln_at x0 x1 x2 x3 x4 x5]

theorem q3_at : q3 x0 x1 x2 x3 j (ix2 r l) = Spec.rowCode ((inputs x0 x1 x2 x3 x4 x5).ln j r) l := by
  unfold q3 Spec.rowCode
  rw [codes_at, s3_at x0 x1 x2 x3 x4 x5, ln_at x0 x1 x2 x3 x4 x5]

theorem hid_at (n : Fin 4) : hid x0 x1 x2 x3 x4 j n (ix2 r l)
    = (inputs x0 x1 x2 x3 x4 x5).hid j r ⟨1280 * n.val + l.val, by omega⟩ := by
  unfold hid Beam.hidden Spec.Inputs.hid Spec.hidden Spec.linear
  rw [gelu_at, rescale_at, prod_at, fc1Scale_at, fc1Bias_at]
  have e1 : (1280 * n.val + l.val) / 1280 = n.val := by omega
  have e2 : (1280 * n.val + l.val) % 1280 = l.val := by omega
  have es : (inputs x0 x1 x2 x3 x4 x5).s1 ⟨1280 * n.val + l.val, by omega⟩ = x2 (ix2 ⟨19 + n.val, by omega⟩ l) := by
    show x2 (ix2 ⟨19 + (1280 * n.val + l.val) / 1280, _⟩ ⟨(1280 * n.val + l.val) % 1280, _⟩) = _
    simp only [e1, e2]
  have eb : (inputs x0 x1 x2 x3 x4 x5).b1 ⟨1280 * n.val + l.val, by omega⟩ = x2 (ix2 ⟨23 + n.val, by omega⟩ l) := by
    show x2 (ix2 ⟨23 + (1280 * n.val + l.val) / 1280, _⟩ ⟨(1280 * n.val + l.val) % 1280, _⟩) = _
    simp only [e1, e2]
  have ew : ∀ k, (sitofp .bf16 (fc1 (F := Ideal) x4 n) : FVec Ideal S1280x1280 .bf16) (ix2 k l)
      = (inputs x0 x1 x2 x3 x4 x5).w1 k ⟨1280 * n.val + l.val, by omega⟩ := fun k => by
    show (((fc1 (F := Ideal) x4 n (ix2 k l)).toInt : ℝ) : EReal) = _
    rw [fc1_at]; rfl
  simp only [q3_at x0 x1 x2 x3 x4 x5, s3_at x0 x1 x2 x3 x4 x5, es, eb, ew]

theorem s4_at : s4 x0 x1 x2 x3 x4 j (ix2 r 0) = Spec.rowScale ((inputs x0 x1 x2 x3 x4 x5).hid j r) := by
  unfold s4 Spec.rowScale
  rw [scaleOf_at, amax4_at, Spec.amax_blocks]
  simp only [hid_at x0 x1 x2 x3 x4 x5]
  simp

theorem q4_at (n : Fin 4) : q4 x0 x1 x2 x3 x4 j n (ix2 r l)
    = Spec.rowCode ((inputs x0 x1 x2 x3 x4 x5).hid j r) ⟨1280 * n.val + l.val, by omega⟩ := by
  unfold q4 Spec.rowCode
  rw [codes_at, s4_at x0 x1 x2 x3 x4 x5, wide_at, hid_at x0 x1 x2 x3 x4 x5]

theorem out_at : out x0 x1 x2 x3 x4 x5 j (ix2 r l) = (inputs x0 x1 x2 x3 x4 x5).out j r l := by
  unfold out Spec.Inputs.out Spec.resid Spec.linear
  show addf (F := Ideal) (s := S72x1280) (φ := .f32) _ _ (ix2 r l) = _
  rw [addf_at, rescale_at, prod4_at, row17_at, row18_at, Spec.sum_blocks, h2_at x0 x1 x2 x3 x4 x5, s4_at x0 x1 x2 x3 x4 x5]
  simp only [q4_at x0 x1 x2 x3 x4 x5, fc2_at]
  simp [inputs]

end Cert.KernelIdeal.Block

end
-- ==== Proof.Results.lean ====
/-
  THE NINE RESULT ARRAYS as functions of the inputs of `Proof/Spec.lean`, and those inputs as functions of the
  argument arrays: what both programs are shown to leave.
-/
module

public import proofs.«01_k».proof.Proof.Spec
public import Idealize.ShloMosaic.Lib.Pointwise

@[expose] public section

noncomputable section

namespace Cert.Spec

open Idealize.ShloMosaic

/-- The codes of the rows `v`, as an array [beam, sequence, channel]. -/
def codes {n : ℕ} (v : Fin 4 → Fin 72 → Fin n → EReal) : Vec Ideal ⟨3, ![4, 72, n]⟩ .i8 :=
  fun i => Ideal.fptosi 8 (rowCode (v (i 0) (i 1)) (i 2))

/-- The scales of the rows `v`, as an array [beam, sequence] padded with zeros to 128 lanes. -/
def scales {n : ℕ} (v : Fin 4 → Fin 72 → Fin n → EReal) : Vec Ideal ⟨2, ![4, 128]⟩ .f32 :=
  fun i => if h : (i 1).val < 72 then rowScale (v (i 0) ⟨(i 1).val, h⟩) else (0 : EReal)

/-- The rows `v` themselves, as an array [beam, sequence, channel]. -/
def rows {n : ℕ} (v : Fin 4 → Fin 72 → Fin n → EReal) : (⟨3, ![4, 72, n]⟩ : Shape).Idx → EReal :=
  fun i => v (i 0) (i 1) (i 2)

/-- The inputs held by the argument arrays: the attention's rows are given [sequence, beam, channel], the attention's output
    weight [head, channel of the head, channel]. -/
def ofArgs (a0 : Vec Ideal ⟨3, ![72, 4, 1280]⟩ .f32) (a1 : Vec Ideal ⟨3, ![4, 72, 1280]⟩ .f32) (g b : Vec Ideal ⟨1, ![1280]⟩ .f32)
    (wco : Vec Ideal ⟨3, ![20, 64, 1280]⟩ .i8) (sco bco : Vec Ideal ⟨1, ![1280]⟩ .f32) (w1 : Vec Ideal ⟨2, ![1280, 5120]⟩ .i8)
    (s1 b1 : Vec Ideal ⟨1, ![5120]⟩ .f32) (w2 : Vec Ideal ⟨2, ![5120, 1280]⟩ .i8) (s2 b2 : Vec Ideal ⟨1, ![1280]⟩ .f32) : Inputs where
  x := fun j r k => a0 (ix3 r j k)
  h := fun j r k => a1 (ix3 j r k)
  g := fun l => g (ix1 l)
  b := fun l => b (ix1 l)
  wco := fun k l => (((wco (ix3 ⟨k.val / 64, by omega⟩ ⟨k.val % 64, by omega⟩ l) : BitVec 8).toInt : ℝ) : EReal)
  sco := fun l => sco (ix1 l)
  bco := fun l => bco (ix1 l)
  w1 := fun k l => (((w1 (ix2 k l) : BitVec 8).toInt : ℝ) : EReal)
  s1 := fun l => s1 (ix1 l)
  b1 := fun l => b1 (ix1 l)
  w2 := fun k l => (((w2 (ix2 k l) : BitVec 8).toInt : ℝ) : EReal)
  s2 := fun l => s2 (ix1 l)
  b2 := fun l => b2 (ix1 l)

end Cert.Spec

end
-- ==== Proof.KernelOut.lean ====
/-
  WHAT THE BODY LEAVES in each of its nine output blocks, at `Ideal`: the result array of `Proof/Results.lean` of the
  inputs its six input blocks hold. A block of rows is four (or sixteen) stores of 72 × 1280 rows that tile it
  (`canon4`, `canon16`); a block of scales is one store of four rows of 128 lanes.
-/
module

public import proofs.«01_k».proof.Proof.Pieces
public import proofs.«01_k».proof.Proof.BlockValue
public import proofs.«01_k».proof.Proof.Results
public import Idealize.ShloMosaic.Lib.Pipeline.ValueKit.Tiles

@[expose] public section

set_option maxRecDepth 16384

noncomputable section

namespace Cert.KernelIdeal.Out

open Idealize.ShloMosaic Cert.KernelIdeal Cert.KernelIdeal.Gen Cert.KernelIdeal.Beam Cert.KernelIdeal.Block Cert.KernelIdeal.Pieces

/-- Rows stored as a block of one beam, read back. -/
theorem stored_at {e : EltTy} (w : Vec Ideal S72x1280 e) (x : S1x72x1280.Idx) :
    shapeCast S1x72x1280 w shapeCasts_S72x1280_S1x72x1280 x = w (ix2 (x 1) (x 2)) := by
  obtain ⟨a, r, l, rfl⟩ : ∃ a r l, x = ix3 a r l := ⟨x 0, x 1, x 2, by funext k; match k with | ⟨0, _⟩ => rfl | ⟨1, _⟩ => rfl | ⟨2, _⟩ => rfl⟩
  fin_cases a
  pointwise

/-- One store's payload is its tile of the block `G` of four beams; -/
theorem tile4 {e : EltTy} (w : Fin 4 → Vec Ideal S72x1280 e) (j : Fin 4) (inb) (x : S1x72x1280.Idx) :
    shapeCast S1x72x1280 (w j) shapeCasts_S72x1280_S1x72x1280 x
      = (fun i : S4x72x1280.Idx => w (i 0) (ix2 (i 1) (i 2))) ((Rect.unit (s := S4x72x1280) ![j.val, 0, 0] S1x72x1280.size inb).emb x) := by
  rw [stored_at]
  have h0 : (x 0).val < 1 := (x 0).isLt
  refine congr (congrArg w (Fin.ext ?_)) (congrArg₂ ix2 (Fin.ext ?_) (Fin.ext ?_))
  · show j.val = j.val + 1 * (x 0).val; omega
  · show (x 1).val = 0 + 1 * (x 1).val; omega
  · show (x 2).val = 0 + 1 * (x 2).val; omega

/-- and of the block of four beams by four chunks of 1280 columns. -/
theorem tile16 {e : EltTy} (w : Fin 4 → Fin 4 → Vec Ideal S72x1280 e) (j n : Fin 4) (o : ℕ) (ho : o = 1280 * n.val) (inb) (x : S1x72x1280.Idx) :
    shapeCast S1x72x1280 (w j n) shapeCasts_S72x1280_S1x72x1280 x
      = (fun i : S4x72x5120.Idx => w (i 0) ⟨(i 2).val / 1280, by have : (i 2).val < 5120 := (i 2).isLt; omega⟩ (ix2 (i 1) ⟨(i 2).val % 1280, by omega⟩))
          ((Rect.unit (s := S4x72x5120) ![j.val, 0, o] S1x72x1280.size inb).emb x) := by
  subst ho
  rw [stored_at]
  have h0 : (x 0).val < 1 := (x 0).isLt
  have h2 : (x 2).val < 1280 := (x 2).isLt
  refine congr (congrArg₂ w (Fin.ext ?_) (Fin.ext ?_)) (congrArg₂ ix2 (Fin.ext ?_) (Fin.ext ?_))
  · show j.val = j.val + 1 * (x 0).val; omega
  · show n.val = (1280 * n.val + 1 * (x 2).val) / 1280; omega
  · show (x 1).val = 0 + 1 * (x 1).val; omega
  · show (x 2).val = (1280 * n.val + 1 * (x 2).val) % 1280; omega

/-- Four stores of a beam's rows each, read back. -/
theorem canon4 {e : EltTy} (w : Fin 4 → Vec Ideal S72x1280 e) :
    View.canon ([⟨Rect.unit ![3, 0, 0] S1x72x1280.size inb_S4x72x1280_S1x72x1280_3_0_0, shapeCast S1x72x1280 (w 3) shapeCasts_S72x1280_S1x72x1280⟩,
      ⟨Rect.unit ![2, 0, 0] S1x72x1280.size inb_S4x72x1280_S1x72x1280_2_0_0, shapeCast S1x72x1280 (w 2) shapeCasts_S72x1280_S1x72x1280⟩,
      ⟨Rect.unit ![1, 0, 0] S1x72x1280.size inb_S4x72x1280_S1x72x1280_1_0_0, shapeCast S1x72x1280 (w 1) shapeCasts_S72x1280_S1x72x1280⟩,
      ⟨Rect.unit ![0, 0, 0] S1x72x1280.size inb_S4x72x1280_S1x72x1280_0_0_0, shapeCast S1x72x1280 (w 0) shapeCasts_S72x1280_S1x72x1280⟩] : List (View.Piece (Elt Ideal) S4x72x1280 e))
      = fun i => w (i 0) (ix2 (i 1) (i 2)) := by
  funext i
  refine View.canon_apply_of_pieces (fun i : S4x72x1280.Idx => w (i 0) (ix2 (i 1) (i 2))) _ ?_ i (View.cover_of_tiled_head _ _ _ rfl i)
  exact List.forall_mem_cons.2 ⟨tile4 w 3 inb_S4x72x1280_S1x72x1280_3_0_0, List.forall_mem_cons.2 ⟨tile4 w 2 inb_S4x72x1280_S1x72x1280_2_0_0, List.forall_mem_cons.2 ⟨tile4 w 1 inb_S4x72x1280_S1x72x1280_1_0_0, List.forall_mem_cons.2 ⟨tile4 w 0 inb_S4x72x1280_S1x72x1280_0_0_0, List.forall_mem_nil _⟩⟩⟩⟩

/-- Sixteen stores of 1280 columns of a beam's rows each, read back. -/
theorem canon16 {e : EltTy} (w : Fin 4 → Fin 4 → Vec Ideal S72x1280 e) :
    View.canon ([⟨Rect.unit ![3, 0, 3840] S1x72x1280.size inb_S4x72x5120_S1x72x1280_3_0_3840, shapeCast S1x72x1280 (w 3 3) shapeCasts_S72x1280_S1x72x1280⟩,
      ⟨Rect.unit ![3, 0, 2560] S1x72x1280.size inb_S4x72x5120_S1x72x1280_3_0_2560, shapeCast S1x72x1280 (w 3 2) shapeCasts_S72x1280_S1x72x1280⟩,
      ⟨Rect.unit ![3, 0, 1280] S1x72x1280.size inb_S4x72x5120_S1x72x1280_3_0_1280, shapeCast S1x72x1280 (w 3 1) shapeCasts_S72x1280_S1x72x1280⟩,
      ⟨Rect.unit ![3, 0, 0] S1x72x1280.size inb_S4x72x5120_S1x72x1280_3_0_0, shapeCast S1x72x1280 (w 3 0) shapeCasts_S72x1280_S1x72x1280⟩,
      ⟨Rect.unit ![2, 0, 3840] S1x72x1280.size inb_S4x72x5120_S1x72x1280_2_0_3840, shapeCast S1x72x1280 (w 2 3) shapeCasts_S72x1280_S1x72x1280⟩,
      ⟨Rect.unit ![2, 0, 2560] S1x72x1280.size inb_S4x72x5120_S1x72x1280_2_0_2560, shapeCast S1x72x1280 (w 2 2) shapeCasts_S72x1280_S1x72x1280⟩,
      ⟨Rect.unit ![2, 0, 1280] S1x72x1280.size inb_S4x72x5120_S1x72x1280_2_0_1280, shapeCast S1x72x1280 (w 2 1) shapeCasts_S72x1280_S1x72x1280⟩,
      ⟨Rect.unit ![2, 0, 0] S1x72x1280.size inb_S4x72x5120_S1x72x1280_2_0_0, shapeCast S1x72x1280 (w 2 0) shapeCasts_S72x1280_S1x72x1280⟩,
      ⟨Rect.unit ![1, 0, 3840] S1x72x1280.size inb_S4x72x5120_S1x72x1280_1_0_3840, shapeCast S1x72x1280 (w 1 3) shapeCasts_S72x1280_S1x72x1280⟩,
      ⟨Rect.unit ![1, 0, 2560] S1x72x1280.size inb_S4x72x5120_S1x72x1280_1_0_2560, shapeCast S1x72x1280 (w 1 2) shapeCasts_S72x1280_S1x72x1280⟩,
      ⟨Rect.unit ![1, 0, 1280] S1x72x1280.size inb_S4x72x5120_S1x72x1280_1_0_1280, shapeCast S1x72x1280 (w 1 1) shapeCasts_S72x1280_S1x72x1280⟩,
      ⟨Rect.unit ![1, 0, 0] S1x72x1280.size inb_S4x72x5120_S1x72x1280_1_0_0, shapeCast S1x72x1280 (w 1 0) shapeCasts_S72x1280_S1x72x1280⟩,
      ⟨Rect.unit ![0, 0, 3840] S1x72x1280.size inb_S4x72x5120_S1x72x1280_0_0_3840, shapeCast S1x72x1280 (w 0 3) shapeCasts_S72x1280_S1x72x1280⟩,
      ⟨Rect.unit ![0, 0, 2560] S1x72x1280.size inb_S4x72x5120_S1x72x1280_0_0_2560, shapeCast S1x72x1280 (w 0 2) shapeCasts_S72x1280_S1x72x1280⟩,
      ⟨Rect.unit ![0, 0, 1280] S1x72x1280.size inb_S4x72x5120_S1x72x1280_0_0_1280, shapeCast S1x72x1280 (w 0 1) shapeCasts_S72x1280_S1x72x1280⟩,
      ⟨Rect.unit ![0, 0, 0] S1x72x1280.size inb_S4x72x5120_S1x72x1280_0_0_0, shapeCast S1x72x1280 (w 0 0) shapeCasts_S72x1280_S1x72x1280⟩] : List (View.Piece (Elt Ideal) S4x72x5120 e))
      = fun i => w (i 0) ⟨(i 2).val / 1280, by have : (i 2).val < 5120 := (i 2).isLt; omega⟩ (ix2 (i 1) ⟨(i 2).val % 1280, by omega⟩) := by
  funext i
  refine View.canon_apply_of_pieces (fun i : S4x72x5120.Idx => w (i 0) ⟨(i 2).val / 1280, by have : (i 2).val < 5120 := (i 2).isLt; omega⟩
    (ix2 (i 1) ⟨(i 2).val % 1280, by omega⟩)) _ ?_ i (View.cover_of_tiled_head _ _ _ rfl i)
  exact List.forall_mem_cons.2 ⟨tile16 w 3 3 3840 rfl inb_S4x72x5120_S1x72x1280_3_0_3840, List.forall_mem_cons.2 ⟨tile16 w 3 2 2560 rfl inb_S4x72x5120_S1x72x1280_3_0_2560, List.forall_mem_cons.2 ⟨tile16 w 3 1 1280 rfl inb_S4x72x5120_S1x72x1280_3_0_1280, List.forall_mem_cons.2 ⟨tile16 w 3 0 0 rfl inb_S4x72x5120_S1x72x1280_3_0_0, List.forall_mem_cons.2 ⟨tile16 w 2 3 3840 rfl inb_S4x72x5120_S1x72x1280_2_0_3840, List.forall_mem_cons.2 ⟨tile16 w 2 2 2560 rfl inb_S4x72x5120_S1x72x1280_2_0_2560, List.forall_mem_cons.2 ⟨tile16 w 2 1 1280 rfl inb_S4x72x5120_S1x72x1280_2_0_1280, List.forall_mem_cons.2 ⟨tile16 w 2 0 0 rfl inb_S4x72x5120_S1x72x1280_2_0_0, List.forall_mem_cons.2 ⟨tile16 w 1 3 3840 rfl inb_S4x72x5120_S1x72x1280_1_0_3840, List.forall_mem_cons.2 ⟨tile16 w 1 2 2560 rfl inb_S4x72x5120_S1x72x1280_1_0_2560, List.forall_mem_cons.2 ⟨tile16 w 1 1 1280 rfl inb_S4x72x5120_S1x72x1280_1_0_1280, List.forall_mem_cons.2 ⟨tile16 w 1 0 0 rfl inb_S4x72x5120_S1x72x1280_1_0_0, List.forall_mem_cons.2 ⟨tile16 w 0 3 3840 rfl inb_S4x72x5120_S1x72x1280_0_0_3840, List.forall_mem_cons.2 ⟨tile16 w 0 2 2560 rfl inb_S4x72x5120_S1x72x1280_0_0_2560, List.forall_mem_cons.2 ⟨tile16 w 0 1 1280 rfl inb_S4x72x5120_S1x72x1280_0_0_1280, List.forall_mem_cons.2 ⟨tile16 w 0 0 0 rfl inb_S4x72x5120_S1x72x1280_0_0_0, List.forall_mem_nil _⟩⟩⟩⟩⟩⟩⟩⟩⟩⟩⟩⟩⟩⟩⟩⟩

/-- Four columns of scales, each laid out as a row of 128 lanes, one under the other. -/
theorem cols_at (s : Fin 4 → FVec Ideal S72x1 .f32) :
    concatenate S4x128 0 [⟨S1x128, colRow (s 0)⟩, ⟨S1x128, colRow (s 1)⟩, ⟨S1x128, colRow (s 2)⟩, ⟨S1x128, colRow (s 3)⟩] concatenates_S1x128_S1x128_S1x128_S1x128_S4x128_d0
      = fun i : S4x128.Idx => if h : (i 1).val < 72 then s (i 0) (ix2 ⟨(i 1).val, h⟩ 0) else (0 : EReal) := by
  funext i
  obtain ⟨j, l, rfl⟩ : ∃ j l, i = ix2 j l := ⟨i 0, i 1, by funext k; match k with | ⟨0, _⟩ => rfl | ⟨1, _⟩ => rfl⟩
  have e : ∀ j, (if h : l.val < 72 then s j (ix2 ⟨l.val, h⟩ 0) else (0 : EReal)) = colRow (s j) (ix2 0 l) := fun j => (colRow_at (s j) l).symm
  refine Eq.trans ?_ (e j).symm
  fin_cases j <;> (dsimp only; pointwise)

/-- A column of chunk `l / 1280` of a row of 5120 is column `l` of the row. -/
theorem chunk_eq (l : Fin 5120) (h : 1280 * (l.val / 1280) + l.val % 1280 < 5120) : (⟨1280 * (l.val / 1280) + l.val % 1280, h⟩ : Fin 5120) = l := Fin.ext (Nat.div_add_mod _ _)

variable (c : Dev nD) (arg0 : Memref sig .tc .vmem S4x72x1280 .f32) (harg0 : arg0.IsWhole) (arg1 : Memref sig .tc .vmem S4x72x1280 .f32) (harg1 : arg1.IsWhole) (arg2 : Memref sig .tc .vmem S32x1280 .f32) (harg2 : arg2.IsWhole) (arg3 : Memref sig .tc .vmem S20x64x1280 .i8) (harg3 : arg3.IsWhole) (arg4 : Memref sig .tc .vmem S1280x5120 .i8) (harg4 : arg4.IsWhole) (arg5 : Memref sig .tc .vmem S5120x1280 .i8) (harg5 : arg5.IsWhole) (arg6 : Memref sig .tc .vmem S4x72x1280 .i8) (harg6 : arg6.IsWhole) (arg7 : Memref sig .tc .vmem S4x128 .f32) (harg7 : arg7.IsWhole) (arg8 : Memref sig .tc .vmem S4x72x1280 .f32) (harg8 : arg8.IsWhole) (arg9 : Memref sig .tc .vmem S4x72x1280 .i8) (harg9 : arg9.IsWhole) (arg10 : Memref sig .tc .vmem S4x128 .f32) (harg10 : arg10.IsWhole) (arg11 : Memref sig .tc .vmem S4x72x5120 .bf16) (harg11 : arg11.IsWhole) (arg12 : Memref sig .tc .vmem S4x72x5120 .i8) (harg12 : arg12.IsWhole) (arg13 : Memref sig .tc .vmem S4x128 .f32) (harg13 : arg13.IsWhole) (arg14 : Memref sig .tc .vmem S4x72x1280 .bf16) (harg14 : arg14.IsWhole) (arg15 : Memref sig .tc .vmem S72x5120 .f32) (harg15 : arg15.IsWhole)
  (x0 : Vec Ideal S4x72x1280 .f32) (x1 : Vec Ideal S4x72x1280 .f32) (x2 : Vec Ideal S32x1280 .f32) (x3 : Vec Ideal S20x64x1280 .i8) (x4 : Vec Ideal S1280x5120 .i8) (x5 : Vec Ideal S5120x1280 .i8)

/-- The attention codes. -/
theorem out6 : out0_A_6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 = Spec.codes (inputs x0 x1 x2 x3 x4 x5).x := by
  unfold out0_A_6
  rw [View.read_writes_junk_eq_canon, pieces6]
  refine (canon4 (e := .i8) fun j => fptosi 8 (q1 x0 j)).trans (funext fun i => ?_)
  exact congrArg (Ideal.fptosi 8) (q1_at x0 x1 x2 x3 x4 x5 (i 0) (i 1) (i 2))

/-- The attention scales. -/
theorem out7 : out0_A_7 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 = Spec.scales (inputs x0 x1 x2 x3 x4 x5).x := by
  unfold out0_A_7
  rw [View.read_writes_junk_eq_canon, pieces7]
  rw [View.canon_unit_zero (S := S4x128) hz2]
  refine (cols_at (s1 x0)).trans ?_
  funext i
  exact dite_congr rfl (fun h => s1_at x0 x1 x2 x3 x4 x5 (i 0) ⟨(i 1).val, h⟩) (fun _ => rfl)

/-- The residual rows after the attention. -/
theorem out8 : out0_A_8 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 = Spec.rows (inputs x0 x1 x2 x3 x4 x5).h2 := by
  unfold out0_A_8
  rw [View.read_writes_junk_eq_canon, pieces8]
  refine (canon4 (e := .f32) fun j => h2 x0 x1 x2 x3 j).trans (funext fun i => ?_)
  exact h2_at x0 x1 x2 x3 x4 x5 (i 0) (i 1) (i 2)

/-- The layer norm's codes. -/
theorem out9 : out0_A_9 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 = Spec.codes (inputs x0 x1 x2 x3 x4 x5).ln := by
  unfold out0_A_9
  rw [View.read_writes_junk_eq_canon, pieces9]
  refine (canon4 (e := .i8) fun j => fptosi 8 (q3 x0 x1 x2 x3 j)).trans (funext fun i => ?_)
  exact congrArg (Ideal.fptosi 8) (q3_at x0 x1 x2 x3 x4 x5 (i 0) (i 1) (i 2))

/-- The layer norm's scales. -/
theorem out10 : out0_A_10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 = Spec.scales (inputs x0 x1 x2 x3 x4 x5).ln := by
  unfold out0_A_10
  rw [View.read_writes_junk_eq_canon, pieces10]
  rw [View.canon_unit_zero (S := S4x128) hz2]
  refine (cols_at (s3 x0 x1 x2 x3)).trans ?_
  funext i
  exact dite_congr rfl (fun h => s3_at x0 x1 x2 x3 x4 x5 (i 0) ⟨(i 1).val, h⟩) (fun _ => rfl)

/-- The hidden rows. -/
theorem out11 : out0_A_11 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 = Spec.rows (inputs x0 x1 x2 x3 x4 x5).hid := by
  unfold out0_A_11
  rw [View.read_writes_junk_eq_canon, pieces11]
  refine (canon16 (e := .bf16) fun j n => hid x0 x1 x2 x3 x4 j n).trans (funext fun i => ?_)
  refine (hid_at x0 x1 x2 x3 x4 x5 (i 0) (i 1) _ _).trans ?_
  exact congrArg (Spec.Inputs.hid _ (i 0) (i 1)) (chunk_eq (i 2) _)

/-- The hidden codes. -/
theorem out12 : out0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 = Spec.codes (inputs x0 x1 x2 x3 x4 x5).hid := by
  unfold out0_A_12
  rw [View.read_writes_junk_eq_canon, pieces12]
  refine (canon16 (e := .i8) fun j n => fptosi 8 (q4 x0 x1 x2 x3 x4 j n)).trans (funext fun i => ?_)
  refine (congrArg (Ideal.fptosi 8) (q4_at x0 x1 x2 x3 x4 x5 (i 0) (i 1) _ _)).trans ?_
  exact congrArg (fun l => Ideal.fptosi 8 (Spec.rowCode (Spec.Inputs.hid _ (i 0) (i 1)) l)) (chunk_eq (i 2) _)

/-- The hidden scales. -/
theorem out13 : out0_A_13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 = Spec.scales (inputs x0 x1 x2 x3 x4 x5).hid := by
  unfold out0_A_13
  rw [View.read_writes_junk_eq_canon, pieces13]
  rw [View.canon_unit_zero (S := S4x128) hz2]
  refine (cols_at (s4 x0 x1 x2 x3 x4)).trans ?_
  funext i
  exact dite_congr rfl (fun h => s4_at x0 x1 x2 x3 x4 x5 (i 0) ⟨(i 1).val, h⟩) (fun _ => rfl)

/-- The layer's output. -/
theorem out14 : out0_A_14 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 = Spec.rows (inputs x0 x1 x2 x3 x4 x5).out := by
  unfold out0_A_14
  rw [View.read_writes_junk_eq_canon, pieces14]
  refine (canon4 (e := .bf16) fun j => out x0 x1 x2 x3 x4 x5 j).trans (funext fun i => ?_)
  exact out_at x0 x1 x2 x3 x4 x5 (i 0) (i 1) (i 2)

end Cert.KernelIdeal.Out

end
-- ==== Proof.HostRead.lean ====
/-
  THE ARRAYS THE CALL FINDS, at `Ideal`: what the host operations before it leave in its six operands, read at an index
  as elements of the argument arrays; so the inputs its blocks hold are `Spec.ofArgs` of the arguments.
-/
module

public import proofs.«01_k».proof.Proof.Gen.KernelIdeal.Frame
public import proofs.«01_k».proof.Proof.BlockValue
public import proofs.«01_k».proof.Proof.Results
public import Idealize.ShloMosaic.Lib.StableHlo.ReadAt

@[expose] public section

set_option maxRecDepth 16384

noncomputable section

namespace Cert.KernelIdeal.HostRead

open Idealize.ShloMosaic Idealize.ShloMosaic.TcCoe Cert.KernelIdeal Cert.KernelIdeal.Gen

variable (m : (ℓ : Loc nD τ sig) → Buf (Elt Ideal) ℓ) (c : Dev nD)

/-- The attention's rows, transposed to [beam, sequence, channel]. -/
theorem rows_at (j : Fin 4) (r : Fin 72) (k : Fin 1280) :
    (V m c main_v31 : Vec Ideal S4x72x1280 .f32) (ix3 j r k) = (m ((c : Thread nD τ).loc main_arg0) : Vec Ideal S72x4x1280 .f32) (ix3 r j k) := by
  unfold V
  after_reads_at

/-- Rows of the parameter array: the layer norm's gain -/
theorem prm9_at (l : Fin 1280) :
    (V m c main_v30 : Vec Ideal S32x1280 .f32) (ix2 9 l) = (m ((c : Thread nD τ).loc main_arg6) : Vec Ideal S1280 .f32) (ix1 l) := by
  unfold V
  iterate 2 after_reads_at

/-- and shift; -/
theorem prm10_at (l : Fin 1280) :
    (V m c main_v30 : Vec Ideal S32x1280 .f32) (ix2 10 l) = (m ((c : Thread nD τ).loc main_arg7) : Vec Ideal S1280 .f32) (ix1 l) := by
  unfold V
  iterate 2 after_reads_at

/-- the output projection's scales -/
theorem prm15_at (l : Fin 1280) :
    (V m c main_v30 : Vec Ideal S32x1280 .f32) (ix2 15 l) = (m ((c : Thread nD τ).loc main_arg16) : Vec Ideal S1280 .f32) (ix1 l) := by
  unfold V
  iterate 2 after_reads_at

/-- and bias; -/
theorem prm16_at (l : Fin 1280) :
    (V m c main_v30 : Vec Ideal S32x1280 .f32) (ix2 16 l) = (m ((c : Thread nD τ).loc main_arg17) : Vec Ideal S1280 .f32) (ix1 l) := by
  unfold V
  iterate 2 after_reads_at

/-- the second weight's scales -/
theorem prm17_at (l : Fin 1280) :
    (V m c main_v30 : Vec Ideal S32x1280 .f32) (ix2 17 l) = (m ((c : Thread nD τ).loc main_arg22) : Vec Ideal S1280 .f32) (ix1 l) := by
  unfold V
  iterate 2 after_reads_at

/-- and bias; -/
theorem prm18_at (l : Fin 1280) :
    (V m c main_v30 : Vec Ideal S32x1280 .f32) (ix2 18 l) = (m ((c : Thread nD τ).loc main_arg23) : Vec Ideal S1280 .f32) (ix1 l) := by
  unfold V
  iterate 2 after_reads_at

/-- the first weight's scales, four rows of the parameter array -/
theorem scale1_at (l : Fin 5120) : (V m c main_v30 : Vec Ideal S32x1280 .f32) (ix2 ⟨19 + l.val / 1280, by omega⟩ ⟨l.val % 1280, by omega⟩)
    = (m ((c : Thread nD τ).loc main_arg19) : Vec Ideal S5120 .f32) (ix1 l) := by
  obtain ⟨n, k, rfl⟩ : ∃ (n : Fin 4) (k : Fin 1280), l = ⟨1280 * n.val + k.val, by omega⟩ :=
    ⟨⟨l.val / 1280, by omega⟩, ⟨l.val % 1280, by omega⟩, Fin.ext (Nat.div_add_mod _ _).symm⟩
  have e : ∀ n : Fin 4, (V m c main_v30 : Vec Ideal S32x1280 .f32) (ix2 ⟨19 + n.val, by omega⟩ k)
      = (m ((c : Thread nD τ).loc main_arg19) : Vec Ideal S5120 .f32) (ix1 ⟨1280 * n.val + k.val, by omega⟩) := by
    intro n
    unfold V
    fin_cases n <;> (dsimp only; iterate 2 after_reads_at)
  rw [← e n]
  refine congrArg₂ (fun a b => (V m c main_v30 : Vec Ideal S32x1280 .f32) (ix2 a b)) (Fin.ext ?_) (Fin.ext ?_)
  · show 19 + (1280 * n.val + k.val) / 1280 = 19 + n.val; omega
  · show (1280 * n.val + k.val) % 1280 = k.val; omega

/-- and bias, four rows more. -/
theorem bias1_at (l : Fin 5120) : (V m c main_v30 : Vec Ideal S32x1280 .f32) (ix2 ⟨23 + l.val / 1280, by omega⟩ ⟨l.val % 1280, by omega⟩)
    = (m ((c : Thread nD τ).loc main_arg20) : Vec Ideal S5120 .f32) (ix1 l) := by
  obtain ⟨n, k, rfl⟩ : ∃ (n : Fin 4) (k : Fin 1280), l = ⟨1280 * n.val + k.val, by omega⟩ :=
    ⟨⟨l.val / 1280, by omega⟩, ⟨l.val % 1280, by omega⟩, Fin.ext (Nat.div_add_mod _ _).symm⟩
  have e : ∀ n : Fin 4, (V m c main_v30 : Vec Ideal S32x1280 .f32) (ix2 ⟨23 + n.val, by omega⟩ k)
      = (m ((c : Thread nD τ).loc main_arg20) : Vec Ideal S5120 .f32) (ix1 ⟨1280 * n.val + k.val, by omega⟩) := by
    intro n
    unfold V
    fin_cases n <;> (dsimp only; iterate 2 after_reads_at)
  rw [← e n]
  refine congrArg₂ (fun a b => (V m c main_v30 : Vec Ideal S32x1280 .f32) (ix2 a b)) (Fin.ext ?_) (Fin.ext ?_)
  · show 23 + (1280 * n.val + k.val) / 1280 = 23 + n.val; omega
  · show (1280 * n.val + k.val) % 1280 = k.val; omega

/-- The inputs that the call's six operands hold are those of the arguments. -/
theorem inputs_eq : Block.inputs (V m c main_v31) (V m c main_arg1) (V m c main_v30) (V m c main_arg15) (V m c main_arg18) (V m c main_arg21)
    = Spec.ofArgs (m ((c : Thread nD τ).loc main_arg0)) (m ((c : Thread nD τ).loc main_arg1)) (m ((c : Thread nD τ).loc main_arg6)) (m ((c : Thread nD τ).loc main_arg7)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  unfold Block.inputs Spec.ofArgs
  rw [V_main_arg1, V_main_arg15, V_main_arg18, V_main_arg21]
  simp only [rows_at m c, prm9_at m c, prm10_at m c, prm15_at m c, prm16_at m c, prm17_at m c, prm18_at m c, scale1_at m c, bias1_at m c]

end Cert.KernelIdeal.HostRead

end
-- ==== Proof.KernelRun.lean ====
/-
  THE RUN of the kernel at `Ideal`: it leaves the nine result arrays of `Proof/Results.lean` of its arguments. The call has one
  grid point, at which each window's block is its whole array.
-/
module

public import proofs.«01_k».proof.Proof.Gen.KernelIdeal.Value
public import proofs.«01_k».proof.Proof.KernelOut
public import proofs.«01_k».proof.Proof.HostRead

@[expose] public section

set_option maxRecDepth 16384

noncomputable section

namespace Cert.KernelIdeal.Run

open Idealize.ShloMosaic Idealize.ShloMosaic.TcCoe Idealize.SL.Sem Cert.KernelIdeal Cert.KernelIdeal.Gen Cert.KernelIdeal.Value

variable (m : (ℓ : Loc nD τ sig) → Buf (Elt Ideal) ℓ) (ρ : Dev nD → PrngReg) (c : Dev nD)

/-- The inputs that the arguments hold. -/
abbrev args : Spec.Inputs := Spec.ofArgs (m ((c : Thread nD τ).loc main_arg0)) (m ((c : Thread nD τ).loc main_arg1)) (m ((c : Thread nD τ).loc main_arg6)) (m ((c : Thread nD τ).loc main_arg7)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))

/-! ## Each operand's block is its array -/

theorem iblk0 (t : Fin cfg0.N) : iblk m c 0 t = V m c main_v31 :=
  Memref.read_access_unit_zero (Elt Ideal) main_v31 (funext fun a => Nat.zero_mul _) (fun a => Nat.le_of_eq ((congrArg (· + _) (Nat.zero_mul _)).trans (Nat.zero_add _))) _
theorem iblk1 (t : Fin cfg0.N) : iblk m c 1 t = V m c main_arg1 :=
  Memref.read_access_unit_zero (Elt Ideal) main_arg1 (funext fun a => Nat.zero_mul _) (fun a => Nat.le_of_eq ((congrArg (· + _) (Nat.zero_mul _)).trans (Nat.zero_add _))) _
theorem iblk2 (t : Fin cfg0.N) : iblk m c 2 t = V m c main_v30 :=
  Memref.read_access_unit_zero (Elt Ideal) main_v30 (funext fun a => Nat.zero_mul _) (fun a => Nat.le_of_eq ((congrArg (· + _) (Nat.zero_mul _)).trans (Nat.zero_add _))) _
theorem iblk3 (t : Fin cfg0.N) : iblk m c 3 t = V m c main_arg15 :=
  Memref.read_access_unit_zero (Elt Ideal) main_arg15 (funext fun a => Nat.zero_mul _) (fun a => Nat.le_of_eq ((congrArg (· + _) (Nat.zero_mul _)).trans (Nat.zero_add _))) _
theorem iblk4 (t : Fin cfg0.N) : iblk m c 4 t = V m c main_arg18 :=
  Memref.read_access_unit_zero (Elt Ideal) main_arg18 (funext fun a => Nat.zero_mul _) (fun a => Nat.le_of_eq ((congrArg (· + _) (Nat.zero_mul _)).trans (Nat.zero_add _))) _
theorem iblk5 (t : Fin cfg0.N) : iblk m c 5 t = V m c main_arg21 :=
  Memref.read_access_unit_zero (Elt Ideal) main_arg21 (funext fun a => Nat.zero_mul _) (fun a => Nat.le_of_eq ((congrArg (· + _) (Nat.zero_mul _)).trans (Nat.zero_add _))) _

/-- The one grid point. -/
def t0 : Fin cfg0.N := ⟨0, by decide⟩

/-! ## Each result array -/

theorem final6 : (dats m 0 c).arrAt 6 cfg0.N = Spec.codes (args m c).x := by
  have e := (blocks6 m c t0 (flush0_6 t0)).trans (flushed6_A m c t0)
  rw [iblk0, iblk1, iblk2, iblk3, iblk4, iblk5, Out.out6, HostRead.inputs_eq] at e
  exact (Memref.read_access_unit_zero (Elt Ideal) main_v32_0 (funext fun a => Nat.zero_mul _) (fun a => Nat.le_of_eq ((congrArg (· + _) (Nat.zero_mul _)).trans (Nat.zero_add _))) _).symm.trans e
theorem final7 : (dats m 0 c).arrAt 7 cfg0.N = Spec.scales (args m c).x := by
  have e := (blocks7 m c t0 (flush0_7 t0)).trans (flushed7_A m c t0)
  rw [iblk0, iblk1, iblk2, iblk3, iblk4, iblk5, Out.out7, HostRead.inputs_eq] at e
  exact (Memref.read_access_unit_zero (Elt Ideal) main_v32_1 (funext fun a => Nat.zero_mul _) (fun a => Nat.le_of_eq ((congrArg (· + _) (Nat.zero_mul _)).trans (Nat.zero_add _))) _).symm.trans e
theorem final8 : (dats m 0 c).arrAt 8 cfg0.N = Spec.rows (args m c).h2 := by
  have e := (blocks8 m c t0 (flush0_8 t0)).trans (flushed8_A m c t0)
  rw [iblk0, iblk1, iblk2, iblk3, iblk4, iblk5, Out.out8, HostRead.inputs_eq] at e
  exact (Memref.read_access_unit_zero (Elt Ideal) main_v32_2 (funext fun a => Nat.zero_mul _) (fun a => Nat.le_of_eq ((congrArg (· + _) (Nat.zero_mul _)).trans (Nat.zero_add _))) _).symm.trans e
theorem final9 : (dats m 0 c).arrAt 9 cfg0.N = Spec.codes (args m c).ln := by
  have e := (blocks9 m c t0 (flush0_9 t0)).trans (flushed9_A m c t0)
  rw [iblk0, iblk1, iblk2, iblk3, iblk4, iblk5, Out.out9, HostRead.inputs_eq] at e
  exact (Memref.read_access_unit_zero (Elt Ideal) main_v32_3 (funext fun a => Nat.zero_mul _) (fun a => Nat.le_of_eq ((congrArg (· + _) (Nat.zero_mul _)).trans (Nat.zero_add _))) _).symm.trans e
theorem final10 : (dats m 0 c).arrAt 10 cfg0.N = Spec.scales (args m c).ln := by
  have e := (blocks10 m c t0 (flush0_10 t0)).trans (flushed10_A m c t0)
  rw [iblk0, iblk1, iblk2, iblk3, iblk4, iblk5, Out.out10, HostRead.inputs_eq] at e
  exact (Memref.read_access_unit_zero (Elt Ideal) main_v32_4 (funext fun a => Nat.zero_mul _) (fun a => Nat.le_of_eq ((congrArg (· + _) (Nat.zero_mul _)).trans (Nat.zero_add _))) _).symm.trans e
theorem final11 : (dats m 0 c).arrAt 11 cfg0.N = Spec.rows (args m c).hid := by
  have e := (blocks11 m c t0 (flush0_11 t0)).trans (flushed11_A m c t0)
  rw [iblk0, iblk1, iblk2, iblk3, iblk4, iblk5, Out.out11, HostRead.inputs_eq] at e
  exact (Memref.read_access_unit_zero (Elt Ideal) main_v32_5 (funext fun a => Nat.zero_mul _) (fun a => Nat.le_of_eq ((congrArg (· + _) (Nat.zero_mul _)).trans (Nat.zero_add _))) _).symm.trans e
theorem final12 : (dats m 0 c).arrAt 12 cfg0.N = Spec.codes (args m c).hid := by
  have e := (blocks12 m c t0 (flush0_12 t0)).trans (flushed12_A m c t0)
  rw [iblk0, iblk1, iblk2, iblk3, iblk4, iblk5, Out.out12, HostRead.inputs_eq] at e
  exact (Memref.read_access_unit_zero (Elt Ideal) main_v32_6 (funext fun a => Nat.zero_mul _) (fun a => Nat.le_of_eq ((congrArg (· + _) (Nat.zero_mul _)).trans (Nat.zero_add _))) _).symm.trans e
theorem final13 : (dats m 0 c).arrAt 13 cfg0.N = Spec.scales (args m c).hid := by
  have e := (blocks13 m c t0 (flush0_13 t0)).trans (flushed13_A m c t0)
  rw [iblk0, iblk1, iblk2, iblk3, iblk4, iblk5, Out.out13, HostRead.inputs_eq] at e
  exact (Memref.read_access_unit_zero (Elt Ideal) main_v32_7 (funext fun a => Nat.zero_mul _) (fun a => Nat.le_of_eq ((congrArg (· + _) (Nat.zero_mul _)).trans (Nat.zero_add _))) _).symm.trans e
theorem final14 : (dats m 0 c).arrAt 14 cfg0.N = Spec.rows (args m c).out := by
  have e := (blocks14 m c t0 (flush0_14 t0)).trans (flushed14_A m c t0)
  rw [iblk0, iblk1, iblk2, iblk3, iblk4, iblk5, Out.out14, HostRead.inputs_eq] at e
  exact (Memref.read_access_unit_zero (Elt Ideal) main_v32_8 (funext fun a => Nat.zero_mul _) (fun a => Nat.le_of_eq ((congrArg (· + _) (Nat.zero_mul _)).trans (Nat.zero_add _))) _).symm.trans e

/-- The run: the nine results, and the arguments unchanged. -/
theorem run : θ_run defs (onTc (τ := τ) (main (F := Ideal))) ⟨m, fun _ => 0, ρ⟩ fun r => ∀ c : Dev nD,
      r.2.mem ((c : Thread nD τ).loc main_v32_0) = Spec.codes (args m c).x
      ∧ r.2.mem ((c : Thread nD τ).loc main_v32_1) = Spec.scales (args m c).x
      ∧ r.2.mem ((c : Thread nD τ).loc main_v32_2) = Spec.rows (args m c).h2
      ∧ r.2.mem ((c : Thread nD τ).loc main_v32_3) = Spec.codes (args m c).ln
      ∧ r.2.mem ((c : Thread nD τ).loc main_v32_4) = Spec.scales (args m c).ln
      ∧ r.2.mem ((c : Thread nD τ).loc main_v32_5) = Spec.rows (args m c).hid
      ∧ r.2.mem ((c : Thread nD τ).loc main_v32_6) = Spec.codes (args m c).hid
      ∧ r.2.mem ((c : Thread nD τ).loc main_v32_7) = Spec.scales (args m c).hid
      ∧ r.2.mem ((c : Thread nD τ).loc main_v32_8) = Spec.rows (args m c).out
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23) :=
  (θ_run defs _ _).mono (fun r h c => by
    obtain ⟨h0, h1, h2, h3, h4, h5, h6, h7, h8, hk⟩ := h c
    exact ⟨h0.trans (final6 m c), h1.trans (final7 m c), h2.trans (final8 m c), h3.trans (final9 m c), h4.trans (final10 m c), h5.trans (final11 m c), h6.trans (final12 m c), h7.trans (final13 m c), h8.trans (final14 m c), hk⟩) (run_blocks m ρ)

end Cert.KernelIdeal.Run

end
-- ==== Proof.RefRead.lean ====
/-
  WHAT THE REFERENCE COMPUTES at `Ideal`: each value of its body, read at row `r` of beam `j`, is the function of
  `Proof/Spec.lean` of the inputs its thirteen blocks hold (`inputs`).
-/
module

public import proofs.«01_k».proof.Proof.Gen.ReferenceIdeal.Skeleton
public import proofs.«01_k».proof.Proof.Spec

@[expose] public section

set_option maxRecDepth 16384

noncomputable section

namespace Cert.ReferenceIdeal.Read

open Idealize.ShloMosaic Cert.ReferenceIdeal Cert.ReferenceIdeal.Gen

/-- The inputs the thirteen blocks hold. -/
def inputs (x h : Vec Ideal S4x72x1280 .f32) (g b : Vec Ideal S1x1x1280 .f32) (wco : Vec Ideal S1280x1280 .i8) (sco bco : Vec Ideal S1x1x1280 .f32)
    (w1 : Vec Ideal S1280x5120 .i8) (s1 b1 : Vec Ideal S1x1x5120 .f32) (w2 : Vec Ideal S5120x1280 .i8) (s2 b2 : Vec Ideal S1x1x1280 .f32) : Spec.Inputs where
  x := fun j r k => x (ix3 j r k)
  h := fun j r k => h (ix3 j r k)
  g := fun l => g (ix3 0 0 l)
  b := fun l => b (ix3 0 0 l)
  wco := fun k l => (((wco (ix2 k l) : BitVec 8).toInt : ℝ) : EReal)
  sco := fun l => sco (ix3 0 0 l)
  bco := fun l => bco (ix3 0 0 l)
  w1 := fun k l => (((w1 (ix2 k l) : BitVec 8).toInt : ℝ) : EReal)
  s1 := fun l => s1 (ix3 0 0 l)
  b1 := fun l => b1 (ix3 0 0 l)
  w2 := fun k l => (((w2 (ix2 k l) : BitVec 8).toInt : ℝ) : EReal)
  s2 := fun l => s2 (ix3 0 0 l)
  b2 := fun l => b2 (ix3 0 0 l)

variable (x h : Vec Ideal S4x72x1280 .f32) (g b : Vec Ideal S1x1x1280 .f32) (wco : Vec Ideal S1280x1280 .i8) (sco bco : Vec Ideal S1x1x1280 .f32)
  (w1 : Vec Ideal S1280x5120 .i8) (s1 b1 : Vec Ideal S1x1x5120 .f32) (w2 : Vec Ideal S5120x1280 .i8) (s2 b2 : Vec Ideal S1x1x1280 .f32)
  (j : Fin 4) (r : Fin 72)

theorem pay3_at : k0_pay3 x (ix2 j r) = Spec.rowScale fun k => x (ix3 j r k) := by
  pointwise [k0_pay3, k0_pay2]
  rw [Spec.bits_neg_inf, Spec.bits_127, Spec.div_127]
  rfl

theorem pay4_at (l : Fin 1280) : k0_pay4 x (ix3 j r l) = Ideal.fptosi 8 (Spec.rowCode (fun k => x (ix3 j r k)) l) := by
  pointwise [k0_pay4, k0_pay2]
  rw [Spec.bits_neg_127, Spec.bits_127, pay3_at]
  rfl

theorem pay5_at (l : Fin 1280) : k0_pay5 x h wco sco bco (ix3 j r l) = (inputs x h g b wco sco bco w1 s1 b1 w2 s2 b2).h2 j r l := by
  unfold Spec.Inputs.h2 Spec.resid Spec.linear
  have e : ∀ k, Spec.rowCode ((inputs x h g b wco sco bco w1 s1 b1 w2 s2 b2).x j r) k
      = (((k0_pay4 x (ix3 j r k)).toInt : ℝ) : EReal) := fun k => by
    rw [pay4_at]; exact (Spec.code_cast ..).symm
  have e' : Spec.rowScale ((inputs x h g b wco sco bco w1 s1 b1 w2 s2 b2).x j r) = k0_pay3 x (ix2 j r) := (pay3_at ..).symm
  simp only [e, e']
  pointwise [k0_pay5]
  rfl

/-- The layer norm of any rows `v`. -/
theorem pay6_at (v : FVec Ideal S4x72x1280 .f32) (l : Fin 1280) :
    k0_pay6 v g b (ix3 j r l) = Spec.layerNorm (fun k => v (ix3 j r k)) (fun k => g (ix3 0 0 k)) (fun k => b (ix3 0 0 k)) l := by
  pointwise [k0_pay6]
  simp only [Spec.bits_1280, Spec.div_1280]
  rfl

theorem pay7_at (v : FVec Ideal S4x72x1280 .f32) : k0_pay7 v g b (ix2 j r) = Spec.rowScale fun k => k0_pay6 v g b (ix3 j r k) := by
  pointwise [k0_pay7]
  rw [Spec.bits_neg_inf, Spec.bits_127, Spec.div_127]
  rfl

theorem pay8_at (v : FVec Ideal S4x72x1280 .f32) (l : Fin 1280) :
    k0_pay8 v g b (ix3 j r l) = Ideal.fptosi 8 (Spec.rowCode (fun k => k0_pay6 v g b (ix3 j r k)) l) := by
  pointwise [k0_pay8]
  rw [Spec.bits_neg_127, Spec.bits_127, pay7_at]
  rfl

/-- The hidden rows of any scales `s` and codes `q`. -/
theorem pay9_at (s : FVec Ideal S4x72 .f32) (q : IVec S4x72x1280 8) (l : Fin 5120) :
    k0_pay9 s q w1 s1 b1 (ix3 j r l)
      = Spec.gelu (Spec.linear (fun k => (((q (ix3 j r k)).toInt : ℝ) : EReal)) (s (ix2 j r)) (fun k l => (((w1 (ix2 k l) : BitVec 8).toInt : ℝ) : EReal))
          (fun l => s1 (ix3 0 0 l)) (fun l => b1 (ix3 0 0 l)) l) := by
  pointwise [k0_pay9]
  rfl

theorem pay11_at (s : FVec Ideal S4x72 .f32) (q : IVec S4x72x1280 8) :
    k0_pay11 s q w1 s1 b1 (ix2 j r) = Spec.rowScale fun k => k0_pay9 s q w1 s1 b1 (ix3 j r k) := by
  pointwise [k0_pay11, k0_pay10]
  rw [Spec.bits_neg_inf, Spec.bits_127, Spec.div_127]
  rfl

theorem pay12_at (s : FVec Ideal S4x72 .f32) (q : IVec S4x72x1280 8) (l : Fin 5120) :
    k0_pay12 s q w1 s1 b1 (ix3 j r l) = Ideal.fptosi 8 (Spec.rowCode (fun k => k0_pay9 s q w1 s1 b1 (ix3 j r k)) l) := by
  pointwise [k0_pay12, k0_pay10]
  rw [Spec.bits_neg_127, Spec.bits_127, pay11_at]
  rfl

/-- The output rows from any residual rows `v`, scales `s` and codes `q`. -/
theorem pay13_at (v : FVec Ideal S4x72x1280 .f32) (s : FVec Ideal S4x72 .f32) (q : IVec S4x72x5120 8) (l : Fin 1280) :
    k0_pay13 v s q w2 s2 b2 (ix3 j r l)
      = v (ix3 j r l) + Spec.linear (fun k => (((q (ix3 j r k)).toInt : ℝ) : EReal)) (s (ix2 j r)) (fun k l => (((w2 (ix2 k l) : BitVec 8).toInt : ℝ) : EReal))
          (fun l => s2 (ix3 0 0 l)) (fun l => b2 (ix3 0 0 l)) l := by
  pointwise [k0_pay13]
  rfl

/-- A row of scales, padded with zeros to 128 lanes. -/
theorem pay1_at (s : FVec Ideal S4x72 .f32) (k : Fin 128) : k0_pay1 s (ix2 j k) = if h : k.val < 72 then s (ix2 j ⟨k.val, h⟩) else 0 := by
  pointwise [k0_pay1]
theorem pay14_at (s : FVec Ideal S4x72 .f32) (k : Fin 128) : k0_pay14 s (ix2 j k) = if h : k.val < 72 then s (ix2 j ⟨k.val, h⟩) else 0 := by
  pointwise [k0_pay14]
theorem pay15_at (s : FVec Ideal S4x72 .f32) (k : Fin 128) : k0_pay15 s (ix2 j k) = if h : k.val < 72 then s (ix2 j ⟨k.val, h⟩) else 0 := by
  pointwise [k0_pay15]

end Cert.ReferenceIdeal.Read

end
-- ==== Proof.RefOut.lean ====
/-
  WHAT THE REFERENCE LEAVES in each of its nine output blocks, at `Ideal`: the result array of `Proof/Results.lean` of
  the inputs its thirteen input blocks hold. Each block is one store of the whole block.
-/
module

public import proofs.«01_k».proof.Proof.Gen.ReferenceIdeal.Frame
public import proofs.«01_k».proof.Proof.RefRead
public import proofs.«01_k».proof.Proof.Results

@[expose] public section

set_option maxRecDepth 16384

noncomputable section

namespace Cert.ReferenceIdeal.Out

open Idealize.ShloMosaic Cert.ReferenceIdeal Cert.ReferenceIdeal.Gen Cert.ReferenceIdeal.Read

theorem hz2 : (![0, 0] : Fin 2 → Nat) = fun _ => 0 := by funext a; fin_cases a <;> rfl
theorem hz3 : (![0, 0, 0] : Fin 3 → Nat) = fun _ => 0 := by funext a; fin_cases a <;> rfl

/-- An index of three axes is its three coordinates; -/
theorem eta3 {a b c : ℕ} (i : (⟨3, ![a, b, c]⟩ : Shape).Idx) : ∃ x y z, i = ix3 (n0 := a) (n1 := b) (n2 := c) x y z :=
  ⟨i 0, i 1, i 2, by funext k; match k with | ⟨0, _⟩ => rfl | ⟨1, _⟩ => rfl | ⟨2, _⟩ => rfl⟩
/-- of two axes, its two. -/
theorem eta2 {a b : ℕ} (i : (⟨2, ![a, b]⟩ : Shape).Idx) : ∃ x y, i = ix2 (n0 := a) (n1 := b) x y :=
  ⟨i 0, i 1, by funext k; match k with | ⟨0, _⟩ => rfl | ⟨1, _⟩ => rfl⟩

variable (x0 x1 : Vec Ideal S4x72x1280 .f32) (x2 x3 : Vec Ideal S1x1x1280 .f32) (x4 : Vec Ideal S1280x1280 .i8) (x5 x6 : Vec Ideal S1x1x1280 .f32)
  (x7 : Vec Ideal S1280x5120 .i8) (x8 x9 : Vec Ideal S1x1x5120 .f32) (x10 : Vec Ideal S5120x1280 .i8) (x11 x12 : Vec Ideal S1x1x1280 .f32)
  (j : Fin 4) (r : Fin 72)

/-! ## The values that the stores share, of the whole blocks: a load of a whole block reads the block -/

theorem ld0 (x : Vec Ideal S4x72x1280 .f32) : View.ld x r0_0 = x := View.ld_unit_zero (S := S4x72x1280) hz3 _ x
theorem ld1 (x : Vec Ideal S1280x1280 .i8) : View.ld x r0_1 = x := View.ld_unit_zero (S := S1280x1280) hz2 _ x
theorem ld2 (x : Vec Ideal S1x1x1280 .f32) : View.ld x r0_2 = x := View.ld_unit_zero (S := S1x1x1280) hz3 _ x
theorem ld3 (x : Vec Ideal S1280x5120 .i8) : View.ld x r0_3 = x := View.ld_unit_zero (S := S1280x5120) hz2 _ x
theorem ld4 (x : Vec Ideal S1x1x5120 .f32) : View.ld x r0_4 = x := View.ld_unit_zero (S := S1x1x5120) hz3 _ x
theorem ld5 (x : Vec Ideal S5120x1280 .i8) : View.ld x r0_5 = x := View.ld_unit_zero (S := S5120x1280) hz2 _ x

theorem pay16_at (l : Fin 1280) : k0_pay16 x0 x1 x2 x3 x4 x5 x6 x7 x8 x9 x10 x11 x12 (ix3 j r l) = (inputs x0 x1 x2 x3 x4 x5 x6 x7 x8 x9 x10 x11 x12).h2 j r l := by
  unfold k0_pay16
  simp only [ld0, ld1, ld2, ld3, ld4, ld5]
  exact pay5_at x0 x1 x2 x3 x4 x5 x6 x7 x8 x9 x10 x11 x12 j r l

theorem ln_at (l : Fin 1280) : k0_pay6 (k0_pay16 x0 x1 x2 x3 x4 x5 x6 x7 x8 x9 x10 x11 x12) x2 x3 (ix3 j r l) = (inputs x0 x1 x2 x3 x4 x5 x6 x7 x8 x9 x10 x11 x12).ln j r l := by
  rw [pay6_at]
  simp only [pay16_at]
  rfl

theorem pay17_at : k0_pay17 x0 x1 x2 x3 x4 x5 x6 x7 x8 x9 x10 x11 x12 (ix2 j r) = Spec.rowScale ((inputs x0 x1 x2 x3 x4 x5 x6 x7 x8 x9 x10 x11 x12).ln j r) := by
  unfold k0_pay17
  simp only [ld0, ld1, ld2, ld3, ld4, ld5]
  rw [pay7_at]
  simp only [ln_at]

theorem pay18_at (l : Fin 1280) : k0_pay18 x0 x1 x2 x3 x4 x5 x6 x7 x8 x9 x10 x11 x12 (ix3 j r l) = Ideal.fptosi 8 (Spec.rowCode ((inputs x0 x1 x2 x3 x4 x5 x6 x7 x8 x9 x10 x11 x12).ln j r) l) := by
  unfold k0_pay18
  simp only [ld0, ld1, ld2, ld3, ld4, ld5]
  rw [pay8_at]
  simp only [ln_at]

/-- A row's codes, read back from 8 bits, are the codes. -/
theorem rowCode_cast {n : ℕ} (x : Fin n → EReal) (l : Fin n) : (((Ideal.fptosi 8 (Spec.rowCode x l)).toInt : ℝ) : EReal) = Spec.rowCode x l :=
  Spec.code_cast _ _

theorem hid_at (l : Fin 5120) : k0_pay9 (k0_pay17 x0 x1 x2 x3 x4 x5 x6 x7 x8 x9 x10 x11 x12) (k0_pay18 x0 x1 x2 x3 x4 x5 x6 x7 x8 x9 x10 x11 x12) x7 x8 x9 (ix3 j r l) = (inputs x0 x1 x2 x3 x4 x5 x6 x7 x8 x9 x10 x11 x12).hid j r l := by
  rw [pay9_at]
  simp only [pay17_at, pay18_at, rowCode_cast]
  rfl

theorem pay19_at : k0_pay19 x0 x1 x2 x3 x4 x5 x6 x7 x8 x9 x10 x11 x12 (ix2 j r) = Spec.rowScale ((inputs x0 x1 x2 x3 x4 x5 x6 x7 x8 x9 x10 x11 x12).hid j r) := by
  unfold k0_pay19
  simp only [ld0, ld1, ld2, ld3, ld4, ld5]
  rw [pay11_at]
  simp only [hid_at]

theorem pay20_at (l : Fin 5120) : k0_pay20 x0 x1 x2 x3 x4 x5 x6 x7 x8 x9 x10 x11 x12 (ix3 j r l) = Ideal.fptosi 8 (Spec.rowCode ((inputs x0 x1 x2 x3 x4 x5 x6 x7 x8 x9 x10 x11 x12).hid j r) l) := by
  unfold k0_pay20
  simp only [ld0, ld1, ld2, ld3, ld4, ld5]
  rw [pay12_at]
  simp only [hid_at]

/-! ## The nine blocks -/

/-- The attention codes. -/
theorem out13 : out0_13 x0 x1 x2 x3 x4 x5 x6 x7 x8 x9 x10 x11 x12 = Spec.codes (inputs x0 x1 x2 x3 x4 x5 x6 x7 x8 x9 x10 x11 x12).x := by
  unfold out0_13
  try simp only [ld0, ld1, ld2, ld3, ld4, ld5]
  refine (View.canon_unit_zero hz3 _ _).trans (funext fun i => ?_)
  obtain ⟨j, r, l, rfl⟩ := eta3 i
  exact pay4_at x0 j r l

/-- The attention scales. -/
theorem out14 : out0_14 x0 x1 x2 x3 x4 x5 x6 x7 x8 x9 x10 x11 x12 = Spec.scales (inputs x0 x1 x2 x3 x4 x5 x6 x7 x8 x9 x10 x11 x12).x := by
  unfold out0_14
  try simp only [ld0, ld1, ld2, ld3, ld4, ld5]
  refine (View.canon_unit_zero hz2 _ _).trans (funext fun i => ?_)
  obtain ⟨j, k, rfl⟩ := eta2 i
  rw [pay14_at]
  simp only [pay3_at]
  rfl

/-- The residual rows after the attention. -/
theorem out15 : out0_15 x0 x1 x2 x3 x4 x5 x6 x7 x8 x9 x10 x11 x12 = Spec.rows (inputs x0 x1 x2 x3 x4 x5 x6 x7 x8 x9 x10 x11 x12).h2 := by
  unfold out0_15
  try simp only [ld0, ld1, ld2, ld3, ld4, ld5]
  refine (View.canon_unit_zero hz3 _ _).trans (funext fun i => ?_)
  obtain ⟨j, r, l, rfl⟩ := eta3 i
  exact pay16_at x0 x1 x2 x3 x4 x5 x6 x7 x8 x9 x10 x11 x12 j r l

/-- The layer norm's codes. -/
theorem out16 : out0_16 x0 x1 x2 x3 x4 x5 x6 x7 x8 x9 x10 x11 x12 = Spec.codes (inputs x0 x1 x2 x3 x4 x5 x6 x7 x8 x9 x10 x11 x12).ln := by
  unfold out0_16
  try simp only [ld0, ld1, ld2, ld3, ld4, ld5]
  refine (View.canon_unit_zero hz3 _ _).trans (funext fun i => ?_)
  obtain ⟨j, r, l, rfl⟩ := eta3 i
  exact pay18_at x0 x1 x2 x3 x4 x5 x6 x7 x8 x9 x10 x11 x12 j r l

/-- The layer norm's scales. -/
theorem out17 : out0_17 x0 x1 x2 x3 x4 x5 x6 x7 x8 x9 x10 x11 x12 = Spec.scales (inputs x0 x1 x2 x3 x4 x5 x6 x7 x8 x9 x10 x11 x12).ln := by
  unfold out0_17
  try simp only [ld0, ld1, ld2, ld3, ld4, ld5]
  refine (View.canon_unit_zero hz2 _ _).trans (funext fun i => ?_)
  obtain ⟨j, k, rfl⟩ := eta2 i
  rw [pay15_at]
  simp only [pay17_at]
  rfl

/-- The hidden rows. -/
theorem out18 : out0_18 x0 x1 x2 x3 x4 x5 x6 x7 x8 x9 x10 x11 x12 = Spec.rows (inputs x0 x1 x2 x3 x4 x5 x6 x7 x8 x9 x10 x11 x12).hid := by
  unfold out0_18
  try simp only [ld0, ld1, ld2, ld3, ld4, ld5]
  refine (View.canon_unit_zero hz3 _ _).trans (funext fun i => ?_)
  obtain ⟨j, r, l, rfl⟩ := eta3 i
  exact hid_at x0 x1 x2 x3 x4 x5 x6 x7 x8 x9 x10 x11 x12 j r l

/-- The hidden codes. -/
theorem out19 : out0_19 x0 x1 x2 x3 x4 x5 x6 x7 x8 x9 x10 x11 x12 = Spec.codes (inputs x0 x1 x2 x3 x4 x5 x6 x7 x8 x9 x10 x11 x12).hid := by
  unfold out0_19
  try simp only [ld0, ld1, ld2, ld3, ld4, ld5]
  refine (View.canon_unit_zero hz3 _ _).trans (funext fun i => ?_)
  obtain ⟨j, r, l, rfl⟩ := eta3 i
  exact pay20_at x0 x1 x2 x3 x4 x5 x6 x7 x8 x9 x10 x11 x12 j r l

/-- The hidden scales. -/
theorem out20 : out0_20 x0 x1 x2 x3 x4 x5 x6 x7 x8 x9 x10 x11 x12 = Spec.scales (inputs x0 x1 x2 x3 x4 x5 x6 x7 x8 x9 x10 x11 x12).hid := by
  unfold out0_20
  try simp only [ld0, ld1, ld2, ld3, ld4, ld5]
  refine (View.canon_unit_zero hz2 _ _).trans (funext fun i => ?_)
  obtain ⟨j, k, rfl⟩ := eta2 i
  rw [pay1_at]
  simp only [pay19_at]
  rfl

/-- The layer's output. -/
theorem out21 : out0_21 x0 x1 x2 x3 x4 x5 x6 x7 x8 x9 x10 x11 x12 = Spec.rows (inputs x0 x1 x2 x3 x4 x5 x6 x7 x8 x9 x10 x11 x12).out := by
  unfold out0_21
  try simp only [ld0, ld1, ld2, ld3, ld4, ld5]
  refine (View.canon_unit_zero hz3 _ _).trans (funext fun i => ?_)
  obtain ⟨j, r, l, rfl⟩ := eta3 i
  rw [pay13_at]
  simp only [pay16_at, pay19_at, pay20_at, rowCode_cast]
  rfl

end Cert.ReferenceIdeal.Out

end
-- ==== Proof.RefHost.lean ====
/-
  THE ARRAYS THE REFERENCE'S CALL FINDS, at `Ideal`: what the host's transpose and reshapes leave in its operands, read
  at an index as elements of the argument arrays; so the inputs its blocks hold are `Spec.ofArgs` of the arguments.
-/
module

public import proofs.«01_k».proof.Proof.Gen.ReferenceIdeal.Frame
public import proofs.«01_k».proof.Proof.RefRead
public import proofs.«01_k».proof.Proof.Results
public import Idealize.ShloMosaic.Lib.StableHlo.ReadAt

@[expose] public section

set_option maxRecDepth 16384

noncomputable section

namespace Cert.ReferenceIdeal.HostRead

open Idealize.ShloMosaic Idealize.ShloMosaic.TcCoe Cert.ReferenceIdeal Cert.ReferenceIdeal.Gen

variable (m : (ℓ : Loc nD τ sig) → Buf (Elt Ideal) ℓ) (c : Dev nD)

/-- The attention's rows, transposed to [beam, sequence, channel]. -/
theorem rows_at (j : Fin 4) (r : Fin 72) (k : Fin 1280) :
    (V m c main_v0 : Vec Ideal S4x72x1280 .f32) (ix3 j r k) = (m ((c : Thread nD τ).loc main_arg0) : Vec Ideal S72x4x1280 .f32) (ix3 r j k) := by
  unfold V
  after_reads_at

/-- The output projection's weight, heads and their channels as one axis. -/
theorem weight_at (k l : Fin 1280) :
    (V m c main_v3 : Vec Ideal S1280x1280 .i8) (ix2 k l)
      = (m ((c : Thread nD τ).loc main_arg15) : Vec Ideal S20x64x1280 .i8) (ix3 ⟨k.val / 64, by omega⟩ ⟨k.val % 64, by omega⟩ l) := by
  unfold V
  after_reads_at

/-! Vectors, each as the one row of one matrix. -/

theorem vec1_at (l : Fin 1280) :
    (V m c main_v1 : Vec Ideal S1x1x1280 .f32) (ix3 0 0 l) = (m ((c : Thread nD τ).loc main_arg6) : Vec Ideal S1280 .f32) (ix1 l) := by
  unfold V
  after_reads_at
theorem vec2_at (l : Fin 1280) :
    (V m c main_v2 : Vec Ideal S1x1x1280 .f32) (ix3 0 0 l) = (m ((c : Thread nD τ).loc main_arg7) : Vec Ideal S1280 .f32) (ix1 l) := by
  unfold V
  after_reads_at
theorem vec4_at (l : Fin 1280) :
    (V m c main_v4 : Vec Ideal S1x1x1280 .f32) (ix3 0 0 l) = (m ((c : Thread nD τ).loc main_arg16) : Vec Ideal S1280 .f32) (ix1 l) := by
  unfold V
  after_reads_at
theorem vec5_at (l : Fin 1280) :
    (V m c main_v5 : Vec Ideal S1x1x1280 .f32) (ix3 0 0 l) = (m ((c : Thread nD τ).loc main_arg17) : Vec Ideal S1280 .f32) (ix1 l) := by
  unfold V
  after_reads_at
theorem vec6_at (l : Fin 5120) :
    (V m c main_v6 : Vec Ideal S1x1x5120 .f32) (ix3 0 0 l) = (m ((c : Thread nD τ).loc main_arg19) : Vec Ideal S5120 .f32) (ix1 l) := by
  unfold V
  after_reads_at
theorem vec7_at (l : Fin 5120) :
    (V m c main_v7 : Vec Ideal S1x1x5120 .f32) (ix3 0 0 l) = (m ((c : Thread nD τ).loc main_arg20) : Vec Ideal S5120 .f32) (ix1 l) := by
  unfold V
  after_reads_at
theorem vec8_at (l : Fin 1280) :
    (V m c main_v8 : Vec Ideal S1x1x1280 .f32) (ix3 0 0 l) = (m ((c : Thread nD τ).loc main_arg22) : Vec Ideal S1280 .f32) (ix1 l) := by
  unfold V
  after_reads_at
theorem vec9_at (l : Fin 1280) :
    (V m c main_v9 : Vec Ideal S1x1x1280 .f32) (ix3 0 0 l) = (m ((c : Thread nD τ).loc main_arg23) : Vec Ideal S1280 .f32) (ix1 l) := by
  unfold V
  after_reads_at

/-- The inputs that the call's thirteen operands hold are those of the arguments. -/
theorem inputs_eq : Read.inputs (V m c main_v0) (V m c main_arg1) (V m c main_v1) (V m c main_v2) (V m c main_v3) (V m c main_v4) (V m c main_v5)
      (V m c main_arg18) (V m c main_v6) (V m c main_v7) (V m c main_arg21) (V m c main_v8) (V m c main_v9)
    = Spec.ofArgs (m ((c : Thread nD τ).loc main_arg0)) (m ((c : Thread nD τ).loc main_arg1)) (m ((c : Thread nD τ).loc main_arg6)) (m ((c : Thread nD τ).loc main_arg7)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  unfold Read.inputs Spec.ofArgs
  rw [V_main_arg1, V_main_arg18, V_main_arg21]
  simp only [rows_at m c, weight_at m c, vec1_at m c, vec2_at m c, vec4_at m c, vec5_at m c, vec6_at m c, vec7_at m c, vec8_at m c, vec9_at m c]

end Cert.ReferenceIdeal.HostRead

end
-- ==== Proof.RefRun.lean ====
/-
  THE RUN of the reference at `Ideal`: it leaves the nine result arrays of `Proof/Results.lean` of its arguments. The call has one
  grid point, at which each window's block is its whole array.
-/
module

public import proofs.«01_k».proof.Proof.Gen.ReferenceIdeal.Value
public import proofs.«01_k».proof.Proof.RefOut
public import proofs.«01_k».proof.Proof.RefHost

@[expose] public section

set_option maxRecDepth 16384

noncomputable section

namespace Cert.ReferenceIdeal.Run

open Idealize.ShloMosaic Idealize.ShloMosaic.TcCoe Idealize.SL.Sem Cert.ReferenceIdeal Cert.ReferenceIdeal.Gen Cert.ReferenceIdeal.Value

variable (m : (ℓ : Loc nD τ sig) → Buf (Elt Ideal) ℓ) (ρ : Dev nD → PrngReg) (c : Dev nD)

/-- The inputs that the arguments hold. -/
abbrev args : Spec.Inputs := Spec.ofArgs (m ((c : Thread nD τ).loc main_arg0)) (m ((c : Thread nD τ).loc main_arg1)) (m ((c : Thread nD τ).loc main_arg6)) (m ((c : Thread nD τ).loc main_arg7)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))

/-! ## Each operand's block is its array -/

theorem iblk0 (t : Fin cfg0.N) : iblk m c 0 t = V m c main_v0 :=
  Memref.read_access_unit_zero (Elt Ideal) main_v0 (funext fun a => Nat.zero_mul _) (fun a => Nat.le_of_eq ((congrArg (· + _) (Nat.zero_mul _)).trans (Nat.zero_add _))) _
theorem iblk1 (t : Fin cfg0.N) : iblk m c 1 t = V m c main_arg1 :=
  Memref.read_access_unit_zero (Elt Ideal) main_arg1 (funext fun a => Nat.zero_mul _) (fun a => Nat.le_of_eq ((congrArg (· + _) (Nat.zero_mul _)).trans (Nat.zero_add _))) _
theorem iblk2 (t : Fin cfg0.N) : iblk m c 2 t = V m c main_v1 :=
  Memref.read_access_unit_zero (Elt Ideal) main_v1 (funext fun a => Nat.zero_mul _) (fun a => Nat.le_of_eq ((congrArg (· + _) (Nat.zero_mul _)).trans (Nat.zero_add _))) _
theorem iblk3 (t : Fin cfg0.N) : iblk m c 3 t = V m c main_v2 :=
  Memref.read_access_unit_zero (Elt Ideal) main_v2 (funext fun a => Nat.zero_mul _) (fun a => Nat.le_of_eq ((congrArg (· + _) (Nat.zero_mul _)).trans (Nat.zero_add _))) _
theorem iblk4 (t : Fin cfg0.N) : iblk m c 4 t = V m c main_v3 :=
  Memref.read_access_unit_zero (Elt Ideal) main_v3 (funext fun a => Nat.zero_mul _) (fun a => Nat.le_of_eq ((congrArg (· + _) (Nat.zero_mul _)).trans (Nat.zero_add _))) _
theorem iblk5 (t : Fin cfg0.N) : iblk m c 5 t = V m c main_v4 :=
  Memref.read_access_unit_zero (Elt Ideal) main_v4 (funext fun a => Nat.zero_mul _) (fun a => Nat.le_of_eq ((congrArg (· + _) (Nat.zero_mul _)).trans (Nat.zero_add _))) _
theorem iblk6 (t : Fin cfg0.N) : iblk m c 6 t = V m c main_v5 :=
  Memref.read_access_unit_zero (Elt Ideal) main_v5 (funext fun a => Nat.zero_mul _) (fun a => Nat.le_of_eq ((congrArg (· + _) (Nat.zero_mul _)).trans (Nat.zero_add _))) _
theorem iblk7 (t : Fin cfg0.N) : iblk m c 7 t = V m c main_arg18 :=
  Memref.read_access_unit_zero (Elt Ideal) main_arg18 (funext fun a => Nat.zero_mul _) (fun a => Nat.le_of_eq ((congrArg (· + _) (Nat.zero_mul _)).trans (Nat.zero_add _))) _
theorem iblk8 (t : Fin cfg0.N) : iblk m c 8 t = V m c main_v6 :=
  Memref.read_access_unit_zero (Elt Ideal) main_v6 (funext fun a => Nat.zero_mul _) (fun a => Nat.le_of_eq ((congrArg (· + _) (Nat.zero_mul _)).trans (Nat.zero_add _))) _
theorem iblk9 (t : Fin cfg0.N) : iblk m c 9 t = V m c main_v7 :=
  Memref.read_access_unit_zero (Elt Ideal) main_v7 (funext fun a => Nat.zero_mul _) (fun a => Nat.le_of_eq ((congrArg (· + _) (Nat.zero_mul _)).trans (Nat.zero_add _))) _
theorem iblk10 (t : Fin cfg0.N) : iblk m c 10 t = V m c main_arg21 :=
  Memref.read_access_unit_zero (Elt Ideal) main_arg21 (funext fun a => Nat.zero_mul _) (fun a => Nat.le_of_eq ((congrArg (· + _) (Nat.zero_mul _)).trans (Nat.zero_add _))) _
theorem iblk11 (t : Fin cfg0.N) : iblk m c 11 t = V m c main_v8 :=
  Memref.read_access_unit_zero (Elt Ideal) main_v8 (funext fun a => Nat.zero_mul _) (fun a => Nat.le_of_eq ((congrArg (· + _) (Nat.zero_mul _)).trans (Nat.zero_add _))) _
theorem iblk12 (t : Fin cfg0.N) : iblk m c 12 t = V m c main_v9 :=
  Memref.read_access_unit_zero (Elt Ideal) main_v9 (funext fun a => Nat.zero_mul _) (fun a => Nat.le_of_eq ((congrArg (· + _) (Nat.zero_mul _)).trans (Nat.zero_add _))) _

/-- The one grid point. -/
def t0 : Fin cfg0.N := ⟨0, by decide⟩

/-! ## Each result array -/

theorem final13 : (dats m 0 c).arrAt 13 cfg0.N = Spec.codes (args m c).x := by
  have e := (blocks13 m c t0 (flush0_13 t0)).trans (flushed13 m c t0)
  rw [iblk0, iblk1, iblk2, iblk3, iblk4, iblk5, iblk6, iblk7, iblk8, iblk9, iblk10, iblk11, iblk12, Out.out13, HostRead.inputs_eq] at e
  exact (Memref.read_access_unit_zero (Elt Ideal) main_v10_0 (funext fun a => Nat.zero_mul _) (fun a => Nat.le_of_eq ((congrArg (· + _) (Nat.zero_mul _)).trans (Nat.zero_add _))) _).symm.trans e
theorem final14 : (dats m 0 c).arrAt 14 cfg0.N = Spec.scales (args m c).x := by
  have e := (blocks14 m c t0 (flush0_14 t0)).trans (flushed14 m c t0)
  rw [iblk0, iblk1, iblk2, iblk3, iblk4, iblk5, iblk6, iblk7, iblk8, iblk9, iblk10, iblk11, iblk12, Out.out14, HostRead.inputs_eq] at e
  exact (Memref.read_access_unit_zero (Elt Ideal) main_v10_1 (funext fun a => Nat.zero_mul _) (fun a => Nat.le_of_eq ((congrArg (· + _) (Nat.zero_mul _)).trans (Nat.zero_add _))) _).symm.trans e
theorem final15 : (dats m 0 c).arrAt 15 cfg0.N = Spec.rows (args m c).h2 := by
  have e := (blocks15 m c t0 (flush0_15 t0)).trans (flushed15 m c t0)
  rw [iblk0, iblk1, iblk2, iblk3, iblk4, iblk5, iblk6, iblk7, iblk8, iblk9, iblk10, iblk11, iblk12, Out.out15, HostRead.inputs_eq] at e
  exact (Memref.read_access_unit_zero (Elt Ideal) main_v10_2 (funext fun a => Nat.zero_mul _) (fun a => Nat.le_of_eq ((congrArg (· + _) (Nat.zero_mul _)).trans (Nat.zero_add _))) _).symm.trans e
theorem final16 : (dats m 0 c).arrAt 16 cfg0.N = Spec.codes (args m c).ln := by
  have e := (blocks16 m c t0 (flush0_16 t0)).trans (flushed16 m c t0)
  rw [iblk0, iblk1, iblk2, iblk3, iblk4, iblk5, iblk6, iblk7, iblk8, iblk9, iblk10, iblk11, iblk12, Out.out16, HostRead.inputs_eq] at e
  exact (Memref.read_access_unit_zero (Elt Ideal) main_v10_3 (funext fun a => Nat.zero_mul _) (fun a => Nat.le_of_eq ((congrArg (· + _) (Nat.zero_mul _)).trans (Nat.zero_add _))) _).symm.trans e
theorem final17 : (dats m 0 c).arrAt 17 cfg0.N = Spec.scales (args m c).ln := by
  have e := (blocks17 m c t0 (flush0_17 t0)).trans (flushed17 m c t0)
  rw [iblk0, iblk1, iblk2, iblk3, iblk4, iblk5, iblk6, iblk7, iblk8, iblk9, iblk10, iblk11, iblk12, Out.out17, HostRead.inputs_eq] at e
  exact (Memref.read_access_unit_zero (Elt Ideal) main_v10_4 (funext fun a => Nat.zero_mul _) (fun a => Nat.le_of_eq ((congrArg (· + _) (Nat.zero_mul _)).trans (Nat.zero_add _))) _).symm.trans e
theorem final18 : (dats m 0 c).arrAt 18 cfg0.N = Spec.rows (args m c).hid := by
  have e := (blocks18 m c t0 (flush0_18 t0)).trans (flushed18 m c t0)
  rw [iblk0, iblk1, iblk2, iblk3, iblk4, iblk5, iblk6, iblk7, iblk8, iblk9, iblk10, iblk11, iblk12, Out.out18, HostRead.inputs_eq] at e
  exact (Memref.read_access_unit_zero (Elt Ideal) main_v10_5 (funext fun a => Nat.zero_mul _) (fun a => Nat.le_of_eq ((congrArg (· + _) (Nat.zero_mul _)).trans (Nat.zero_add _))) _).symm.trans e
theorem final19 : (dats m 0 c).arrAt 19 cfg0.N = Spec.codes (args m c).hid := by
  have e := (blocks19 m c t0 (flush0_19 t0)).trans (flushed19 m c t0)
  rw [iblk0, iblk1, iblk2, iblk3, iblk4, iblk5, iblk6, iblk7, iblk8, iblk9, iblk10, iblk11, iblk12, Out.out19, HostRead.inputs_eq] at e
  exact (Memref.read_access_unit_zero (Elt Ideal) main_v10_6 (funext fun a => Nat.zero_mul _) (fun a => Nat.le_of_eq ((congrArg (· + _) (Nat.zero_mul _)).trans (Nat.zero_add _))) _).symm.trans e
theorem final20 : (dats m 0 c).arrAt 20 cfg0.N = Spec.scales (args m c).hid := by
  have e := (blocks20 m c t0 (flush0_20 t0)).trans (flushed20 m c t0)
  rw [iblk0, iblk1, iblk2, iblk3, iblk4, iblk5, iblk6, iblk7, iblk8, iblk9, iblk10, iblk11, iblk12, Out.out20, HostRead.inputs_eq] at e
  exact (Memref.read_access_unit_zero (Elt Ideal) main_v10_7 (funext fun a => Nat.zero_mul _) (fun a => Nat.le_of_eq ((congrArg (· + _) (Nat.zero_mul _)).trans (Nat.zero_add _))) _).symm.trans e
theorem final21 : (dats m 0 c).arrAt 21 cfg0.N = Spec.rows (args m c).out := by
  have e := (blocks21 m c t0 (flush0_21 t0)).trans (flushed21 m c t0)
  rw [iblk0, iblk1, iblk2, iblk3, iblk4, iblk5, iblk6, iblk7, iblk8, iblk9, iblk10, iblk11, iblk12, Out.out21, HostRead.inputs_eq] at e
  exact (Memref.read_access_unit_zero (Elt Ideal) main_v10_8 (funext fun a => Nat.zero_mul _) (fun a => Nat.le_of_eq ((congrArg (· + _) (Nat.zero_mul _)).trans (Nat.zero_add _))) _).symm.trans e

/-- The run: the nine results, and the arguments unchanged. -/
theorem run : θ_run defs (onTc (τ := τ) (main (F := Ideal))) ⟨m, fun _ => 0, ρ⟩ fun r => ∀ c : Dev nD,
      r.2.mem ((c : Thread nD τ).loc main_v10_0) = Spec.codes (args m c).x
      ∧ r.2.mem ((c : Thread nD τ).loc main_v10_1) = Spec.scales (args m c).x
      ∧ r.2.mem ((c : Thread nD τ).loc main_v10_2) = Spec.rows (args m c).h2
      ∧ r.2.mem ((c : Thread nD τ).loc main_v10_3) = Spec.codes (args m c).ln
      ∧ r.2.mem ((c : Thread nD τ).loc main_v10_4) = Spec.scales (args m c).ln
      ∧ r.2.mem ((c : Thread nD τ).loc main_v10_5) = Spec.rows (args m c).hid
      ∧ r.2.mem ((c : Thread nD τ).loc main_v10_6) = Spec.codes (args m c).hid
      ∧ r.2.mem ((c : Thread nD τ).loc main_v10_7) = Spec.scales (args m c).hid
      ∧ r.2.mem ((c : Thread nD τ).loc main_v10_8) = Spec.rows (args m c).out
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23) :=
  (θ_run defs _ _).mono (fun r h c => by
    obtain ⟨h0, h1, h2, h3, h4, h5, h6, h7, h8, hk⟩ := h c
    exact ⟨h0.trans (final13 m c), h1.trans (final14 m c), h2.trans (final15 m c), h3.trans (final16 m c), h4.trans (final17 m c), h5.trans (final18 m c), h6.trans (final19 m c), h7.trans (final20 m c), h8.trans (final21 m c), hk⟩) (run_blocks m ρ)

end Cert.ReferenceIdeal.Run

end
-- ==== Proof.MidSpec.lean ====
/-
  WHAT THE MIDDLE CALL COMPUTES, over the extended reals: the self-attention's rows quantised and projected onto the residual
  stream, the layer norm, and the cross-attention's query projection, from the functions of `Proof/Spec.lean`; and its inputs
  as functions of the argument arrays.
-/
module

public import proofs.«01_k».proof.Proof.Results

@[expose] public section

noncomputable section

namespace Cert.Spec

open Idealize.ShloMosaic

/-- The inputs as plain functions: the attention rows `x` and the residual rows `h` by beam and sequence, the layer norm's gain
    and shift, and weights, scales and biases of the two projections. -/
structure MidInputs where
  x : Fin 4 → Fin 72 → Fin 1280 → EReal
  h : Fin 4 → Fin 72 → Fin 1280 → EReal
  g : Fin 1280 → EReal
  b : Fin 1280 → EReal
  wo : Fin 1280 → Fin 1280 → EReal
  so : Fin 1280 → EReal
  bo : Fin 1280 → EReal
  wq : Fin 1280 → Fin 1280 → EReal
  sq : Fin 1280 → EReal
  bq : Fin 1280 → EReal

namespace MidInputs
variable (I : MidInputs) (j : Fin 4) (r : Fin 72)
/-- The residual row after the attention output's projection. -/
def h1 : Fin 1280 → EReal := resid (I.x j r) (I.h j r) I.wo I.so I.bo
/-- Its layer norm. -/
def ln : Fin 1280 → EReal := layerNorm (I.h1 j r) I.g I.b
/-- The query row of the cross attention. -/
def query : Fin 1280 → EReal := linear (rowCode (I.ln j r)) (rowScale (I.ln j r)) I.wq I.sq I.bq
end MidInputs

/-- The inputs held by the argument arrays: rows are given [sequence, beam, channel], the output weight [head, channel of the
    head, channel], the query weight [channel, head, channel of the head]. -/
def midArgs (a0 : Vec Ideal ⟨3, ![72, 4, 1280]⟩ .f32) (a1 : Vec Ideal ⟨3, ![72, 4, 1280]⟩ .bf16) (g b : Vec Ideal ⟨1, ![1280]⟩ .f32)
    (wo : Vec Ideal ⟨3, ![20, 64, 1280]⟩ .i8) (so bo : Vec Ideal ⟨1, ![1280]⟩ .f32) (wq : Vec Ideal ⟨3, ![1280, 20, 64]⟩ .i8)
    (sq bq : Vec Ideal ⟨2, ![20, 64]⟩ .f32) : MidInputs where
  x := fun j r k => a0 (ix3 r j k)
  h := fun j r k => a1 (ix3 r j k)
  g := fun l => g (ix1 l)
  b := fun l => b (ix1 l)
  wo := fun k l => (((wo (ix3 ⟨k.val / 64, by omega⟩ ⟨k.val % 64, by omega⟩ l) : BitVec 8).toInt : ℝ) : EReal)
  so := fun l => so (ix1 l)
  bo := fun l => bo (ix1 l)
  wq := fun k l => (((wq (ix3 k ⟨l.val / 64, by omega⟩ ⟨l.val % 64, by omega⟩) : BitVec 8).toInt : ℝ) : EReal)
  sq := fun l => sq (ix2 ⟨l.val / 64, by omega⟩ ⟨l.val % 64, by omega⟩)
  bq := fun l => bq (ix2 ⟨l.val / 64, by omega⟩ ⟨l.val % 64, by omega⟩)

end Cert.Spec

end
-- ==== Proof.MidBlock.lean ====
/-
  THE MIDDLE CALL'S BODY AS A WHOLE: what it computes for beam `j` (of 4) from its five input blocks — the attention rows `x0`,
  the residual rows `x1`, the packed parameter rows `x2`, the two matrices of weights `x3`, `x4` — composed from the functions
  of `Proof/Beam.lean`, which its printed operations share with the other call's; and what those values are at `Ideal`: the
  functions of `Proof/MidSpec.lean` of the inputs the blocks hold (`inputs`).
-/
module

public import proofs.«01_k».proof.Proof.Gen.MidIdeal.Skeleton
public import proofs.«01_k».proof.Proof.BlockValue
public import proofs.«01_k».proof.Proof.MidSpec

@[expose] public section

set_option maxRecDepth 16384

noncomputable section

namespace Cert.MidBlock

open Idealize.ShloMosaic Cert.KernelIdeal Cert.KernelIdeal.Gen Cert.KernelIdeal.Beam Cert.KernelIdeal.Block

section values
variable {F : FTy → Type} [FloatOps F] [Named F]

/-- The 72 residual rows of one beam, in float32. -/
def slabH (x : Vec F S4x72x1280 .bf16) : Fin 4 → FVec F S72x1280 .f32
  | 0 => wide (shapeCast S72x1280 (View.ld x (Rect.unit ![0, 0, 0] S1x72x1280.size inb_S4x72x1280_S1x72x1280_0_0_0)) shapeCasts_S1x72x1280_S72x1280)
  | 1 => wide (shapeCast S72x1280 (View.ld x (Rect.unit ![1, 0, 0] S1x72x1280.size inb_S4x72x1280_S1x72x1280_1_0_0)) shapeCasts_S1x72x1280_S72x1280)
  | 2 => wide (shapeCast S72x1280 (View.ld x (Rect.unit ![2, 0, 0] S1x72x1280.size inb_S4x72x1280_S1x72x1280_2_0_0)) shapeCasts_S1x72x1280_S72x1280)
  | 3 => wide (shapeCast S72x1280 (View.ld x (Rect.unit ![3, 0, 0] S1x72x1280.size inb_S4x72x1280_S1x72x1280_3_0_0)) shapeCasts_S1x72x1280_S72x1280)

/-- The rows `x` over their scales `s`, rounded to the nearest even integer: the codes before the clip. -/
def ratio (x : FVec F S72x1280 .f32) (s : FVec F S72x1 .f32) : FVec F S72x1280 .f32 :=
  roundeven (divf x (broadcastTo S72x1280 s broadcasts_S72x1_S72x1280))

/-- The product of the codes with a matrix of weights given by output row. -/
def prodT (q : FVec F S72x1280 .f32) (w : FVec F S1280x1280 .bf16) : FVec F S72x1280 .f32 :=
  matmul Cert.MidIdeal.dot_S72x1280_S1280x1280_S72x1280_1_1_0_0_n_n none (truncf .bf16 q bitsLt_bf16_f32) w (constant S72x1280 .f32 0x00000000#32)

/-- Row `n` of the packed parameters. -/
abbrev row (x : FVec F S32x1280 .f32) (n : Nat) (h : S32x1280.Slices ![n, 0] S1x1280) : FVec F S1x1280 .f32 := extractStridedSlice S1x1280 ![n, 0] x h

variable (x0 : Vec F S4x72x1280 .f32) (x1 : Vec F S4x72x1280 .bf16) (x2 : FVec F S32x1280 .f32) (x3 x4 : IVec S20x64x1280 8)

/-- The residual rows after the attention output's projection. -/
def h1 (j : Fin 4) : FVec F S72x1280 .f32 :=
  addf (slabH x1 j) (rescale (prod (q1 x0 j) (wco x3)) (s1 x0 j) (row x2 11 Cert.MidIdeal.Facts₀.slices_S32x1280_o11_0_S1x1280)
    (row x2 12 Cert.MidIdeal.Facts₀.slices_S32x1280_o12_0_S1x1280))

/-- The row sums of the four beams. -/
def sums : FVec F S128x8 .f32 :=
  sumCols (rowSums (h1 x0 x1 x2 x3 0)) (rowSums (h1 x0 x1 x2 x3 1)) (rowSums (h1 x0 x1 x2 x3 2)) (rowSums (h1 x0 x1 x2 x3 3))

/-- The rows less their means. -/
def dev (j : Fin 4) : FVec F S72x1280 .f32 := centred (h1 x0 x1 x2 x3 j) (meanOf (sums x0 x1 x2 x3) j)

/-- Their squares. -/
def sq (j : Fin 4) : FVec F S72x1280 .f32 := mulf (dev x0 x1 x2 x3 j) (dev x0 x1 x2 x3 j)

/-- The squares' row sums of the four beams. -/
def sqSums : FVec F S128x8 .f32 :=
  sumCols (rowSums (sq x0 x1 x2 x3 0)) (rowSums (sq x0 x1 x2 x3 1)) (rowSums (sq x0 x1 x2 x3 2)) (rowSums (sq x0 x1 x2 x3 3))

/-- The normalised rows. -/
def ln (j : Fin 4) : FVec F S72x1280 .f32 :=
  normed (dev x0 x1 x2 x3 j) (meanOf (sqSums x0 x1 x2 x3) j) (row x2 7 Cert.MidIdeal.Facts₀.slices_S32x1280_o7_0_S1x1280)
    (row x2 8 Cert.MidIdeal.Facts₀.slices_S32x1280_o8_0_S1x1280)

/-- Their scales. -/
def s2 (j : Fin 4) : FVec F S72x1 .f32 := scaleOf (amax (ln x0 x1 x2 x3 j))

/-- Their codes. -/
def q2 (j : Fin 4) : FVec F S72x1280 .f32 := codes (ln x0 x1 x2 x3 j) (s2 x0 x1 x2 x3 j)

/-- The query rows of the cross attention. -/
def query (j : Fin 4) : FVec F S72x1280 .f32 :=
  wide (truncf .bf16 (rescale (prodT (q2 x0 x1 x2 x3 j) (wco x4)) (s2 x0 x1 x2 x3 j) (row x2 13 Cert.MidIdeal.Facts₀.slices_S32x1280_o13_0_S1x1280)
    (row x2 14 Cert.MidIdeal.Facts₀.slices_S32x1280_o14_0_S1x1280)) bitsLt_bf16_f32)

end values

/-! ## At `Ideal` -/

theorem slabH_at (x : Vec Ideal S4x72x1280 .bf16) (j : Fin 4) (r : Fin 72) (k : Fin 1280) : slabH x j (ix2 r k) = x (ix3 j r k) := by
  fin_cases j <;> (dsimp only; pointwise [slabH, wide])

theorem prodT_at (x : FVec Ideal S72x1280 .f32) (w : FVec Ideal S1280x1280 .bf16) (r : Fin 72) (l : Fin 1280) :
    prodT x w (ix2 r l) = ∑ k, x (ix2 r k) * w (ix2 l k) := by
  pointwise [prodT]

theorem row7_at (x : FVec Ideal S32x1280 .f32) (h) (l : Fin 1280) : row x 7 h (ix2 0 l) = x (ix2 7 l) := by pointwise [row]
theorem row8_at (x : FVec Ideal S32x1280 .f32) (h) (l : Fin 1280) : row x 8 h (ix2 0 l) = x (ix2 8 l) := by pointwise [row]
theorem row11_at (x : FVec Ideal S32x1280 .f32) (h) (l : Fin 1280) : row x 11 h (ix2 0 l) = x (ix2 11 l) := by pointwise [row]
theorem row12_at (x : FVec Ideal S32x1280 .f32) (h) (l : Fin 1280) : row x 12 h (ix2 0 l) = x (ix2 12 l) := by pointwise [row]
theorem row13_at (x : FVec Ideal S32x1280 .f32) (h) (l : Fin 1280) : row x 13 h (ix2 0 l) = x (ix2 13 l) := by pointwise [row]
theorem row14_at (x : FVec Ideal S32x1280 .f32) (h) (l : Fin 1280) : row x 14 h (ix2 0 l) = x (ix2 14 l) := by pointwise [row]

theorem narrow_at (x : FVec Ideal S72x1280 .f32) (r : Fin 72) (l : Fin 1280) : truncf .bf16 x bitsLt_bf16_f32 (ix2 r l) = x (ix2 r l) := by
  pointwise

/-- The inputs the five blocks hold: the parameter rows at their places in the packed array, the weights with head and lane of
    the head taken together. -/
def inputs (x0 : Vec Ideal S4x72x1280 .f32) (x1 : Vec Ideal S4x72x1280 .bf16) (x2 : FVec Ideal S32x1280 .f32) (x3 x4 : IVec S20x64x1280 8) : Spec.MidInputs where
  x := fun j r k => x0 (ix3 j r k)
  h := fun j r k => x1 (ix3 j r k)
  g := fun l => x2 (ix2 7 l)
  b := fun l => x2 (ix2 8 l)
  wo := fun k l => (((x3 (ix3 ⟨k.val / 64, by omega⟩ ⟨k.val % 64, by omega⟩ l)).toInt : ℝ) : EReal)
  so := fun l => x2 (ix2 11 l)
  bo := fun l => x2 (ix2 12 l)
  wq := fun k l => (((x4 (ix3 ⟨l.val / 64, by omega⟩ ⟨l.val % 64, by omega⟩ k)).toInt : ℝ) : EReal)
  sq := fun l => x2 (ix2 13 l)
  bq := fun l => x2 (ix2 14 l)

variable (x0 : Vec Ideal S4x72x1280 .f32) (x1 : Vec Ideal S4x72x1280 .bf16) (x2 : FVec Ideal S32x1280 .f32) (x3 x4 : IVec S20x64x1280 8)
  (j : Fin 4) (r : Fin 72) (l : Fin 1280)

theorem s1_at : s1 x0 j (ix2 r 0) = Spec.rowScale ((inputs x0 x1 x2 x3 x4).x j r) := by
  unfold s1 Spec.rowScale
  rw [scaleOf_at, amax_at]
  simp only [slab_at]
  rfl

theorem q1_at : q1 x0 j (ix2 r l) = Spec.rowCode ((inputs x0 x1 x2 x3 x4).x j r) l := by
  unfold q1 Spec.rowCode
  rw [codes_at, s1_at x0 x1 x2 x3 x4, slab_at]
  rfl

theorem h1_at : h1 x0 x1 x2 x3 j (ix2 r l) = (inputs x0 x1 x2 x3 x4).h1 j r l := by
  unfold h1 Spec.MidInputs.h1 Spec.resid Spec.linear
  rw [addf_at, rescale_at, prod_at, slabH_at]
  rw [row11_at, row12_at]
  simp only [q1_at x0 x1 x2 x3 x4, s1_at x0 x1 x2 x3 x4, wco_at]
  rfl

theorem dev_at : dev x0 x1 x2 x3 j (ix2 r l) = Spec.centred ((inputs x0 x1 x2 x3 x4).h1 j r) l := by
  unfold dev Spec.centred sums
  rw [centred_at, meanOf_at j r (h1 x0 x1 x2 x3)]
  simp only [h1_at x0 x1 x2 x3 x4]

theorem ln_at : ln x0 x1 x2 x3 j (ix2 r l) = (inputs x0 x1 x2 x3 x4).ln j r l := by
  unfold ln Spec.MidInputs.ln Spec.layerNorm sqSums
  rw [normed_at, meanOf_at j r (sq x0 x1 x2 x3)]
  rw [row7_at, row8_at]
  unfold sq
  simp only [mulf_at, dev_at x0 x1 x2 x3 x4]
  rfl

theorem s2_at : s2 x0 x1 x2 x3 j (ix2 r 0) = Spec.rowScale ((inputs x0 x1 x2 x3 x4).ln j r) := by
  unfold s2 Spec.rowScale
  rw [scaleOf_at, amax_at]
  simp only [ln_at x0 x1 x2 x3 x4]

theorem q2_at : q2 x0 x1 x2 x3 j (ix2 r l) = Spec.rowCode ((inputs x0 x1 x2 x3 x4).ln j r) l := by
  unfold q2 Spec.rowCode
  rw [codes_at, s2_at x0 x1 x2 x3 x4, ln_at x0 x1 x2 x3 x4]

theorem query_at : query x0 x1 x2 x3 x4 j (ix2 r l) = (inputs x0 x1 x2 x3 x4).query j r l := by
  unfold query Spec.MidInputs.query Spec.linear
  rw [wide_at, narrow_at, rescale_at, prodT_at]
  rw [row13_at, row14_at]
  simp only [q2_at x0 x1 x2 x3 x4, s2_at x0 x1 x2 x3 x4, wco_at]
  rfl

end Cert.MidBlock

end
-- ==== Proof.MidPieces.lean ====
/-
  WHAT THE MIDDLE CALL'S BODY STORES: a `p…` theorem below reads one value its run names, from those read before it, as the
  function of `Proof/MidBlock.lean` (or `Proof/Beam.lean`) of the input blocks; the `pieces…` theorems read the stores of the
  six outputs.
-/
module

public import proofs.«01_k».proof.Proof.Gen.MidIdeal.Frame
public import proofs.«01_k».proof.Proof.MidBlock
public import proofs.«01_k».proof.Proof.KernelOut

@[expose] public section

set_option maxRecDepth 16384

noncomputable section

namespace Cert.MidIdeal.Pieces

open Idealize.ShloMosaic Idealize.ShloMosaic.TcCoe Cert.MidIdeal Cert.MidIdeal.Gen Cert.KernelIdeal.Beam Cert.KernelIdeal.Pieces

variable {F : FTy → Type} [FloatOps F] [Named F] (x0 : Vec F S4x72x1280 .f32) (x1 : Vec F S4x72x1280 .bf16) (x2 : Vec F S32x1280 .f32) (x3 x4 : Vec F S20x64x1280 .i8)

theorem p100 : k0_pay100 x0 x1 x2 x3 x4 = x2 := by
  unfold k0_pay100 k0_pay5
  rw [View.ld_unit_zero (S := S32x1280) hz2]
  exact shapeCast_self _ _

theorem p101 : k0_pay101 x0 x1 x2 x3 x4 = KernelIdeal.Block.wco x3 := by
  unfold k0_pay101 k0_pay6
  rw [View.ld_unit_zero (S := S20x64x1280) hz3]
  rfl

theorem p102 : k0_pay102 x0 x1 x2 x3 x4 = KernelIdeal.Block.wco x4 := by
  unfold k0_pay102 k0_pay7
  rw [View.ld_unit_zero (S := S20x64x1280) hz3]
  rw [shapeCast_self]
  rfl

theorem p103 : k0_pay103 x0 x1 x2 x3 x4 = KernelIdeal.Block.s1 x0 0 := by
  unfold k0_pay103
  rfl

theorem p104 : k0_pay104 x0 x1 x2 x3 x4 = truncf .bf16 (KernelIdeal.Block.q1 x0 0) bitsLt_bf16_f32 := by
  unfold k0_pay104
  rfl

theorem p105 : k0_pay105 x0 x1 x2 x3 x4 = MidBlock.h1 x0 x1 x2 x3 0 := by
  unfold k0_pay105
  rw [p100, p101, p103, p104]
  rfl

theorem p106 : k0_pay106 x0 x1 x2 x3 x4 = KernelIdeal.Block.s1 x0 1 := by
  unfold k0_pay106
  rfl

theorem p107 : k0_pay107 x0 x1 x2 x3 x4 = KernelIdeal.Block.q1 x0 1 := by
  unfold k0_pay107
  rfl

theorem p108 : k0_pay108 x0 x1 x2 x3 x4 = MidBlock.h1 x0 x1 x2 x3 1 := by
  unfold k0_pay108
  rw [p100, p101, p106, p107]
  rfl

theorem p109 : k0_pay109 x0 x1 x2 x3 x4 = KernelIdeal.Block.s1 x0 2 := by
  unfold k0_pay109
  rfl

theorem p110 : k0_pay110 x0 x1 x2 x3 x4 = KernelIdeal.Block.q1 x0 2 := by
  unfold k0_pay110
  rfl

theorem p111 : k0_pay111 x0 x1 x2 x3 x4 = MidBlock.h1 x0 x1 x2 x3 2 := by
  unfold k0_pay111
  rw [p100, p101, p109, p110]
  rfl

theorem p112 : k0_pay112 x0 x1 x2 x3 x4 = KernelIdeal.Block.s1 x0 3 := by
  unfold k0_pay112
  rfl

theorem p113 : k0_pay113 x0 x1 x2 x3 x4 = MidBlock.ratio (KernelIdeal.Block.slab x0 3) (KernelIdeal.Block.s1 x0 3) := by
  unfold k0_pay113
  rfl

theorem p114 : k0_pay114 x0 x1 x2 x3 x4 = MidBlock.h1 x0 x1 x2 x3 3 := by
  unfold k0_pay114
  rw [p100, p101, p112, p113]
  rfl

theorem p115 : k0_pay115 x0 x1 x2 x3 x4 = MidBlock.row x2 7 Facts₀.slices_S32x1280_o7_0_S1x1280 := by
  unfold k0_pay115
  rw [p100]
  rfl

theorem p116 : k0_pay116 x0 x1 x2 x3 x4 = MidBlock.row x2 8 Facts₀.slices_S32x1280_o8_0_S1x1280 := by
  unfold k0_pay116
  rw [p100]
  rfl

theorem p117 : k0_pay117 x0 x1 x2 x3 x4 = rowSums (MidBlock.h1 x0 x1 x2 x3 0) := by
  unfold k0_pay117
  rw [p105]
  rfl

theorem p118 : k0_pay118 x0 x1 x2 x3 x4 = rowSums (MidBlock.h1 x0 x1 x2 x3 1) := by
  unfold k0_pay118
  rw [p108]
  rfl

theorem p119 : k0_pay119 x0 x1 x2 x3 x4 = rowSums (MidBlock.h1 x0 x1 x2 x3 2) := by
  unfold k0_pay119
  rw [p111]
  rfl

theorem p120 : k0_pay120 x0 x1 x2 x3 x4 = rowSums (MidBlock.h1 x0 x1 x2 x3 3) := by
  unfold k0_pay120
  rw [p114]
  rfl

theorem p121 : k0_pay121 x0 x1 x2 x3 x4 = MidBlock.dev x0 x1 x2 x3 0 := by
  unfold k0_pay121
  rw [p105, p117, p118, p119, p120]
  rfl

theorem p122 : k0_pay122 x0 x1 x2 x3 x4 = MidBlock.sq x0 x1 x2 x3 1 := by
  unfold k0_pay122
  rw [p108, p117, p118, p119, p120]
  rfl

theorem p123 : k0_pay123 x0 x1 x2 x3 x4 = rowSums (MidBlock.sq x0 x1 x2 x3 0) := by
  unfold k0_pay123
  rw [p105, p117, p118, p119, p120]
  rfl

theorem p124 : k0_pay124 x0 x1 x2 x3 x4 = rowSums (MidBlock.sq x0 x1 x2 x3 1) := by
  unfold k0_pay124
  rw [p122]
  rfl

theorem p125 : k0_pay125 x0 x1 x2 x3 x4 = rowSums (MidBlock.sq x0 x1 x2 x3 2) := by
  unfold k0_pay125
  rw [p111, p117, p118, p119, p120]
  rfl

theorem p126 : k0_pay126 x0 x1 x2 x3 x4 = laneSum (MidBlock.sq x0 x1 x2 x3 3) := by
  unfold k0_pay126
  rw [p114, p117, p118, p119, p120]
  rfl

theorem p127 : k0_pay127 x0 x1 x2 x3 x4 = mean0 (MidBlock.sqSums x0 x1 x2 x3) := by
  unfold k0_pay127
  rw [p123, p124, p125, p126]
  rfl

theorem p128 : k0_pay128 x0 x1 x2 x3 x4 = MidBlock.ln x0 x1 x2 x3 1 := by
  unfold k0_pay128
  rw [p115, p116, p108, p117, p118, p119, p120, p123, p124, p125, p126]
  rfl

theorem p129 : k0_pay129 x0 x1 x2 x3 x4 = MidBlock.ln x0 x1 x2 x3 2 := by
  unfold k0_pay129
  rw [p115, p116, p111, p117, p118, p119, p120, p123, p124, p125, p126]
  rfl

theorem p130 : k0_pay130 x0 x1 x2 x3 x4 = MidBlock.ln x0 x1 x2 x3 3 := by
  unfold k0_pay130
  rw [p115, p116, p114, p117, p118, p119, p120, p123, p124, p125, p126]
  rfl

theorem p131 : k0_pay131 x0 x1 x2 x3 x4 = MidBlock.s2 x0 x1 x2 x3 0 := by
  unfold k0_pay131
  rw [p115, p116, p121, p127]
  rfl

theorem p132 : k0_pay132 x0 x1 x2 x3 x4 = MidBlock.ratio (MidBlock.ln x0 x1 x2 x3 0) (MidBlock.s2 x0 x1 x2 x3 0) := by
  unfold k0_pay132
  rw [p115, p116, p121, p127]
  rfl

theorem p133 : k0_pay133 x0 x1 x2 x3 x4 = MidBlock.s2 x0 x1 x2 x3 1 := by
  unfold k0_pay133
  rw [p128]
  rfl

theorem p134 : k0_pay134 x0 x1 x2 x3 x4 = maximumf (broadcast Cert.KernelIdeal.S72x1280 (Scalar.ofBits .f32 0xC2FE0000#32)) (MidBlock.ratio (MidBlock.ln x0 x1 x2 x3 1) (MidBlock.s2 x0 x1 x2 x3 1)) := by
  unfold k0_pay134
  rw [p128]
  rfl

theorem p135 : k0_pay135 x0 x1 x2 x3 x4 = MidBlock.s2 x0 x1 x2 x3 2 := by
  unfold k0_pay135
  rw [p129]
  rfl

theorem p136 : k0_pay136 x0 x1 x2 x3 x4 = MidBlock.s2 x0 x1 x2 x3 3 := by
  unfold k0_pay136
  rw [p130]
  rfl

/-- The stores of the attention codes. -/
theorem pieces5 : out0_5 x0 x1 x2 x3 x4 = View.canon ([⟨Rect.unit ![3, 0, 0] S1x72x1280.size Facts₀.inb_S4x72x1280_S1x72x1280_3_0_0, shapeCast S1x72x1280 (fptosi 8 <| KernelIdeal.Block.q1 x0 3) Facts₀.shapeCasts_S72x1280_S1x72x1280⟩,
      ⟨Rect.unit ![2, 0, 0] S1x72x1280.size Facts₀.inb_S4x72x1280_S1x72x1280_2_0_0, shapeCast S1x72x1280 (fptosi 8 <| KernelIdeal.Block.q1 x0 2) Facts₀.shapeCasts_S72x1280_S1x72x1280⟩,
      ⟨Rect.unit ![1, 0, 0] S1x72x1280.size Facts₀.inb_S4x72x1280_S1x72x1280_1_0_0, shapeCast S1x72x1280 (fptosi 8 <| KernelIdeal.Block.q1 x0 1) Facts₀.shapeCasts_S72x1280_S1x72x1280⟩,
      ⟨Rect.unit ![0, 0, 0] S1x72x1280.size Facts₀.inb_S4x72x1280_S1x72x1280_0_0_0, shapeCast S1x72x1280 (fptosi 8 <| KernelIdeal.Block.q1 x0 0) Facts₀.shapeCasts_S72x1280_S1x72x1280⟩] : List (View.Piece (Elt F) S4x72x1280 .i8)) := by
  unfold out0_5
  rw [p113]
  rfl

/-- of the attention scales; -/
theorem pieces6 : out0_6 x0 x1 x2 x3 x4 = View.canon ([⟨Rect.unit ![0, 0] S4x128.size Facts₀.inb_S4x128_S4x128_0_0, concatenate S4x128 0 [⟨S1x128, colRow (KernelIdeal.Block.s1 x0 0)⟩, ⟨S1x128, colRow (KernelIdeal.Block.s1 x0 1)⟩, ⟨S1x128, colRow (KernelIdeal.Block.s1 x0 2)⟩, ⟨S1x128, colRow (KernelIdeal.Block.s1 x0 3)⟩] Facts₀.concatenates_S1x128_S1x128_S1x128_S1x128_S4x128_d0⟩] : List (View.Piece (Elt F) S4x128 .f32)) := by
  unfold out0_6
  rw [p109, p112]
  rfl

/-- of the residual rows; -/
theorem pieces7 : out0_7 x0 x1 x2 x3 x4 = View.canon ([⟨Rect.unit ![3, 0, 0] S1x72x1280.size Facts₀.inb_S4x72x1280_S1x72x1280_3_0_0, shapeCast S1x72x1280 (MidBlock.h1 x0 x1 x2 x3 3) Facts₀.shapeCasts_S72x1280_S1x72x1280⟩,
      ⟨Rect.unit ![2, 0, 0] S1x72x1280.size Facts₀.inb_S4x72x1280_S1x72x1280_2_0_0, shapeCast S1x72x1280 (MidBlock.h1 x0 x1 x2 x3 2) Facts₀.shapeCasts_S72x1280_S1x72x1280⟩,
      ⟨Rect.unit ![1, 0, 0] S1x72x1280.size Facts₀.inb_S4x72x1280_S1x72x1280_1_0_0, shapeCast S1x72x1280 (MidBlock.h1 x0 x1 x2 x3 1) Facts₀.shapeCasts_S72x1280_S1x72x1280⟩,
      ⟨Rect.unit ![0, 0, 0] S1x72x1280.size Facts₀.inb_S4x72x1280_S1x72x1280_0_0_0, shapeCast S1x72x1280 (MidBlock.h1 x0 x1 x2 x3 0) Facts₀.shapeCasts_S72x1280_S1x72x1280⟩] : List (View.Piece (Elt F) S4x72x1280 .f32)) := by
  unfold out0_7
  rw [p100, p101, p103, p104, p106, p107, p109, p110, p112, p113]
  rfl

/-- of the layer norm's codes; -/
theorem pieces8 : out0_8 x0 x1 x2 x3 x4 = View.canon ([⟨Rect.unit ![3, 0, 0] S1x72x1280.size Facts₀.inb_S4x72x1280_S1x72x1280_3_0_0, shapeCast S1x72x1280 (fptosi 8 <| MidBlock.q2 x0 x1 x2 x3 3) Facts₀.shapeCasts_S72x1280_S1x72x1280⟩,
      ⟨Rect.unit ![2, 0, 0] S1x72x1280.size Facts₀.inb_S4x72x1280_S1x72x1280_2_0_0, shapeCast S1x72x1280 (fptosi 8 <| MidBlock.q2 x0 x1 x2 x3 2) Facts₀.shapeCasts_S72x1280_S1x72x1280⟩,
      ⟨Rect.unit ![1, 0, 0] S1x72x1280.size Facts₀.inb_S4x72x1280_S1x72x1280_1_0_0, shapeCast S1x72x1280 (fptosi 8 <| MidBlock.q2 x0 x1 x2 x3 1) Facts₀.shapeCasts_S72x1280_S1x72x1280⟩,
      ⟨Rect.unit ![0, 0, 0] S1x72x1280.size Facts₀.inb_S4x72x1280_S1x72x1280_0_0_0, shapeCast S1x72x1280 (fptosi 8 <| MidBlock.q2 x0 x1 x2 x3 0) Facts₀.shapeCasts_S72x1280_S1x72x1280⟩] : List (View.Piece (Elt F) S4x72x1280 .i8)) := by
  unfold out0_8
  rw [p130, p129, p134, p132]
  rfl

/-- of its scales; -/
theorem pieces9 : out0_9 x0 x1 x2 x3 x4 = View.canon ([⟨Rect.unit ![0, 0] S4x128.size Facts₀.inb_S4x128_S4x128_0_0, concatenate S4x128 0 [⟨S1x128, colRow (MidBlock.s2 x0 x1 x2 x3 0)⟩, ⟨S1x128, colRow (MidBlock.s2 x0 x1 x2 x3 1)⟩, ⟨S1x128, colRow (MidBlock.s2 x0 x1 x2 x3 2)⟩, ⟨S1x128, colRow (MidBlock.s2 x0 x1 x2 x3 3)⟩] Facts₀.concatenates_S1x128_S1x128_S1x128_S1x128_S4x128_d0⟩] : List (View.Piece (Elt F) S4x128 .f32)) := by
  unfold out0_9
  rw [p131, p133, p135, p136]
  rfl

/-- of the query rows. -/
theorem pieces10 : out0_10 x0 x1 x2 x3 x4 = View.canon ([⟨Rect.unit ![3, 0, 0] S1x72x1280.size Facts₀.inb_S4x72x1280_S1x72x1280_3_0_0, shapeCast S1x72x1280 (MidBlock.query x0 x1 x2 x3 x4 3) Facts₀.shapeCasts_S72x1280_S1x72x1280⟩,
      ⟨Rect.unit ![2, 0, 0] S1x72x1280.size Facts₀.inb_S4x72x1280_S1x72x1280_2_0_0, shapeCast S1x72x1280 (MidBlock.query x0 x1 x2 x3 x4 2) Facts₀.shapeCasts_S72x1280_S1x72x1280⟩,
      ⟨Rect.unit ![1, 0, 0] S1x72x1280.size Facts₀.inb_S4x72x1280_S1x72x1280_1_0_0, shapeCast S1x72x1280 (MidBlock.query x0 x1 x2 x3 x4 1) Facts₀.shapeCasts_S72x1280_S1x72x1280⟩,
      ⟨Rect.unit ![0, 0, 0] S1x72x1280.size Facts₀.inb_S4x72x1280_S1x72x1280_0_0_0, shapeCast S1x72x1280 (MidBlock.query x0 x1 x2 x3 x4 0) Facts₀.shapeCasts_S72x1280_S1x72x1280⟩] : List (View.Piece (Elt F) S4x72x1280 .f32)) := by
  unfold out0_10
  rw [p100, p102, p136, p130, p135, p129, p133, p134, p131, p132]
  rfl

end Cert.MidIdeal.Pieces

end
-- ==== Proof.MidOut.lean ====
/-
  WHAT THE MIDDLE CALL'S BODY LEAVES in each of its six output blocks, at `Ideal`: the result array of `Proof/Results.lean` of
  the inputs its five input blocks hold.
-/
module

public import proofs.«01_k».proof.Proof.MidPieces

@[expose] public section

set_option maxRecDepth 16384

noncomputable section

namespace Cert.MidIdeal.Out

open Idealize.ShloMosaic Cert.MidIdeal Cert.MidIdeal.Gen Cert.MidIdeal.Pieces
open Cert.KernelIdeal.Out (canon4 cols_at)
open Cert.KernelIdeal.Pieces (hz2)

variable (x0 : Vec Ideal S4x72x1280 .f32) (x1 : Vec Ideal S4x72x1280 .bf16) (x2 : Vec Ideal S32x1280 .f32) (x3 x4 : Vec Ideal S20x64x1280 .i8)

/-- The attention codes. -/
theorem out5 : out0_5 x0 x1 x2 x3 x4 = Spec.codes (MidBlock.inputs x0 x1 x2 x3 x4).x := by
  rw [pieces5]
  refine (canon4 (e := .i8) fun j => fptosi 8 (KernelIdeal.Block.q1 x0 j)).trans (funext fun i => ?_)
  exact congrArg (Ideal.fptosi 8) (MidBlock.q1_at x0 x1 x2 x3 x4 (i 0) (i 1) (i 2))

/-- The attention scales. -/
theorem out6 : out0_6 x0 x1 x2 x3 x4 = Spec.scales (MidBlock.inputs x0 x1 x2 x3 x4).x := by
  rw [pieces6]
  rw [View.canon_unit_zero (S := S4x128) hz2]
  refine (cols_at (KernelIdeal.Block.s1 x0)).trans ?_
  funext i
  exact dite_congr rfl (fun h => MidBlock.s1_at x0 x1 x2 x3 x4 (i 0) ⟨(i 1).val, h⟩) (fun _ => rfl)

/-- The residual rows. -/
theorem out7 : out0_7 x0 x1 x2 x3 x4 = Spec.rows (MidBlock.inputs x0 x1 x2 x3 x4).h1 := by
  rw [pieces7]
  refine (canon4 (e := .f32) fun j => MidBlock.h1 x0 x1 x2 x3 j).trans (funext fun i => ?_)
  exact MidBlock.h1_at x0 x1 x2 x3 x4 (i 0) (i 1) (i 2)

/-- The layer norm's codes. -/
theorem out8 : out0_8 x0 x1 x2 x3 x4 = Spec.codes (MidBlock.inputs x0 x1 x2 x3 x4).ln := by
  rw [pieces8]
  refine (canon4 (e := .i8) fun j => fptosi 8 (MidBlock.q2 x0 x1 x2 x3 j)).trans (funext fun i => ?_)
  exact congrArg (Ideal.fptosi 8) (MidBlock.q2_at x0 x1 x2 x3 x4 (i 0) (i 1) (i 2))

/-- The layer norm's scales. -/
theorem out9 : out0_9 x0 x1 x2 x3 x4 = Spec.scales (MidBlock.inputs x0 x1 x2 x3 x4).ln := by
  rw [pieces9]
  rw [View.canon_unit_zero (S := S4x128) hz2]
  refine (cols_at (MidBlock.s2 x0 x1 x2 x3)).trans ?_
  funext i
  exact dite_congr rfl (fun h => MidBlock.s2_at x0 x1 x2 x3 x4 (i 0) ⟨(i 1).val, h⟩) (fun _ => rfl)

/-- The query rows. -/
theorem out10 : out0_10 x0 x1 x2 x3 x4 = Spec.rows (MidBlock.inputs x0 x1 x2 x3 x4).query := by
  rw [pieces10]
  refine (canon4 (e := .f32) fun j => MidBlock.query x0 x1 x2 x3 x4 j).trans (funext fun i => ?_)
  exact MidBlock.query_at x0 x1 x2 x3 x4 (i 0) (i 1) (i 2)

end Cert.MidIdeal.Out

end
-- ==== Proof.MidHost.lean ====
/-
  THE ARRAYS THE MIDDLE CALL FINDS, at `Ideal`: what the host operations before it leave in its five operands, read at an
  index as elements of the argument arrays; so the inputs its blocks hold are `Spec.midArgs` of the arguments.
-/
module

public import proofs.«01_k».proof.Proof.Gen.MidIdeal.Frame
public import proofs.«01_k».proof.Proof.MidBlock
public import Idealize.ShloMosaic.Lib.StableHlo.ReadAt

@[expose] public section

set_option maxRecDepth 16384

noncomputable section

namespace Cert.MidIdeal.HostRead

open Idealize.ShloMosaic Idealize.ShloMosaic.TcCoe Cert.MidIdeal Cert.MidIdeal.Gen

variable (m : (ℓ : Loc nD τ sig) → Buf (Elt Ideal) ℓ) (c : Dev nD)

/-- The attention's rows, transposed to [beam, sequence, channel]; -/
theorem rows_at (j : Fin 4) (r : Fin 72) (k : Fin 1280) :
    (V m c main_v32 : Vec Ideal S4x72x1280 .f32) (ix3 j r k)
      = (m ((c : Thread nD τ).loc main_arg0) : Vec Ideal S72x4x1280 .f32) (ix3 r j k) := by
  unfold V
  after_reads_at
/-- the residual rows, so transposed. -/
theorem resid_at (j : Fin 4) (r : Fin 72) (k : Fin 1280) :
    (V m c main_v31 : Vec Ideal S4x72x1280 .bf16) (ix3 j r k)
      = (m ((c : Thread nD τ).loc main_arg1) : Vec Ideal S72x4x1280 .bf16) (ix3 r j k) := by
  unfold V
  after_reads_at

/-- Rows of the parameter array: the layer norm's gain -/
theorem prm7_at (l : Fin 1280) :
    (V m c main_v30 : Vec Ideal S32x1280 .f32) (ix2 7 l)
      = (m ((c : Thread nD τ).loc main_arg4) : Vec Ideal S1280 .f32) (ix1 l) := by
  unfold V
  iterate 2 after_reads_at
/-- and shift; -/
theorem prm8_at (l : Fin 1280) :
    (V m c main_v30 : Vec Ideal S32x1280 .f32) (ix2 8 l)
      = (m ((c : Thread nD τ).loc main_arg5) : Vec Ideal S1280 .f32) (ix1 l) := by
  unfold V
  iterate 2 after_reads_at
/-- the output projection's scales -/
theorem prm11_at (l : Fin 1280) :
    (V m c main_v30 : Vec Ideal S32x1280 .f32) (ix2 11 l)
      = (m ((c : Thread nD τ).loc main_arg12) : Vec Ideal S1280 .f32) (ix1 l) := by
  unfold V
  iterate 2 after_reads_at
/-- and bias; -/
theorem prm12_at (l : Fin 1280) :
    (V m c main_v30 : Vec Ideal S32x1280 .f32) (ix2 12 l)
      = (m ((c : Thread nD τ).loc main_arg13) : Vec Ideal S1280 .f32) (ix1 l) := by
  unfold V
  iterate 2 after_reads_at
/-- the query projection's scales -/
theorem prm13_at (l : Fin 1280) :
    (V m c main_v30 : Vec Ideal S32x1280 .f32) (ix2 13 l)
      = (m ((c : Thread nD τ).loc main_arg15) : Vec Ideal S20x64 .f32) (ix2 ⟨l.val / 64, by omega⟩ ⟨l.val % 64, by omega⟩) := by
  unfold V
  iterate 2 after_reads_at
/-- and bias. -/
theorem prm14_at (l : Fin 1280) :
    (V m c main_v30 : Vec Ideal S32x1280 .f32) (ix2 14 l)
      = (m ((c : Thread nD τ).loc main_arg16) : Vec Ideal S20x64 .f32) (ix2 ⟨l.val / 64, by omega⟩ ⟨l.val % 64, by omega⟩) := by
  unfold V
  iterate 2 after_reads_at

/-- The query projection's weight, transposed to [head, channel of the head, channel]. -/
theorem query_at (h : Fin 20) (d : Fin 64) (k : Fin 1280) :
    (V m c main_v33 : Vec Ideal S20x64x1280 .i8) (ix3 h d k)
      = (m ((c : Thread nD τ).loc main_arg14) : Vec Ideal S1280x20x64 .i8) (ix3 k h d) := by
  unfold V
  after_reads_at

/-- The inputs that the call's operands hold are those of the arguments. -/
theorem inputs_eq : MidBlock.inputs (V m c main_v32) (V m c main_v31) (V m c main_v30) (V m c main_arg11) (V m c main_v33)
    = Spec.midArgs (m ((c : Thread nD τ).loc main_arg0)) (m ((c : Thread nD τ).loc main_arg1)) (m ((c : Thread nD τ).loc main_arg4)) (m ((c : Thread nD τ).loc main_arg5)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  unfold MidBlock.inputs Spec.midArgs
  rw [V_main_arg11]
  simp only [rows_at m c, resid_at m c, prm7_at m c, prm8_at m c, prm11_at m c, prm12_at m c, prm13_at m c, prm14_at m c, query_at m c]

end Cert.MidIdeal.HostRead

end
-- ==== Proof.MidRun.lean ====
/-
  THE RUN of the middle call at `Ideal`: it leaves the six result arrays of `Proof/Results.lean` of its arguments. The call has one
  grid point, at which each window's block is its whole array.
-/
module

public import proofs.«01_k».proof.Proof.Gen.MidIdeal.Value
public import proofs.«01_k».proof.Proof.MidOut
public import proofs.«01_k».proof.Proof.MidHost

@[expose] public section

set_option maxRecDepth 16384

noncomputable section

namespace Cert.MidIdeal.Run

open Idealize.ShloMosaic Idealize.ShloMosaic.TcCoe Idealize.SL.Sem Cert.MidIdeal Cert.MidIdeal.Gen Cert.MidIdeal.Value

variable (m : (ℓ : Loc nD τ sig) → Buf (Elt Ideal) ℓ) (ρ : Dev nD → PrngReg) (c : Dev nD)

/-- The inputs that the arguments hold. -/
abbrev args : Spec.MidInputs := Spec.midArgs (m ((c : Thread nD τ).loc main_arg0)) (m ((c : Thread nD τ).loc main_arg1)) (m ((c : Thread nD τ).loc main_arg4)) (m ((c : Thread nD τ).loc main_arg5)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-! ## Each operand's block is its array -/

theorem iblk0 (t : Fin cfg0.N) : iblk m c 0 t = V m c main_v32 :=
  Memref.read_access_unit_zero (Elt Ideal) main_v32 (funext fun a => Nat.zero_mul _) (fun a => Nat.le_of_eq ((congrArg (· + _) (Nat.zero_mul _)).trans (Nat.zero_add _))) _
theorem iblk1 (t : Fin cfg0.N) : iblk m c 1 t = V m c main_v31 :=
  Memref.read_access_unit_zero (Elt Ideal) main_v31 (funext fun a => Nat.zero_mul _) (fun a => Nat.le_of_eq ((congrArg (· + _) (Nat.zero_mul _)).trans (Nat.zero_add _))) _
theorem iblk2 (t : Fin cfg0.N) : iblk m c 2 t = V m c main_v30 :=
  Memref.read_access_unit_zero (Elt Ideal) main_v30 (funext fun a => Nat.zero_mul _) (fun a => Nat.le_of_eq ((congrArg (· + _) (Nat.zero_mul _)).trans (Nat.zero_add _))) _
theorem iblk3 (t : Fin cfg0.N) : iblk m c 3 t = V m c main_arg11 :=
  Memref.read_access_unit_zero (Elt Ideal) main_arg11 (funext fun a => Nat.zero_mul _) (fun a => Nat.le_of_eq ((congrArg (· + _) (Nat.zero_mul _)).trans (Nat.zero_add _))) _
theorem iblk4 (t : Fin cfg0.N) : iblk m c 4 t = V m c main_v33 :=
  Memref.read_access_unit_zero (Elt Ideal) main_v33 (funext fun a => Nat.zero_mul _) (fun a => Nat.le_of_eq ((congrArg (· + _) (Nat.zero_mul _)).trans (Nat.zero_add _))) _

/-- The one grid point. -/
def t0 : Fin cfg0.N := ⟨0, by decide⟩

/-! ## Each result array -/

theorem final5 : (dats m 0 c).arrAt 5 cfg0.N = Spec.codes (args m c).x := by
  have e := (blocks5 m c t0 (flush0_5 t0)).trans (flushed5 m c t0)
  rw [iblk0, iblk1, iblk2, iblk3, iblk4, Out.out5, HostRead.inputs_eq] at e
  exact (Memref.read_access_unit_zero (Elt Ideal) main_v34_0 (funext fun a => Nat.zero_mul _) (fun a => Nat.le_of_eq ((congrArg (· + _) (Nat.zero_mul _)).trans (Nat.zero_add _))) _).symm.trans e
theorem final6 : (dats m 0 c).arrAt 6 cfg0.N = Spec.scales (args m c).x := by
  have e := (blocks6 m c t0 (flush0_6 t0)).trans (flushed6 m c t0)
  rw [iblk0, iblk1, iblk2, iblk3, iblk4, Out.out6, HostRead.inputs_eq] at e
  exact (Memref.read_access_unit_zero (Elt Ideal) main_v34_1 (funext fun a => Nat.zero_mul _) (fun a => Nat.le_of_eq ((congrArg (· + _) (Nat.zero_mul _)).trans (Nat.zero_add _))) _).symm.trans e
theorem final7 : (dats m 0 c).arrAt 7 cfg0.N = Spec.rows (args m c).h1 := by
  have e := (blocks7 m c t0 (flush0_7 t0)).trans (flushed7 m c t0)
  rw [iblk0, iblk1, iblk2, iblk3, iblk4, Out.out7, HostRead.inputs_eq] at e
  exact (Memref.read_access_unit_zero (Elt Ideal) main_v34_2 (funext fun a => Nat.zero_mul _) (fun a => Nat.le_of_eq ((congrArg (· + _) (Nat.zero_mul _)).trans (Nat.zero_add _))) _).symm.trans e
theorem final8 : (dats m 0 c).arrAt 8 cfg0.N = Spec.codes (args m c).ln := by
  have e := (blocks8 m c t0 (flush0_8 t0)).trans (flushed8 m c t0)
  rw [iblk0, iblk1, iblk2, iblk3, iblk4, Out.out8, HostRead.inputs_eq] at e
  exact (Memref.read_access_unit_zero (Elt Ideal) main_v34_3 (funext fun a => Nat.zero_mul _) (fun a => Nat.le_of_eq ((congrArg (· + _) (Nat.zero_mul _)).trans (Nat.zero_add _))) _).symm.trans e
theorem final9 : (dats m 0 c).arrAt 9 cfg0.N = Spec.scales (args m c).ln := by
  have e := (blocks9 m c t0 (flush0_9 t0)).trans (flushed9 m c t0)
  rw [iblk0, iblk1, iblk2, iblk3, iblk4, Out.out9, HostRead.inputs_eq] at e
  exact (Memref.read_access_unit_zero (Elt Ideal) main_v34_4 (funext fun a => Nat.zero_mul _) (fun a => Nat.le_of_eq ((congrArg (· + _) (Nat.zero_mul _)).trans (Nat.zero_add _))) _).symm.trans e
theorem final10 : (dats m 0 c).arrAt 10 cfg0.N = Spec.rows (args m c).query := by
  have e := (blocks10 m c t0 (flush0_10 t0)).trans (flushed10 m c t0)
  rw [iblk0, iblk1, iblk2, iblk3, iblk4, Out.out10, HostRead.inputs_eq] at e
  exact (Memref.read_access_unit_zero (Elt Ideal) main_v34_5 (funext fun a => Nat.zero_mul _) (fun a => Nat.le_of_eq ((congrArg (· + _) (Nat.zero_mul _)).trans (Nat.zero_add _))) _).symm.trans e

/-- The run: the six results, and the arguments unchanged. -/
theorem run : θ_run defs (onTc (τ := τ) (main (F := Ideal))) ⟨m, fun _ => 0, ρ⟩ fun r => ∀ c : Dev nD,
      r.2.mem ((c : Thread nD τ).loc main_v34_0) = Spec.codes (args m c).x
      ∧ r.2.mem ((c : Thread nD τ).loc main_v34_1) = Spec.scales (args m c).x
      ∧ r.2.mem ((c : Thread nD τ).loc main_v34_2) = Spec.rows (args m c).h1
      ∧ r.2.mem ((c : Thread nD τ).loc main_v34_3) = Spec.codes (args m c).ln
      ∧ r.2.mem ((c : Thread nD τ).loc main_v34_4) = Spec.scales (args m c).ln
      ∧ r.2.mem ((c : Thread nD τ).loc main_v34_5) = Spec.rows (args m c).query
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => by
    obtain ⟨h0, h1, h2, h3, h4, h5, hk⟩ := h c
    exact ⟨h0.trans (final5 m c), h1.trans (final6 m c), h2.trans (final7 m c), h3.trans (final8 m c), h4.trans (final9 m c), h5.trans (final10 m c), hk⟩) (run_blocks m ρ)

end Cert.MidIdeal.Run

end
-- ==== Proof.MidRefRead.lean ====
/-
  WHAT THE MIDDLE CALL'S REFERENCE COMPUTES at `Ideal`: each value of its body, read at row `r` of beam `j`, is the function of
  `Proof/MidSpec.lean` of the inputs its ten blocks hold (`inputs`).
-/
module

public import proofs.«01_k».proof.Proof.Gen.MidReferenceIdeal.Skeleton
public import proofs.«01_k».proof.Proof.MidSpec

@[expose] public section

set_option maxRecDepth 16384

noncomputable section

namespace Cert.MidReferenceIdeal.Read

open Idealize.ShloMosaic Cert.MidReferenceIdeal Cert.MidReferenceIdeal.Gen

/-- The inputs the ten blocks hold. -/
def inputs (x : Vec Ideal S4x72x1280 .f32) (h : Vec Ideal S4x72x1280 .bf16) (g b : Vec Ideal S1x1x1280 .f32) (wo : Vec Ideal S1280x1280 .i8)
    (so bo : Vec Ideal S1x1x1280 .f32) (wq : Vec Ideal S1280x1280 .i8) (sq bq : Vec Ideal S1x1x1280 .f32) : Spec.MidInputs where
  x := fun j r k => x (ix3 j r k)
  h := fun j r k => h (ix3 j r k)
  g := fun l => g (ix3 0 0 l)
  b := fun l => b (ix3 0 0 l)
  wo := fun k l => (((wo (ix2 k l) : BitVec 8).toInt : ℝ) : EReal)
  so := fun l => so (ix3 0 0 l)
  bo := fun l => bo (ix3 0 0 l)
  wq := fun k l => (((wq (ix2 k l) : BitVec 8).toInt : ℝ) : EReal)
  sq := fun l => sq (ix3 0 0 l)
  bq := fun l => bq (ix3 0 0 l)

variable (x : Vec Ideal S4x72x1280 .f32) (h : Vec Ideal S4x72x1280 .bf16) (g b : Vec Ideal S1x1x1280 .f32) (wo : Vec Ideal S1280x1280 .i8)
  (so bo : Vec Ideal S1x1x1280 .f32) (wq : Vec Ideal S1280x1280 .i8) (sq bq : Vec Ideal S1x1x1280 .f32) (j : Fin 4) (r : Fin 72)

theorem pay2_at : k0_pay2 x (ix2 j r) = Spec.rowScale fun k => x (ix3 j r k) := by
  pointwise [k0_pay2, k0_pay1]
  rw [Spec.bits_neg_inf, Spec.bits_127, Spec.div_127]
  rfl

theorem pay3_at (l : Fin 1280) : k0_pay3 x (ix3 j r l) = Ideal.fptosi 8 (Spec.rowCode (fun k => x (ix3 j r k)) l) := by
  pointwise [k0_pay3, k0_pay1]
  rw [Spec.bits_neg_127, Spec.bits_127, pay2_at]
  rfl

/-- The residual rows after the output projection. -/
theorem pay7_at (l : Fin 1280) : k0_pay7 (k0_pay4 h) (k0_pay5 x wo so) (k0_pay6 bo) (ix3 j r l) = (inputs x h g b wo so bo wq sq bq).h1 j r l := by
  unfold Spec.MidInputs.h1 Spec.resid Spec.linear
  have e : ∀ k, Spec.rowCode ((inputs x h g b wo so bo wq sq bq).x j r) k = (((k0_pay3 x (ix3 j r k)).toInt : ℝ) : EReal) := fun k => by
    rw [pay3_at]; exact (Spec.code_cast ..).symm
  have e' : Spec.rowScale ((inputs x h g b wo so bo wq sq bq).x j r) = k0_pay2 x (ix2 j r) := (pay2_at ..).symm
  simp only [e, e']
  pointwise [k0_pay7, k0_pay4, k0_pay5, k0_pay6]
  rfl

/-- The layer norm of any rows `u` plus `v` plus `w`. -/
theorem pay8_at (u v w : FVec Ideal S4x72x1280 .f32) (l : Fin 1280) :
    k0_pay8 u v w g b (ix3 j r l) = Spec.layerNorm (fun k => k0_pay7 u v w (ix3 j r k)) (fun k => g (ix3 0 0 k)) (fun k => b (ix3 0 0 k)) l := by
  pointwise [k0_pay8]
  simp only [Spec.bits_1280, Spec.div_1280]
  rfl

theorem pay9_at (u v w : FVec Ideal S4x72x1280 .f32) : k0_pay9 u v w g b (ix2 j r) = Spec.rowScale fun k => k0_pay8 u v w g b (ix3 j r k) := by
  pointwise [k0_pay9]
  rw [Spec.bits_neg_inf, Spec.bits_127, Spec.div_127]
  rfl

theorem pay10_at (u v w : FVec Ideal S4x72x1280 .f32) (l : Fin 1280) :
    k0_pay10 u v w g b (ix3 j r l) = Ideal.fptosi 8 (Spec.rowCode (fun k => k0_pay8 u v w g b (ix3 j r k)) l) := by
  pointwise [k0_pay10]
  rw [Spec.bits_neg_127, Spec.bits_127, pay9_at]
  rfl

/-- The query rows of any scales `s` and codes `q`. -/
theorem pay13_at (s : FVec Ideal S4x72 .f32) (q : IVec S4x72x1280 8) (l : Fin 1280) :
    k0_pay13 s q wq sq bq (ix3 j r l)
      = Spec.linear (fun k => (((q (ix3 j r k)).toInt : ℝ) : EReal)) (s (ix2 j r)) (fun k l => (((wq (ix2 k l) : BitVec 8).toInt : ℝ) : EReal))
          (fun l => sq (ix3 0 0 l)) (fun l => bq (ix3 0 0 l)) l := by
  pointwise [k0_pay13]
  rfl

/-- A row of scales, padded with zeros to 128 lanes. -/
theorem pay11_at (s : FVec Ideal S4x72 .f32) (k : Fin 128) : k0_pay11 s (ix2 j k) = if h : k.val < 72 then s (ix2 j ⟨k.val, h⟩) else 0 := by
  pointwise [k0_pay11]
theorem pay12_at (s : FVec Ideal S4x72 .f32) (k : Fin 128) : k0_pay12 s (ix2 j k) = if h : k.val < 72 then s (ix2 j ⟨k.val, h⟩) else 0 := by
  pointwise [k0_pay12]

end Cert.MidReferenceIdeal.Read

end
-- ==== Proof.MidRefOut.lean ====
/-
  WHAT THE MIDDLE CALL'S REFERENCE LEAVES in each of its six output blocks, at `Ideal`: the result array of
  `Proof/Results.lean` of the inputs its ten input blocks hold. Each block is one store of the whole block.
-/
module

public import proofs.«01_k».proof.Proof.Gen.MidReferenceIdeal.Frame
public import proofs.«01_k».proof.Proof.MidRefRead
public import proofs.«01_k».proof.Proof.RefOut

@[expose] public section

set_option maxRecDepth 16384

noncomputable section

namespace Cert.MidReferenceIdeal.Out

open Idealize.ShloMosaic Cert.MidReferenceIdeal Cert.MidReferenceIdeal.Gen Cert.MidReferenceIdeal.Read
open Cert.ReferenceIdeal.Out (hz2 hz3 eta2 eta3 rowCode_cast)

variable (x0 : Vec Ideal S4x72x1280 .f32) (x1 : Vec Ideal S4x72x1280 .bf16) (x2 x3 : Vec Ideal S1x1x1280 .f32) (x4 : Vec Ideal S1280x1280 .i8)
  (x5 x6 : Vec Ideal S1x1x1280 .f32) (x7 : Vec Ideal S1280x1280 .i8) (x8 x9 : Vec Ideal S1x1x1280 .f32) (j : Fin 4) (r : Fin 72)

/-! ## The values that the stores share, of the whole blocks: a load of a whole block reads the block -/

theorem ld0 (x : Vec Ideal S4x72x1280 .f32) : View.ld x r0_0 = x := View.ld_unit_zero (S := S4x72x1280) hz3 _ x
theorem ldh (x : Vec Ideal S4x72x1280 .bf16) : View.ld x r0_0 = x := View.ld_unit_zero (S := S4x72x1280) hz3 _ x
theorem ld1 (x : Vec Ideal S1280x1280 .i8) : View.ld x r0_1 = x := View.ld_unit_zero (S := S1280x1280) hz2 _ x
theorem ld2 (x : Vec Ideal S1x1x1280 .f32) : View.ld x r0_2 = x := View.ld_unit_zero (S := S1x1x1280) hz3 _ x

theorem h1_at (l : Fin 1280) : k0_pay7 (k0_pay14 x0 x1 x2 x3 x4 x5 x6 x7 x8 x9) (k0_pay15 x0 x1 x2 x3 x4 x5 x6 x7 x8 x9) (k0_pay16 x0 x1 x2 x3 x4 x5 x6 x7 x8 x9) (ix3 j r l) = (inputs x0 x1 x2 x3 x4 x5 x6 x7 x8 x9).h1 j r l := by
  unfold k0_pay14 k0_pay15 k0_pay16
  simp only [ld0, ldh, ld1, ld2]
  exact pay7_at x0 x1 x2 x3 x4 x5 x6 x7 x8 x9 j r l

theorem ln_at (l : Fin 1280) : k0_pay8 (k0_pay14 x0 x1 x2 x3 x4 x5 x6 x7 x8 x9) (k0_pay15 x0 x1 x2 x3 x4 x5 x6 x7 x8 x9) (k0_pay16 x0 x1 x2 x3 x4 x5 x6 x7 x8 x9) x2 x3 (ix3 j r l) = (inputs x0 x1 x2 x3 x4 x5 x6 x7 x8 x9).ln j r l := by
  rw [pay8_at]
  simp only [h1_at]
  rfl

theorem pay17_at : k0_pay17 x0 x1 x2 x3 x4 x5 x6 x7 x8 x9 (ix2 j r) = Spec.rowScale ((inputs x0 x1 x2 x3 x4 x5 x6 x7 x8 x9).ln j r) := by
  unfold k0_pay17
  simp only [ld0, ldh, ld1, ld2]
  rw [pay9_at]
  simp only [ln_at]

theorem pay18_at (l : Fin 1280) : k0_pay18 x0 x1 x2 x3 x4 x5 x6 x7 x8 x9 (ix3 j r l) = Ideal.fptosi 8 (Spec.rowCode ((inputs x0 x1 x2 x3 x4 x5 x6 x7 x8 x9).ln j r) l) := by
  unfold k0_pay18
  simp only [ld0, ldh, ld1, ld2]
  rw [pay10_at]
  simp only [ln_at]

/-- The attention codes. -/
theorem out10 : out0_10 x0 x1 x2 x3 x4 x5 x6 x7 x8 x9 = Spec.codes (inputs x0 x1 x2 x3 x4 x5 x6 x7 x8 x9).x := by
  unfold out0_10
  try simp only [ld0, ldh, ld1, ld2]
  refine (View.canon_unit_zero hz3 _ _).trans (funext fun i => ?_)
  obtain ⟨j, r, l, rfl⟩ := eta3 i
  exact pay3_at x0 j r l

/-- The attention scales. -/
theorem out11 : out0_11 x0 x1 x2 x3 x4 x5 x6 x7 x8 x9 = Spec.scales (inputs x0 x1 x2 x3 x4 x5 x6 x7 x8 x9).x := by
  unfold out0_11
  try simp only [ld0, ldh, ld1, ld2]
  refine (View.canon_unit_zero hz2 _ _).trans (funext fun i => ?_)
  obtain ⟨j, k, rfl⟩ := eta2 i
  rw [pay11_at]
  simp only [pay2_at]
  rfl

/-- The residual rows. -/
theorem out12 : out0_12 x0 x1 x2 x3 x4 x5 x6 x7 x8 x9 = Spec.rows (inputs x0 x1 x2 x3 x4 x5 x6 x7 x8 x9).h1 := by
  unfold out0_12
  try simp only [ld0, ldh, ld1, ld2]
  refine (View.canon_unit_zero hz3 _ _).trans (funext fun i => ?_)
  obtain ⟨j, r, l, rfl⟩ := eta3 i
  exact h1_at x0 x1 x2 x3 x4 x5 x6 x7 x8 x9 j r l

/-- The layer norm's codes. -/
theorem out13 : out0_13 x0 x1 x2 x3 x4 x5 x6 x7 x8 x9 = Spec.codes (inputs x0 x1 x2 x3 x4 x5 x6 x7 x8 x9).ln := by
  unfold out0_13
  try simp only [ld0, ldh, ld1, ld2]
  refine (View.canon_unit_zero hz3 _ _).trans (funext fun i => ?_)
  obtain ⟨j, r, l, rfl⟩ := eta3 i
  exact pay18_at x0 x1 x2 x3 x4 x5 x6 x7 x8 x9 j r l

/-- The layer norm's scales. -/
theorem out14 : out0_14 x0 x1 x2 x3 x4 x5 x6 x7 x8 x9 = Spec.scales (inputs x0 x1 x2 x3 x4 x5 x6 x7 x8 x9).ln := by
  unfold out0_14
  try simp only [ld0, ldh, ld1, ld2]
  refine (View.canon_unit_zero hz2 _ _).trans (funext fun i => ?_)
  obtain ⟨j, k, rfl⟩ := eta2 i
  rw [pay12_at]
  simp only [pay17_at]
  rfl

/-- The query rows. -/
theorem out15 : out0_15 x0 x1 x2 x3 x4 x5 x6 x7 x8 x9 = Spec.rows (inputs x0 x1 x2 x3 x4 x5 x6 x7 x8 x9).query := by
  unfold out0_15
  try simp only [ld0, ldh, ld1, ld2]
  refine (View.canon_unit_zero hz3 _ _).trans (funext fun i => ?_)
  obtain ⟨j, r, l, rfl⟩ := eta3 i
  rw [pay13_at]
  simp only [pay17_at, pay18_at, rowCode_cast]
  rfl

end Cert.MidReferenceIdeal.Out

end
-- ==== Proof.MidRefHost.lean ====
/-
  THE ARRAYS THE MIDDLE CALL'S REFERENCE FINDS, at `Ideal`: what the host's transposes and reshapes leave in its operands, read
  at an index as elements of the argument arrays; so the inputs its blocks hold are `Spec.midArgs` of the arguments.
-/
module

public import proofs.«01_k».proof.Proof.Gen.MidReferenceIdeal.Frame
public import proofs.«01_k».proof.Proof.MidRefRead
public import Idealize.ShloMosaic.Lib.StableHlo.ReadAt

@[expose] public section

set_option maxRecDepth 16384

noncomputable section

namespace Cert.MidReferenceIdeal.HostRead

open Idealize.ShloMosaic Idealize.ShloMosaic.TcCoe Cert.MidReferenceIdeal Cert.MidReferenceIdeal.Gen

variable (m : (ℓ : Loc nD τ sig) → Buf (Elt Ideal) ℓ) (c : Dev nD)

/-- The attention's rows, transposed to [beam, sequence, channel]; -/
theorem rows_at (j : Fin 4) (r : Fin 72) (k : Fin 1280) :
    (V m c main_v0 : Vec Ideal S4x72x1280 .f32) (ix3 j r k)
      = (m ((c : Thread nD τ).loc main_arg0) : Vec Ideal S72x4x1280 .f32) (ix3 r j k) := by
  unfold V
  after_reads_at
/-- the residual rows, so transposed. -/
theorem resid_at (j : Fin 4) (r : Fin 72) (k : Fin 1280) :
    (V m c main_v1 : Vec Ideal S4x72x1280 .bf16) (ix3 j r k)
      = (m ((c : Thread nD τ).loc main_arg1) : Vec Ideal S72x4x1280 .bf16) (ix3 r j k) := by
  unfold V
  after_reads_at

/-- The output projection's weight, heads and their channels as one axis; -/
theorem weight_at (k l : Fin 1280) :
    (V m c main_v4 : Vec Ideal S1280x1280 .i8) (ix2 k l)
      = (m ((c : Thread nD τ).loc main_arg11) : Vec Ideal S20x64x1280 .i8) (ix3 ⟨k.val / 64, by omega⟩ ⟨k.val % 64, by omega⟩ l) := by
  unfold V
  after_reads_at
/-- the query projection's, likewise. -/
theorem query_at (k l : Fin 1280) :
    (V m c main_v7 : Vec Ideal S1280x1280 .i8) (ix2 k l)
      = (m ((c : Thread nD τ).loc main_arg14) : Vec Ideal S1280x20x64 .i8) (ix3 k ⟨l.val / 64, by omega⟩ ⟨l.val % 64, by omega⟩) := by
  unfold V
  after_reads_at

/-! Vectors, each as the one row of one matrix. -/

theorem vec2_at (l : Fin 1280) :
    (V m c main_v2 : Vec Ideal S1x1x1280 .f32) (ix3 0 0 l)
      = (m ((c : Thread nD τ).loc main_arg4) : Vec Ideal S1280 .f32) (ix1 l) := by
  unfold V
  after_reads_at
theorem vec3_at (l : Fin 1280) :
    (V m c main_v3 : Vec Ideal S1x1x1280 .f32) (ix3 0 0 l)
      = (m ((c : Thread nD τ).loc main_arg5) : Vec Ideal S1280 .f32) (ix1 l) := by
  unfold V
  after_reads_at
theorem vec5_at (l : Fin 1280) :
    (V m c main_v5 : Vec Ideal S1x1x1280 .f32) (ix3 0 0 l)
      = (m ((c : Thread nD τ).loc main_arg12) : Vec Ideal S1280 .f32) (ix1 l) := by
  unfold V
  after_reads_at
theorem vec6_at (l : Fin 1280) :
    (V m c main_v6 : Vec Ideal S1x1x1280 .f32) (ix3 0 0 l)
      = (m ((c : Thread nD τ).loc main_arg13) : Vec Ideal S1280 .f32) (ix1 l) := by
  unfold V
  after_reads_at
theorem vec8_at (l : Fin 1280) :
    (V m c main_v8 : Vec Ideal S1x1x1280 .f32) (ix3 0 0 l)
      = (m ((c : Thread nD τ).loc main_arg15) : Vec Ideal S20x64 .f32) (ix2 ⟨l.val / 64, by omega⟩ ⟨l.val % 64, by omega⟩) := by
  unfold V
  after_reads_at
theorem vec9_at (l : Fin 1280) :
    (V m c main_v9 : Vec Ideal S1x1x1280 .f32) (ix3 0 0 l)
      = (m ((c : Thread nD τ).loc main_arg16) : Vec Ideal S20x64 .f32) (ix2 ⟨l.val / 64, by omega⟩ ⟨l.val % 64, by omega⟩) := by
  unfold V
  after_reads_at

/-- The inputs that the call's operands hold are those of the arguments. -/
theorem inputs_eq : Read.inputs (V m c main_v0) (V m c main_v1) (V m c main_v2) (V m c main_v3) (V m c main_v4) (V m c main_v5) (V m c main_v6) (V m c main_v7) (V m c main_v8) (V m c main_v9)
    = Spec.midArgs (m ((c : Thread nD τ).loc main_arg0)) (m ((c : Thread nD τ).loc main_arg1)) (m ((c : Thread nD τ).loc main_arg4)) (m ((c : Thread nD τ).loc main_arg5)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  unfold Read.inputs Spec.midArgs
  simp only [rows_at m c, resid_at m c, weight_at m c, query_at m c, vec2_at m c, vec3_at m c, vec5_at m c, vec6_at m c, vec8_at m c, vec9_at m c]

end Cert.MidReferenceIdeal.HostRead

end
-- ==== Proof.MidRefRun.lean ====
/-
  THE RUN of the middle call's reference at `Ideal`: it leaves the six result arrays of `Proof/Results.lean` of its arguments. The call has one
  grid point, at which each window's block is its whole array.
-/
module

public import proofs.«01_k».proof.Proof.Gen.MidReferenceIdeal.Value
public import proofs.«01_k».proof.Proof.MidRefOut
public import proofs.«01_k».proof.Proof.MidRefHost

@[expose] public section

set_option maxRecDepth 16384

noncomputable section

namespace Cert.MidReferenceIdeal.Run

open Idealize.ShloMosaic Idealize.ShloMosaic.TcCoe Idealize.SL.Sem Cert.MidReferenceIdeal Cert.MidReferenceIdeal.Gen Cert.MidReferenceIdeal.Value

variable (m : (ℓ : Loc nD τ sig) → Buf (Elt Ideal) ℓ) (ρ : Dev nD → PrngReg) (c : Dev nD)

/-- The inputs that the arguments hold. -/
abbrev args : Spec.MidInputs := Spec.midArgs (m ((c : Thread nD τ).loc main_arg0)) (m ((c : Thread nD τ).loc main_arg1)) (m ((c : Thread nD τ).loc main_arg4)) (m ((c : Thread nD τ).loc main_arg5)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-! ## Each operand's block is its array -/

theorem iblk0 (t : Fin cfg0.N) : iblk m c 0 t = V m c main_v0 :=
  Memref.read_access_unit_zero (Elt Ideal) main_v0 (funext fun a => Nat.zero_mul _) (fun a => Nat.le_of_eq ((congrArg (· + _) (Nat.zero_mul _)).trans (Nat.zero_add _))) _
theorem iblk1 (t : Fin cfg0.N) : iblk m c 1 t = V m c main_v1 :=
  Memref.read_access_unit_zero (Elt Ideal) main_v1 (funext fun a => Nat.zero_mul _) (fun a => Nat.le_of_eq ((congrArg (· + _) (Nat.zero_mul _)).trans (Nat.zero_add _))) _
theorem iblk2 (t : Fin cfg0.N) : iblk m c 2 t = V m c main_v2 :=
  Memref.read_access_unit_zero (Elt Ideal) main_v2 (funext fun a => Nat.zero_mul _) (fun a => Nat.le_of_eq ((congrArg (· + _) (Nat.zero_mul _)).trans (Nat.zero_add _))) _
theorem iblk3 (t : Fin cfg0.N) : iblk m c 3 t = V m c main_v3 :=
  Memref.read_access_unit_zero (Elt Ideal) main_v3 (funext fun a => Nat.zero_mul _) (fun a => Nat.le_of_eq ((congrArg (· + _) (Nat.zero_mul _)).trans (Nat.zero_add _))) _
theorem iblk4 (t : Fin cfg0.N) : iblk m c 4 t = V m c main_v4 :=
  Memref.read_access_unit_zero (Elt Ideal) main_v4 (funext fun a => Nat.zero_mul _) (fun a => Nat.le_of_eq ((congrArg (· + _) (Nat.zero_mul _)).trans (Nat.zero_add _))) _
theorem iblk5 (t : Fin cfg0.N) : iblk m c 5 t = V m c main_v5 :=
  Memref.read_access_unit_zero (Elt Ideal) main_v5 (funext fun a => Nat.zero_mul _) (fun a => Nat.le_of_eq ((congrArg (· + _) (Nat.zero_mul _)).trans (Nat.zero_add _))) _
theorem iblk6 (t : Fin cfg0.N) : iblk m c 6 t = V m c main_v6 :=
  Memref.read_access_unit_zero (Elt Ideal) main_v6 (funext fun a => Nat.zero_mul _) (fun a => Nat.le_of_eq ((congrArg (· + _) (Nat.zero_mul _)).trans (Nat.zero_add _))) _
theorem iblk7 (t : Fin cfg0.N) : iblk m c 7 t = V m c main_v7 :=
  Memref.read_access_unit_zero (Elt Ideal) main_v7 (funext fun a => Nat.zero_mul _) (fun a => Nat.le_of_eq ((congrArg (· + _) (Nat.zero_mul _)).trans (Nat.zero_add _))) _
theorem iblk8 (t : Fin cfg0.N) : iblk m c 8 t = V m c main_v8 :=
  Memref.read_access_unit_zero (Elt Ideal) main_v8 (funext fun a => Nat.zero_mul _) (fun a => Nat.le_of_eq ((congrArg (· + _) (Nat.zero_mul _)).trans (Nat.zero_add _))) _
theorem iblk9 (t : Fin cfg0.N) : iblk m c 9 t = V m c main_v9 :=
  Memref.read_access_unit_zero (Elt Ideal) main_v9 (funext fun a => Nat.zero_mul _) (fun a => Nat.le_of_eq ((congrArg (· + _) (Nat.zero_mul _)).trans (Nat.zero_add _))) _

/-- The one grid point. -/
def t0 : Fin cfg0.N := ⟨0, by decide⟩

/-! ## Each result array -/

theorem final10 : (dats m 0 c).arrAt 10 cfg0.N = Spec.codes (args m c).x := by
  have e := (blocks10 m c t0 (flush0_10 t0)).trans (flushed10 m c t0)
  rw [iblk0, iblk1, iblk2, iblk3, iblk4, iblk5, iblk6, iblk7, iblk8, iblk9, Out.out10, HostRead.inputs_eq] at e
  exact (Memref.read_access_unit_zero (Elt Ideal) main_v10_0 (funext fun a => Nat.zero_mul _) (fun a => Nat.le_of_eq ((congrArg (· + _) (Nat.zero_mul _)).trans (Nat.zero_add _))) _).symm.trans e
theorem final11 : (dats m 0 c).arrAt 11 cfg0.N = Spec.scales (args m c).x := by
  have e := (blocks11 m c t0 (flush0_11 t0)).trans (flushed11 m c t0)
  rw [iblk0, iblk1, iblk2, iblk3, iblk4, iblk5, iblk6, iblk7, iblk8, iblk9, Out.out11, HostRead.inputs_eq] at e
  exact (Memref.read_access_unit_zero (Elt Ideal) main_v10_1 (funext fun a => Nat.zero_mul _) (fun a => Nat.le_of_eq ((congrArg (· + _) (Nat.zero_mul _)).trans (Nat.zero_add _))) _).symm.trans e
theorem final12 : (dats m 0 c).arrAt 12 cfg0.N = Spec.rows (args m c).h1 := by
  have e := (blocks12 m c t0 (flush0_12 t0)).trans (flushed12 m c t0)
  rw [iblk0, iblk1, iblk2, iblk3, iblk4, iblk5, iblk6, iblk7, iblk8, iblk9, Out.out12, HostRead.inputs_eq] at e
  exact (Memref.read_access_unit_zero (Elt Ideal) main_v10_2 (funext fun a => Nat.zero_mul _) (fun a => Nat.le_of_eq ((congrArg (· + _) (Nat.zero_mul _)).trans (Nat.zero_add _))) _).symm.trans e
theorem final13 : (dats m 0 c).arrAt 13 cfg0.N = Spec.codes (args m c).ln := by
  have e := (blocks13 m c t0 (flush0_13 t0)).trans (flushed13 m c t0)
  rw [iblk0, iblk1, iblk2, iblk3, iblk4, iblk5, iblk6, iblk7, iblk8, iblk9, Out.out13, HostRead.inputs_eq] at e
  exact (Memref.read_access_unit_zero (Elt Ideal) main_v10_3 (funext fun a => Nat.zero_mul _) (fun a => Nat.le_of_eq ((congrArg (· + _) (Nat.zero_mul _)).trans (Nat.zero_add _))) _).symm.trans e
theorem final14 : (dats m 0 c).arrAt 14 cfg0.N = Spec.scales (args m c).ln := by
  have e := (blocks14 m c t0 (flush0_14 t0)).trans (flushed14 m c t0)
  rw [iblk0, iblk1, iblk2, iblk3, iblk4, iblk5, iblk6, iblk7, iblk8, iblk9, Out.out14, HostRead.inputs_eq] at e
  exact (Memref.read_access_unit_zero (Elt Ideal) main_v10_4 (funext fun a => Nat.zero_mul _) (fun a => Nat.le_of_eq ((congrArg (· + _) (Nat.zero_mul _)).trans (Nat.zero_add _))) _).symm.trans e
theorem final15 : (dats m 0 c).arrAt 15 cfg0.N = Spec.rows (args m c).query := by
  have e := (blocks15 m c t0 (flush0_15 t0)).trans (flushed15 m c t0)
  rw [iblk0, iblk1, iblk2, iblk3, iblk4, iblk5, iblk6, iblk7, iblk8, iblk9, Out.out15, HostRead.inputs_eq] at e
  exact (Memref.read_access_unit_zero (Elt Ideal) main_v10_5 (funext fun a => Nat.zero_mul _) (fun a => Nat.le_of_eq ((congrArg (· + _) (Nat.zero_mul _)).trans (Nat.zero_add _))) _).symm.trans e

/-- The run: the six results, and the arguments unchanged. -/
theorem run : θ_run defs (onTc (τ := τ) (main (F := Ideal))) ⟨m, fun _ => 0, ρ⟩ fun r => ∀ c : Dev nD,
      r.2.mem ((c : Thread nD τ).loc main_v10_0) = Spec.codes (args m c).x
      ∧ r.2.mem ((c : Thread nD τ).loc main_v10_1) = Spec.scales (args m c).x
      ∧ r.2.mem ((c : Thread nD τ).loc main_v10_2) = Spec.rows (args m c).h1
      ∧ r.2.mem ((c : Thread nD τ).loc main_v10_3) = Spec.codes (args m c).ln
      ∧ r.2.mem ((c : Thread nD τ).loc main_v10_4) = Spec.scales (args m c).ln
      ∧ r.2.mem ((c : Thread nD τ).loc main_v10_5) = Spec.rows (args m c).query
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => by
    obtain ⟨h0, h1, h2, h3, h4, h5, hk⟩ := h c
    exact ⟨h0.trans (final10 m c), h1.trans (final11 m c), h2.trans (final12 m c), h3.trans (final13 m c), h4.trans (final14 m c), h5.trans (final15 m c), hk⟩) (run_blocks m ρ)

end Cert.MidReferenceIdeal.Run

end
-- ==== Proof.QkvSpec.lean ====
/-
  WHAT THE FIRST CALL'S LAYER NORM COMPUTES, over the extended reals: the normalised rows, from the functions of
  `Proof/Spec.lean`; and its inputs as functions of the argument arrays.
-/
module

public import proofs.«01_k».proof.Proof.Results

@[expose] public section

noncomputable section

namespace Cert.Spec

open Idealize.ShloMosaic

/-- The inputs as plain functions: the layer's input rows `x` by beam and sequence, the layer norm's gain and shift. -/
structure QkvInputs where
  x : Fin 4 → Fin 72 → Fin 1280 → EReal
  g : Fin 1280 → EReal
  b : Fin 1280 → EReal

/-- The layer norm of a row. -/
def QkvInputs.ln (I : QkvInputs) (j : Fin 4) (r : Fin 72) : Fin 1280 → EReal := layerNorm (I.x j r) I.g I.b

/-- The inputs held by the argument arrays: rows are given [sequence, beam, channel]. -/
def qkvArgs (a0 : Vec Ideal ⟨3, ![72, 4, 1280]⟩ .bf16) (g b : Vec Ideal ⟨1, ![1280]⟩ .f32) : QkvInputs where
  x := fun j r k => a0 (ix3 r j k)
  g := fun l => g (ix1 l)
  b := fun l => b (ix1 l)

end Cert.Spec

end
-- ==== Proof.QkvBlock.lean ====
/-
  THE FIRST CALL'S LAYER NORM AS A WHOLE: what the body computes for beam `j` (of 4) from the rows `x0` and the packed
  parameter rows `x1`, composed from the functions of `Proof/Beam.lean`, which its printed operations share with the other
  calls'; and what those values are at `Ideal`: the functions of `Proof/QkvSpec.lean` of the inputs the blocks hold (`inputs`).
-/
module

public import proofs.«01_k».proof.Proof.Gen.QkvIdeal.Skeleton
public import proofs.«01_k».proof.Proof.MidBlock
public import proofs.«01_k».proof.Proof.QkvSpec

@[expose] public section

set_option maxRecDepth 16384

noncomputable section

namespace Cert.QkvBlock

open Idealize.ShloMosaic Cert.KernelIdeal Cert.KernelIdeal.Gen Cert.KernelIdeal.Beam Cert.KernelIdeal.Block
open Cert.MidBlock (slabH row slabH_at)

section values
variable {F : FTy → Type} [FloatOps F] [Named F]

variable (x0 : Vec F S4x72x1280 .bf16) (x1 : FVec F S32x1280 .f32)

/-- The row sums of the four beams. -/
def sums : FVec F S128x8 .f32 := sumCols (rowSums (slabH x0 0)) (rowSums (slabH x0 1)) (rowSums (slabH x0 2)) (rowSums (slabH x0 3))

/-- The rows less their means. -/
def dev (j : Fin 4) : FVec F S72x1280 .f32 := centred (slabH x0 j) (meanOf (sums x0) j)

/-- Their squares. -/
def sq (j : Fin 4) : FVec F S72x1280 .f32 := mulf (dev x0 j) (dev x0 j)

/-- The squares' row sums of the four beams. -/
def sqSums : FVec F S128x8 .f32 := sumCols (rowSums (sq x0 0)) (rowSums (sq x0 1)) (rowSums (sq x0 2)) (rowSums (sq x0 3))

/-- The normalised rows. -/
def ln (j : Fin 4) : FVec F S72x1280 .f32 :=
  normed (dev x0 j) (meanOf (sqSums x0) j) (row x1 5 Cert.QkvIdeal.Facts₀.slices_S32x1280_o5_0_S1x1280)
    (row x1 6 Cert.QkvIdeal.Facts₀.slices_S32x1280_o6_0_S1x1280)

/-- Their scales. -/
def s (j : Fin 4) : FVec F S72x1 .f32 := scaleOf (amax (ln x0 x1 j))

/-- Their codes. -/
def q (j : Fin 4) : FVec F S72x1280 .f32 := codes (ln x0 x1 j) (s x0 x1 j)

end values

/-! ## At `Ideal` -/

theorem row5_at (x : FVec Ideal S32x1280 .f32) (h) (l : Fin 1280) : row x 5 h (ix2 0 l) = x (ix2 5 l) := by pointwise [row]
theorem row6_at (x : FVec Ideal S32x1280 .f32) (h) (l : Fin 1280) : row x 6 h (ix2 0 l) = x (ix2 6 l) := by pointwise [row]

/-- The inputs the two blocks hold: gain and shift at their places in the packed array. -/
def inputs (x0 : Vec Ideal S4x72x1280 .bf16) (x1 : FVec Ideal S32x1280 .f32) : Spec.QkvInputs where
  x := fun j r k => x0 (ix3 j r k)
  g := fun l => x1 (ix2 5 l)
  b := fun l => x1 (ix2 6 l)

variable (x0 : Vec Ideal S4x72x1280 .bf16) (x1 : FVec Ideal S32x1280 .f32) (j : Fin 4) (r : Fin 72) (l : Fin 1280)

theorem dev_at : dev x0 j (ix2 r l) = Spec.centred ((inputs x0 x1).x j r) l := by
  unfold dev Spec.centred sums
  rw [centred_at, meanOf_at j r (slabH x0)]
  simp only [slabH_at]
  rfl

theorem ln_at : ln x0 x1 j (ix2 r l) = (inputs x0 x1).ln j r l := by
  unfold ln Spec.QkvInputs.ln Spec.layerNorm sqSums
  rw [normed_at, meanOf_at j r (sq x0)]
  rw [row5_at, row6_at]
  unfold sq
  simp only [mulf_at, dev_at x0 x1]
  rfl

theorem s_at : s x0 x1 j (ix2 r 0) = Spec.rowScale ((inputs x0 x1).ln j r) := by
  unfold s Spec.rowScale
  rw [scaleOf_at, amax_at]
  simp only [ln_at x0 x1]

theorem q_at : q x0 x1 j (ix2 r l) = Spec.rowCode ((inputs x0 x1).ln j r) l := by
  unfold q Spec.rowCode
  rw [codes_at, s_at x0 x1, ln_at x0 x1]

end Cert.QkvBlock

end
-- ==== Proof.QkvPieces.lean ====
/-
  WHAT THE FIRST CALL'S BODY STORES in its first two outputs: the codes and the scales of the normalised rows, as the functions
  of `Proof/QkvBlock.lean` of the input blocks. The run of the body names its intermediate values; a `w_…` theorem below reads
  one of them, from those read before it, and `pieces3` and `pieces4` read the stores.
-/
module

public import proofs.«01_k».proof.Proof.Gen.QkvIdeal.Frame
public import proofs.«01_k».proof.Proof.KernelOut
public import proofs.«01_k».proof.Proof.QkvBlock

@[expose] public section

set_option maxRecDepth 16384

noncomputable section

namespace Cert.QkvIdeal.Pieces

open Idealize.ShloMosaic Idealize.ShloMosaic.TcCoe Idealize.SL.Sem Cert.QkvIdeal Cert.QkvIdeal.Gen Cert.KernelIdeal.Beam Cert.KernelIdeal.Block
open Cert.KernelIdeal.Pieces (hz2)
open Cert.MidBlock (slabH row)

variable {F : FTy → Type} [FloatOps F] [Named F]
variable (c : Dev nD) (arg0 : Memref sig .tc .vmem S4x72x1280 .bf16) (harg0 : arg0.IsWhole) (arg1 : Memref sig .tc .vmem S32x1280 .f32) (harg1 : arg1.IsWhole)
  (x0 : Vec F S4x72x1280 .bf16) (x1 : Vec F S32x1280 .f32)

theorem w_v1 : kernelRun0_A.sl.v1 c arg1 harg1 x1 = x1 := by
  simp only [kernelRun0_A.sl.v1, harg1.read_unread, View.readAt_eq_ld, View.ld_unit_zero (S := S32x1280) hz2, shapeCast_self]

/-! The four beams' rows. -/

theorem w_v8 : kernelRun0_A.sl.v8 c arg0 harg0 x0 = slabH x0 0 := by
  simp only [kernelRun0_A.sl.v8, kernelRun0_A.sl.v7, harg0.read_unread, View.readAt_eq_ld]; rfl
theorem w_v11 : kernelRun0_A.sl.v11 c arg0 harg0 x0 = slabH x0 1 := by
  simp only [kernelRun0_A.sl.v11, kernelRun0_A.sl.v10, harg0.read_unread, View.readAt_eq_ld]; rfl
theorem w_v14 : kernelRun0_A.sl.v14 c arg0 harg0 x0 = slabH x0 2 := by
  simp only [kernelRun0_A.sl.v14, kernelRun0_A.sl.v13, harg0.read_unread, View.readAt_eq_ld]; rfl
theorem w_v17 : kernelRun0_A.sl.v17 c arg0 harg0 x0 = slabH x0 3 := by
  simp only [kernelRun0_A.sl.v17, kernelRun0_A.sl.v16, harg0.read_unread, View.readAt_eq_ld]; rfl

/-! Their row sums. -/

theorem w_v41 : kernelRun0_A.sl.v41 c arg0 harg0 x0 = turned (laneSum (slabH x0 0)) := by
  rw [← w_v8 c arg0 harg0 x0]; rfl
theorem w_v81 : kernelRun0_A.sl.v81 c arg0 harg0 x0 = rowSums (slabH x0 0) := by
  unfold rowSums; rw [← w_v41 c arg0 harg0 x0]; rfl
theorem w_v103 : kernelRun0_A.sl.v103 c arg0 harg0 x0 = turned (laneSum (slabH x0 1)) := by
  rw [← w_v11 c arg0 harg0 x0]; rfl
theorem w_v143 : kernelRun0_A.sl.v143 c arg0 harg0 x0 = rowSums (slabH x0 1) := by
  unfold rowSums; rw [← w_v103 c arg0 harg0 x0]; rfl
theorem w_v165 : kernelRun0_A.sl.v165 c arg0 harg0 x0 = turned (laneSum (slabH x0 2)) := by
  rw [← w_v14 c arg0 harg0 x0]; rfl
theorem w_v205 : kernelRun0_A.sl.v205 c arg0 harg0 x0 = rowSums (slabH x0 2) := by
  unfold rowSums; rw [← w_v165 c arg0 harg0 x0]; rfl

theorem w_r : kernelRun0_A.sl.r c arg0 harg0 x0 = QkvBlock.sums x0 := by
  unfold QkvBlock.sums
  rw [← w_v81 c arg0 harg0 x0, ← w_v143 c arg0 harg0 x0, ← w_v205 c arg0 harg0 x0, ← w_v17 c arg0 harg0 x0]; rfl

/-! The rows less their means. -/

theorem w_r_3 : kernelRun0_A.sl.r_3 c arg0 harg0 x0 = QkvBlock.dev x0 0 := by
  unfold QkvBlock.dev
  rw [← w_r c arg0 harg0 x0, ← w_v8 c arg0 harg0 x0]; rfl
theorem w_r_4 : kernelRun0_A.sl.r_4 c arg0 harg0 x0 = QkvBlock.dev x0 1 := by
  unfold QkvBlock.dev
  rw [← w_r c arg0 harg0 x0, ← w_v11 c arg0 harg0 x0]; rfl
theorem w_r_5 : kernelRun0_A.sl.r_5 c arg0 harg0 x0 = QkvBlock.dev x0 2 := by
  unfold QkvBlock.dev
  rw [← w_r c arg0 harg0 x0, ← w_v14 c arg0 harg0 x0]; rfl
theorem w_r_6 : kernelRun0_A.sl.r_6 c arg0 harg0 x0 = QkvBlock.dev x0 3 := by
  unfold QkvBlock.dev
  rw [← w_r c arg0 harg0 x0, ← w_v17 c arg0 harg0 x0]; rfl

/-! The row sums of their squares. -/

theorem w_r_10 : kernelRun0_A.sl.r_10 c arg0 harg0 x0 = turned (laneSum (QkvBlock.sq x0 0)) := by
  unfold QkvBlock.sq; rw [← w_r_3 c arg0 harg0 x0]; rfl
theorem w_v356 : kernelRun0_A.sl.v356 c arg0 harg0 x0 = rowSums (QkvBlock.sq x0 0) := by
  unfold rowSums; rw [← w_r_10 c arg0 harg0 x0]; rfl
theorem w_v378 : kernelRun0_A.sl.v378 c arg0 harg0 x0 = turned (laneSum (QkvBlock.sq x0 1)) := by
  unfold QkvBlock.sq; rw [← w_r_4 c arg0 harg0 x0]; rfl
theorem w_v418 : kernelRun0_A.sl.v418 c arg0 harg0 x0 = rowSums (QkvBlock.sq x0 1) := by
  unfold rowSums; rw [← w_v378 c arg0 harg0 x0]; rfl
theorem w_v440 : kernelRun0_A.sl.v440 c arg0 harg0 x0 = turned (laneSum (QkvBlock.sq x0 2)) := by
  unfold QkvBlock.sq; rw [← w_r_5 c arg0 harg0 x0]; rfl
theorem w_v480 : kernelRun0_A.sl.v480 c arg0 harg0 x0 = rowSums (QkvBlock.sq x0 2) := by
  unfold rowSums; rw [← w_v440 c arg0 harg0 x0]; rfl
theorem w_v502 : kernelRun0_A.sl.v502 c arg0 harg0 x0 = turned (laneSum (QkvBlock.sq x0 3)) := by
  unfold QkvBlock.sq; rw [← w_r_6 c arg0 harg0 x0]; rfl

/-- The operands of the four variances. -/
theorem sqSums_eq : QkvBlock.sqSums x0 = k0_pay40 (kernelRun0_A.sl.v356 c arg0 harg0 x0) (kernelRun0_A.sl.v418 c arg0 harg0 x0) (kernelRun0_A.sl.v480 c arg0 harg0 x0)
    (kernelRun0_A.sl.v502 c arg0 harg0 x0) (kernelRun0_A.sl.v507 c arg0 harg0 x0) (kernelRun0_A.sl.v508 c arg0 harg0 x0) := by
  unfold QkvBlock.sqSums
  rw [← w_v356 c arg0 harg0 x0, ← w_v418 c arg0 harg0 x0, ← w_v480 c arg0 harg0 x0]
  unfold rowSums
  rw [← w_v502 c arg0 harg0 x0]; rfl

/-! The normalised rows, their scales and codes. -/

theorem w_v18 : kernelRun0_A.sl.v18 c arg1 harg1 x1 = row x1 5 Cert.QkvIdeal.Facts₀.slices_S32x1280_o5_0_S1x1280 := by
  unfold row; conv_rhs => rw [← w_v1 c arg1 harg1 x1]
  rfl
theorem w_v19 : kernelRun0_A.sl.v19 c arg1 harg1 x1 = row x1 6 Cert.QkvIdeal.Facts₀.slices_S32x1280_o6_0_S1x1280 := by
  unfold row; conv_rhs => rw [← w_v1 c arg1 harg1 x1]
  rfl

theorem ln_0 : QkvBlock.ln x0 x1 0 = k0_pay46 (kernelRun0_A.sl.v18 c arg1 harg1 x1) (kernelRun0_A.sl.v19 c arg1 harg1 x1) (kernelRun0_A.sl.r_3 c arg0 harg0 x0) (kernelRun0_A.sl.r_15 c arg0 harg0 x0) := by
  unfold QkvBlock.ln
  rw [← w_v18 c arg1 harg1 x1, ← w_v19 c arg1 harg1 x1, ← w_r_3 c arg0 harg0 x0, sqSums_eq c arg0 harg0 x0]; rfl
theorem w_r_16 : kernelRun0_A.sl.r_16 c arg0 harg0 arg1 harg1 x0 x1 = QkvBlock.ln x0 x1 1 := by
  unfold QkvBlock.ln
  rw [← w_v18 c arg1 harg1 x1, ← w_v19 c arg1 harg1 x1, ← w_r_4 c arg0 harg0 x0, sqSums_eq c arg0 harg0 x0]; rfl
theorem w_r_17 : kernelRun0_A.sl.r_17 c arg0 harg0 arg1 harg1 x0 x1 = QkvBlock.ln x0 x1 2 := by
  unfold QkvBlock.ln
  rw [← w_v18 c arg1 harg1 x1, ← w_v19 c arg1 harg1 x1, ← w_r_5 c arg0 harg0 x0, sqSums_eq c arg0 harg0 x0]; rfl
theorem w_r_18 : kernelRun0_A.sl.r_18 c arg0 harg0 arg1 harg1 x0 x1 = QkvBlock.ln x0 x1 3 := by
  unfold QkvBlock.ln
  rw [← w_v18 c arg1 harg1 x1, ← w_v19 c arg1 harg1 x1, ← w_r_6 c arg0 harg0 x0, sqSums_eq c arg0 harg0 x0]; rfl

theorem w_r_20 : kernelRun0_A.sl.r_20 c arg0 harg0 arg1 harg1 x0 x1 = QkvBlock.q x0 x1 0 := by
  unfold QkvBlock.q QkvBlock.s
  rw [ln_0 c arg0 harg0 arg1 harg1 x0 x1]; rfl
theorem w_r_21 : kernelRun0_A.sl.r_21 c arg0 harg0 arg1 harg1 x0 x1 = fptosi 8 (QkvBlock.q x0 x1 0) := by
  rw [← w_r_20 c arg0 harg0 arg1 harg1 x0 x1]; rfl
theorem w_q1 : k0_pay57 (kernelRun0_A.sl.r_16 c arg0 harg0 arg1 harg1 x0 x1) = QkvBlock.q x0 x1 1 := by
  rw [w_r_16 c arg0 harg0 arg1 harg1 x0 x1]; rfl
theorem w_q2 : k0_pay63 (kernelRun0_A.sl.r_17 c arg0 harg0 arg1 harg1 x0 x1) = QkvBlock.q x0 x1 2 := by
  rw [w_r_17 c arg0 harg0 arg1 harg1 x0 x1]; rfl
theorem w_v699 : kernelRun0_A.sl.v699 c arg0 harg0 arg1 harg1 x0 x1 = QkvBlock.q x0 x1 3 := by
  unfold QkvBlock.q QkvBlock.s
  rw [← w_r_18 c arg0 harg0 arg1 harg1 x0 x1]; rfl

theorem w_v714 : kernelRun0_A.sl.v714 c arg0 harg0 arg1 harg1 x0 x1
    = concatenate S4x128 0 [⟨S1x128, colRow (QkvBlock.s x0 x1 0)⟩, ⟨S1x128, colRow (QkvBlock.s x0 x1 1)⟩, ⟨S1x128, colRow (QkvBlock.s x0 x1 2)⟩,
        ⟨S1x128, colRow (QkvBlock.s x0 x1 3)⟩] KernelIdeal.Facts₀.concatenates_S1x128_S1x128_S1x128_S1x128_S4x128_d0 := by
  unfold QkvBlock.s
  rw [ln_0 c arg0 harg0 arg1 harg1 x0 x1, ← w_r_16 c arg0 harg0 arg1 harg1 x0 x1, ← w_r_17 c arg0 harg0 arg1 harg1 x0 x1, ← w_r_18 c arg0 harg0 arg1 harg1 x0 x1]; rfl

/-! ## The stores -/

variable (arg2 : Memref sig .tc .vmem S3x20x64x1280 .i8) (harg2 : arg2.IsWhole) (arg3 : Memref sig .tc .vmem S4x72x1280 .i8) (harg3 : arg3.IsWhole) (arg4 : Memref sig .tc .vmem S4x128 .f32) (harg4 : arg4.IsWhole) (arg5 : Memref sig .tc .vmem S4x72x1280 .f32) (harg5 : arg5.IsWhole) (arg6 : Memref sig .tc .vmem S4x1280x128 .i8) (harg6 : arg6.IsWhole) (arg7 : Memref sig .tc .vmem S4x1280x128 .i8) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S512x1280 .bf16) (harg11 : arg11.IsWhole)
  (x2 : Vec F S3x20x64x1280 .i8)

theorem pieces3 : (kernelRun0_A c arg0 harg0 arg1 harg1 arg2 harg2 arg3 harg3 arg4 harg4 arg5 harg5 arg6 harg6 arg7 harg7 arg8 harg8 arg9 harg9 arg10 harg10 arg11 harg11 x0 x1 x2).1 = ([⟨Rect.unit ![3, 0, 0] S1x72x1280.size inb_S4x72x1280_S1x72x1280_3_0_0, shapeCast S1x72x1280 (fptosi 8 (QkvBlock.q x0 x1 3)) shapeCasts_S72x1280_S1x72x1280⟩,
    ⟨Rect.unit ![2, 0, 0] S1x72x1280.size inb_S4x72x1280_S1x72x1280_2_0_0, shapeCast S1x72x1280 (fptosi 8 (QkvBlock.q x0 x1 2)) shapeCasts_S72x1280_S1x72x1280⟩,
    ⟨Rect.unit ![1, 0, 0] S1x72x1280.size inb_S4x72x1280_S1x72x1280_1_0_0, shapeCast S1x72x1280 (fptosi 8 (QkvBlock.q x0 x1 1)) shapeCasts_S72x1280_S1x72x1280⟩,
    ⟨Rect.unit ![0, 0, 0] S1x72x1280.size inb_S4x72x1280_S1x72x1280_0_0_0, shapeCast S1x72x1280 (fptosi 8 (QkvBlock.q x0 x1 0)) shapeCasts_S72x1280_S1x72x1280⟩] : List (View.Piece (Elt F) S4x72x1280 .i8)) := by
  rw [← w_r_21 c arg0 harg0 arg1 harg1 x0 x1, ← w_q1 c arg0 harg0 arg1 harg1 x0 x1, ← w_q2 c arg0 harg0 arg1 harg1 x0 x1, ← w_v699 c arg0 harg0 arg1 harg1 x0 x1]
  unfold kernelRun0_A
  dsimp only
  rfl

theorem pieces4 : (kernelRun0_A c arg0 harg0 arg1 harg1 arg2 harg2 arg3 harg3 arg4 harg4 arg5 harg5 arg6 harg6 arg7 harg7 arg8 harg8 arg9 harg9 arg10 harg10 arg11 harg11 x0 x1 x2).2.1 = ([⟨Rect.unit ![0, 0] S4x128.size inb_S4x128_S4x128_0_0, concatenate S4x128 0 [⟨S1x128, colRow (QkvBlock.s x0 x1 0)⟩, ⟨S1x128, colRow (QkvBlock.s x0 x1 1)⟩, ⟨S1x128, colRow (QkvBlock.s x0 x1 2)⟩,
        ⟨S1x128, colRow (QkvBlock.s x0 x1 3)⟩] KernelIdeal.Facts₀.concatenates_S1x128_S1x128_S1x128_S1x128_S4x128_d0⟩] : List (View.Piece (Elt F) S4x128 .f32)) := by
  rw [← w_v714 c arg0 harg0 arg1 harg1 x0 x1]
  unfold kernelRun0_A
  dsimp only

end Cert.QkvIdeal.Pieces

end
-- ==== Proof.QkvOut.lean ====
/-
  WHAT THE FIRST CALL'S BODY LEAVES in its first two output blocks, at `Ideal`: the result arrays of `Proof/Results.lean` of the
  inputs its blocks hold. The codes are four stores of a beam's rows, which tile their block; the scales one store.
-/
module

public import proofs.«01_k».proof.Proof.Gen.QkvIdeal.Frame
public import proofs.«01_k».proof.Proof.QkvPieces

@[expose] public section

set_option maxRecDepth 16384

noncomputable section

namespace Cert.QkvIdeal.Out

open Idealize.ShloMosaic Cert.QkvIdeal Cert.QkvIdeal.Gen Cert.QkvIdeal.Pieces Cert.QkvBlock
open Cert.KernelIdeal.Out (canon4 cols_at)
open Cert.KernelIdeal.Pieces (hz2)

variable (c : Dev nD) (arg0 : Memref sig .tc .vmem S4x72x1280 .bf16) (harg0 : arg0.IsWhole) (arg1 : Memref sig .tc .vmem S32x1280 .f32) (harg1 : arg1.IsWhole) (arg2 : Memref sig .tc .vmem S3x20x64x1280 .i8) (harg2 : arg2.IsWhole) (arg3 : Memref sig .tc .vmem S4x72x1280 .i8) (harg3 : arg3.IsWhole) (arg4 : Memref sig .tc .vmem S4x128 .f32) (harg4 : arg4.IsWhole) (arg5 : Memref sig .tc .vmem S4x72x1280 .f32) (harg5 : arg5.IsWhole) (arg6 : Memref sig .tc .vmem S4x1280x128 .i8) (harg6 : arg6.IsWhole) (arg7 : Memref sig .tc .vmem S4x1280x128 .i8) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S512x1280 .bf16) (harg11 : arg11.IsWhole)
  (x0 : Vec Ideal S4x72x1280 .bf16) (x1 : Vec Ideal S32x1280 .f32) (x2 : Vec Ideal S3x20x64x1280 .i8)

/-- The layer norm's codes. -/
theorem out3 : out0_A_3 c arg0 harg0 arg1 harg1 arg2 harg2 arg3 harg3 arg4 harg4 arg5 harg5 arg6 harg6 arg7 harg7 arg8 harg8 arg9 harg9 arg10 harg10 arg11 harg11 x0 x1 x2 = Spec.codes (inputs x0 x1).ln := by
  unfold out0_A_3
  rw [View.read_writes_junk_eq_canon, pieces3]
  refine (canon4 (e := .i8) fun j => fptosi 8 (q x0 x1 j)).trans (funext fun i => ?_)
  exact congrArg (Ideal.fptosi 8) (q_at x0 x1 (i 0) (i 1) (i 2))

/-- The layer norm's scales. -/
theorem out4 : out0_A_4 c arg0 harg0 arg1 harg1 arg2 harg2 arg3 harg3 arg4 harg4 arg5 harg5 arg6 harg6 arg7 harg7 arg8 harg8 arg9 harg9 arg10 harg10 arg11 harg11 x0 x1 x2 = Spec.scales (inputs x0 x1).ln := by
  unfold out0_A_4
  rw [View.read_writes_junk_eq_canon, pieces4]
  rw [View.canon_unit_zero (S := S4x128) hz2]
  refine (cols_at (s x0 x1)).trans ?_
  funext i
  exact dite_congr rfl (fun h => s_at x0 x1 (i 0) ⟨(i 1).val, h⟩) (fun _ => rfl)

end Cert.QkvIdeal.Out

end
-- ==== Proof.QkvHost.lean ====
/-
  THE ARRAYS THE FIRST CALL FINDS, at `Ideal`: what the host operations before it leave in the operands its layer norm reads,
  read at an index as elements of the argument arrays; so the inputs its blocks hold are `Spec.qkvArgs` of the arguments.
-/
module

public import proofs.«01_k».proof.Proof.Gen.QkvIdeal.Frame
public import proofs.«01_k».proof.Proof.QkvBlock
public import Idealize.ShloMosaic.Lib.StableHlo.ReadAt

@[expose] public section

set_option maxRecDepth 16384

noncomputable section

namespace Cert.QkvIdeal.HostRead

open Idealize.ShloMosaic Idealize.ShloMosaic.TcCoe Cert.QkvIdeal Cert.QkvIdeal.Gen

variable (m : (ℓ : Loc nD τ sig) → Buf (Elt Ideal) ℓ) (c : Dev nD)

/-- The input rows, transposed to [beam, sequence, channel]; -/
theorem rows_at (j : Fin 4) (r : Fin 72) (k : Fin 1280) :
    (V m c main_v31 : Vec Ideal S4x72x1280 .bf16) (ix3 j r k)
      = (m ((c : Thread nD τ).loc main_arg0) : Vec Ideal S72x4x1280 .bf16) (ix3 r j k) := by
  unfold V
  after_reads_at
/-- rows of the parameter array: the layer norm's gain -/
theorem prm5_at (l : Fin 1280) :
    (V m c main_v30 : Vec Ideal S32x1280 .f32) (ix2 5 l)
      = (m ((c : Thread nD τ).loc main_arg1) : Vec Ideal S1280 .f32) (ix1 l) := by
  unfold V
  iterate 2 after_reads_at
/-- and shift. -/
theorem prm6_at (l : Fin 1280) :
    (V m c main_v30 : Vec Ideal S32x1280 .f32) (ix2 6 l)
      = (m ((c : Thread nD τ).loc main_arg2) : Vec Ideal S1280 .f32) (ix1 l) := by
  unfold V
  iterate 2 after_reads_at

/-- The inputs that the call's operands hold are those of the arguments. -/
theorem inputs_eq : QkvBlock.inputs (V m c main_v31) (V m c main_v30) = Spec.qkvArgs (m ((c : Thread nD τ).loc main_arg0)) (m ((c : Thread nD τ).loc main_arg1)) (m ((c : Thread nD τ).loc main_arg2)) := by
  unfold QkvBlock.inputs Spec.qkvArgs
  simp only [rows_at m c, prm5_at m c, prm6_at m c]

end Cert.QkvIdeal.HostRead

end
-- ==== Proof.QkvRun.lean ====
/-
  THE RUN of the first call at `Ideal`: it leaves, of its outputs, the two result arrays of `Proof/Results.lean` of its arguments.
  The call has one grid point, at which each window's block is its whole array.
-/
module

public import proofs.«01_k».proof.Proof.Gen.QkvIdeal.Value
public import proofs.«01_k».proof.Proof.QkvOut
public import proofs.«01_k».proof.Proof.QkvHost

@[expose] public section

set_option maxRecDepth 16384

noncomputable section

namespace Cert.QkvIdeal.Run

open Idealize.ShloMosaic Idealize.ShloMosaic.TcCoe Idealize.SL.Sem Cert.QkvIdeal Cert.QkvIdeal.Gen Cert.QkvIdeal.Value

variable (m : (ℓ : Loc nD τ sig) → Buf (Elt Ideal) ℓ) (ρ : Dev nD → PrngReg) (c : Dev nD)

/-- The inputs that the arguments hold. -/
abbrev args : Spec.QkvInputs := Spec.qkvArgs (m ((c : Thread nD τ).loc main_arg0)) (m ((c : Thread nD τ).loc main_arg1)) (m ((c : Thread nD τ).loc main_arg2))

/-! ## Each operand's block is its array -/

theorem iblk0 (t : Fin cfg0.N) : iblk m c 0 t = V m c main_v31 :=
  Memref.read_access_unit_zero (Elt Ideal) main_v31 (funext fun a => Nat.zero_mul _) (fun a => Nat.le_of_eq ((congrArg (· + _) (Nat.zero_mul _)).trans (Nat.zero_add _))) _
theorem iblk1 (t : Fin cfg0.N) : iblk m c 1 t = V m c main_v30 :=
  Memref.read_access_unit_zero (Elt Ideal) main_v30 (funext fun a => Nat.zero_mul _) (fun a => Nat.le_of_eq ((congrArg (· + _) (Nat.zero_mul _)).trans (Nat.zero_add _))) _
theorem iblk2 (t : Fin cfg0.N) : iblk m c 2 t = V m c main_v32 :=
  Memref.read_access_unit_zero (Elt Ideal) main_v32 (funext fun a => Nat.zero_mul _) (fun a => Nat.le_of_eq ((congrArg (· + _) (Nat.zero_mul _)).trans (Nat.zero_add _))) _

/-- The one grid point. -/
def t0 : Fin cfg0.N := ⟨0, by decide⟩

/-! ## Each result array -/

theorem final3 : (dats m 0 c).arrAt 3 cfg0.N = Spec.codes (args m c).ln := by
  have e := (blocks3 m c t0 (flush0_3 t0)).trans (flushed3_A m c t0)
  rw [iblk0, iblk1, iblk2, Out.out3, HostRead.inputs_eq] at e
  exact (Memref.read_access_unit_zero (Elt Ideal) main_v33_0 (funext fun a => Nat.zero_mul _) (fun a => Nat.le_of_eq ((congrArg (· + _) (Nat.zero_mul _)).trans (Nat.zero_add _))) _).symm.trans e
theorem final4 : (dats m 0 c).arrAt 4 cfg0.N = Spec.scales (args m c).ln := by
  have e := (blocks4 m c t0 (flush0_4 t0)).trans (flushed4_A m c t0)
  rw [iblk0, iblk1, iblk2, Out.out4, HostRead.inputs_eq] at e
  exact (Memref.read_access_unit_zero (Elt Ideal) main_v33_1 (funext fun a => Nat.zero_mul _) (fun a => Nat.le_of_eq ((congrArg (· + _) (Nat.zero_mul _)).trans (Nat.zero_add _))) _).symm.trans e

/-- The run: the two results, and the arguments unchanged. -/
theorem run : θ_run defs (onTc (τ := τ) (main (F := Ideal))) ⟨m, fun _ => 0, ρ⟩ fun r => ∀ c : Dev nD,
      r.2.mem ((c : Thread nD τ).loc main_v33_0) = Spec.codes (args m c).ln
      ∧ r.2.mem ((c : Thread nD τ).loc main_v33_1) = Spec.scales (args m c).ln
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => by
    obtain ⟨h0, h1, _, _, _, _, _, _, hk⟩ := h c
    exact ⟨h0.trans (final3 m c), h1.trans (final4 m c), hk⟩) (run_blocks m ρ)

end Cert.QkvIdeal.Run

end
-- ==== Proof.QkvRefRead.lean ====
/-
  WHAT THE FIRST CALL'S REFERENCE COMPUTES at `Ideal`: each value of its body, read at row `r` of beam `j`, is the function of
  `Proof/QkvSpec.lean` of the inputs its three blocks hold (`inputs`).
-/
module

public import proofs.«01_k».proof.Proof.Gen.QkvReferenceIdeal.Skeleton
public import proofs.«01_k».proof.Proof.QkvSpec

@[expose] public section

set_option maxRecDepth 16384

noncomputable section

namespace Cert.QkvReferenceIdeal.Read

open Idealize.ShloMosaic Cert.QkvReferenceIdeal Cert.QkvReferenceIdeal.Gen

/-- The inputs the three blocks hold. -/
def inputs (x : Vec Ideal S4x72x1280 .bf16) (g b : Vec Ideal S1x1x1280 .f32) : Spec.QkvInputs where
  x := fun j r k => x (ix3 j r k)
  g := fun l => g (ix3 0 0 l)
  b := fun l => b (ix3 0 0 l)

variable (x : Vec Ideal S4x72x1280 .bf16) (g b : Vec Ideal S1x1x1280 .f32) (j : Fin 4) (r : Fin 72)

/-- The normalised rows. -/
theorem pay3_at (l : Fin 1280) : k0_pay3 x g b (ix3 j r l) = (inputs x g b).ln j r l := by
  pointwise [k0_pay3]
  simp only [Spec.bits_1280, Spec.div_1280]
  rfl

/-- Their scales; -/
theorem pay4_at : k0_pay4 x g b (ix2 j r) = Spec.rowScale ((inputs x g b).ln j r) := by
  have e : (inputs x g b).ln j r = fun k => k0_pay3 x g b (ix3 j r k) := funext fun k => (pay3_at x g b j r k).symm
  rw [e]
  pointwise [k0_pay4]
  rw [Spec.bits_neg_inf, Spec.bits_127, Spec.div_127]
  rfl

/-- and codes. -/
theorem code_at (l : Fin 1280) :
    k0_pay1 (k0_pay5 x g b) (Scalar.ofBits .f32 0x42FE0000#32) (k0_pay6 (F := Ideal)) (ix3 j r l) = Ideal.fptosi 8 (Spec.rowCode ((inputs x g b).ln j r) l) := by
  pointwise [k0_pay1, k0_pay5, k0_pay6]
  rw [Spec.bits_neg_127, Spec.bits_127, pay4_at, pay3_at]
  rfl

/-- A row of scales, padded with zeros to 128 lanes. -/
theorem pay2_at (s : FVec Ideal S4x72 .f32) (k : Fin 128) : k0_pay2 s (ix2 j k) = if h : k.val < 72 then s (ix2 j ⟨k.val, h⟩) else 0 := by
  pointwise [k0_pay2]

end Cert.QkvReferenceIdeal.Read

end
-- ==== Proof.QkvRefOut.lean ====
/-
  WHAT THE FIRST CALL'S REFERENCE LEAVES in its two output blocks, at `Ideal`: the result array of
  `Proof/Results.lean` of the inputs its three input blocks hold. Each block is one store of the whole block.
-/
module

public import proofs.«01_k».proof.Proof.Gen.QkvReferenceIdeal.Frame
public import proofs.«01_k».proof.Proof.QkvRefRead
public import proofs.«01_k».proof.Proof.RefOut

@[expose] public section

set_option maxRecDepth 16384

noncomputable section

namespace Cert.QkvReferenceIdeal.Out

open Idealize.ShloMosaic Cert.QkvReferenceIdeal Cert.QkvReferenceIdeal.Gen Cert.QkvReferenceIdeal.Read
open Cert.ReferenceIdeal.Out (hz2 hz3 eta2 eta3)

variable (x0 : Vec Ideal S4x72x1280 .bf16) (x1 x2 : Vec Ideal S1x1x1280 .f32)

/-! A load of a whole block reads the block. -/

theorem ldx (x : Vec Ideal S4x72x1280 .bf16) : View.ld x r0_0 = x := View.ld_unit_zero (S := S4x72x1280) hz3 _ x
theorem ldv (x : Vec Ideal S1x1x1280 .f32) : View.ld x r0_1 = x := View.ld_unit_zero (S := S1x1x1280) hz3 _ x

/-- The layer norm's codes. -/
theorem out3 : out0_3 x0 x1 x2 = Spec.codes (inputs x0 x1 x2).ln := by
  unfold out0_3
  simp only [ldx, ldv]
  refine (View.canon_unit_zero hz3 _ _).trans (funext fun i => ?_)
  obtain ⟨j, r, l, rfl⟩ := eta3 i
  exact code_at x0 x1 x2 j r l

/-- The layer norm's scales. -/
theorem out4 : out0_4 x0 x1 x2 = Spec.scales (inputs x0 x1 x2).ln := by
  unfold out0_4
  simp only [ldx, ldv]
  refine (View.canon_unit_zero hz2 _ _).trans (funext fun i => ?_)
  obtain ⟨j, k, rfl⟩ := eta2 i
  rw [pay2_at]
  simp only [pay4_at]
  rfl

end Cert.QkvReferenceIdeal.Out

end
-- ==== Proof.QkvRefHost.lean ====
/-
  THE ARRAYS THE FIRST CALL'S REFERENCE FINDS, at `Ideal`: what the host's transpose and reshapes leave in its operands, read
  at an index as elements of the argument arrays; so the inputs its blocks hold are `Spec.qkvArgs` of the arguments.
-/
module

public import proofs.«01_k».proof.Proof.Gen.QkvReferenceIdeal.Frame
public import proofs.«01_k».proof.Proof.QkvRefRead
public import Idealize.ShloMosaic.Lib.StableHlo.ReadAt

@[expose] public section

set_option maxRecDepth 16384

noncomputable section

namespace Cert.QkvReferenceIdeal.HostRead

open Idealize.ShloMosaic Idealize.ShloMosaic.TcCoe Cert.QkvReferenceIdeal Cert.QkvReferenceIdeal.Gen

variable (m : (ℓ : Loc nD τ sig) → Buf (Elt Ideal) ℓ) (c : Dev nD)

/-- The input rows, transposed to [beam, sequence, channel]; -/
theorem rows_at (j : Fin 4) (r : Fin 72) (k : Fin 1280) :
    (V m c main_v0 : Vec Ideal S4x72x1280 .bf16) (ix3 j r k)
      = (m ((c : Thread nD τ).loc main_arg0) : Vec Ideal S72x4x1280 .bf16) (ix3 r j k) := by
  unfold V
  after_reads_at
/-- the layer norm's gain -/
theorem gain_at (l : Fin 1280) :
    (V m c main_v1 : Vec Ideal S1x1x1280 .f32) (ix3 0 0 l)
      = (m ((c : Thread nD τ).loc main_arg1) : Vec Ideal S1280 .f32) (ix1 l) := by
  unfold V
  after_reads_at
/-- and shift. -/
theorem shift_at (l : Fin 1280) :
    (V m c main_v2 : Vec Ideal S1x1x1280 .f32) (ix3 0 0 l)
      = (m ((c : Thread nD τ).loc main_arg2) : Vec Ideal S1280 .f32) (ix1 l) := by
  unfold V
  after_reads_at

/-- The inputs that the call's operands hold are those of the arguments. -/
theorem inputs_eq : Read.inputs (V m c main_v0) (V m c main_v1) (V m c main_v2) = Spec.qkvArgs (m ((c : Thread nD τ).loc main_arg0)) (m ((c : Thread nD τ).loc main_arg1)) (m ((c : Thread nD τ).loc main_arg2)) := by
  unfold Read.inputs Spec.qkvArgs
  simp only [rows_at m c, gain_at m c, shift_at m c]

end Cert.QkvReferenceIdeal.HostRead

end
-- ==== Proof.QkvRefRun.lean ====
/-
  THE RUN of the first call's reference at `Ideal`: it leaves the two result arrays of `Proof/Results.lean` of its arguments. The
  call has one grid point, at which each window's block is its whole array.
-/
module

public import proofs.«01_k».proof.Proof.Gen.QkvReferenceIdeal.Value
public import proofs.«01_k».proof.Proof.QkvRefOut
public import proofs.«01_k».proof.Proof.QkvRefHost

@[expose] public section

set_option maxRecDepth 16384

noncomputable section

namespace Cert.QkvReferenceIdeal.Run

open Idealize.ShloMosaic Idealize.ShloMosaic.TcCoe Idealize.SL.Sem Cert.QkvReferenceIdeal Cert.QkvReferenceIdeal.Gen Cert.QkvReferenceIdeal.Value

variable (m : (ℓ : Loc nD τ sig) → Buf (Elt Ideal) ℓ) (ρ : Dev nD → PrngReg) (c : Dev nD)

/-- The inputs that the arguments hold. -/
abbrev args : Spec.QkvInputs := Spec.qkvArgs (m ((c : Thread nD τ).loc main_arg0)) (m ((c : Thread nD τ).loc main_arg1)) (m ((c : Thread nD τ).loc main_arg2))

/-! ## Each operand's block is its array -/

theorem iblk0 (t : Fin cfg0.N) : iblk m c 0 t = V m c main_v0 :=
  Memref.read_access_unit_zero (Elt Ideal) main_v0 (funext fun a => Nat.zero_mul _) (fun a => Nat.le_of_eq ((congrArg (· + _) (Nat.zero_mul _)).trans (Nat.zero_add _))) _
theorem iblk1 (t : Fin cfg0.N) : iblk m c 1 t = V m c main_v1 :=
  Memref.read_access_unit_zero (Elt Ideal) main_v1 (funext fun a => Nat.zero_mul _) (fun a => Nat.le_of_eq ((congrArg (· + _) (Nat.zero_mul _)).trans (Nat.zero_add _))) _
theorem iblk2 (t : Fin cfg0.N) : iblk m c 2 t = V m c main_v2 :=
  Memref.read_access_unit_zero (Elt Ideal) main_v2 (funext fun a => Nat.zero_mul _) (fun a => Nat.le_of_eq ((congrArg (· + _) (Nat.zero_mul _)).trans (Nat.zero_add _))) _

/-- The one grid point. -/
def t0 : Fin cfg0.N := ⟨0, by decide⟩

/-! ## Each result array -/

theorem final3 : (dats m 0 c).arrAt 3 cfg0.N = Spec.codes (args m c).ln := by
  have e := (blocks3 m c t0 (flush0_3 t0)).trans (flushed3 m c t0)
  rw [iblk0, iblk1, iblk2, Out.out3, HostRead.inputs_eq] at e
  exact (Memref.read_access_unit_zero (Elt Ideal) main_v3_0 (funext fun a => Nat.zero_mul _) (fun a => Nat.le_of_eq ((congrArg (· + _) (Nat.zero_mul _)).trans (Nat.zero_add _))) _).symm.trans e
theorem final4 : (dats m 0 c).arrAt 4 cfg0.N = Spec.scales (args m c).ln := by
  have e := (blocks4 m c t0 (flush0_4 t0)).trans (flushed4 m c t0)
  rw [iblk0, iblk1, iblk2, Out.out4, HostRead.inputs_eq] at e
  exact (Memref.read_access_unit_zero (Elt Ideal) main_v3_1 (funext fun a => Nat.zero_mul _) (fun a => Nat.le_of_eq ((congrArg (· + _) (Nat.zero_mul _)).trans (Nat.zero_add _))) _).symm.trans e

/-- The run: the two results, and the arguments unchanged. -/
theorem run : θ_run defs (onTc (τ := τ) (main (F := Ideal))) ⟨m, fun _ => 0, ρ⟩ fun r => ∀ c : Dev nD,
      r.2.mem ((c : Thread nD τ).loc main_v3_0) = Spec.codes (args m c).ln
      ∧ r.2.mem ((c : Thread nD τ).loc main_v3_1) = Spec.scales (args m c).ln
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => by
    obtain ⟨h0, h1, hk⟩ := h c
    exact ⟨h0.trans (final3 m c), h1.trans (final4 m c), hk⟩) (run_blocks m ρ)

end Cert.QkvReferenceIdeal.Run

end
-- ==== Proof.lean ====
/-
  The proof of `Cert.Claim`. For the feed-forward call, the middle call and the first call: the frames of the kernel, of the idealised
  kernel and of the reference, `preserves` for the two named constants, and `algebraic`: at `Ideal`, from the same arguments,
  the idealised kernel and the reference leave the same result arrays (both leave those of `Proof/Results.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidReferenceIdeal
public import proofs.«01_k».proof.Proof.Gen.MidReferenceIdeal.Skeleton
public import proofs.«01_k».proof.Proof.Gen.MidReferenceIdeal.Launch
public import proofs.«01_k».proof.Proof.Gen.MidReferenceIdeal.Points
public import proofs.«01_k».proof.Proof.Gen.MidReferenceIdeal.Frame
public import proofs.«01_k».proof.Proof.Gen.MidIdeal.Value
public import proofs.«01_k».proof.Proof.Gen.MidReferenceIdeal.Value
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvReferenceIdeal
public import proofs.«01_k».proof.Proof.Gen.QkvReferenceIdeal.Skeleton
public import proofs.«01_k».proof.Proof.Gen.QkvReferenceIdeal.Launch
public import proofs.«01_k».proof.Proof.Gen.QkvReferenceIdeal.Points
public import proofs.«01_k».proof.Proof.Gen.QkvReferenceIdeal.Frame
public import proofs.«01_k».proof.Proof.Gen.QkvIdeal.Value
public import proofs.«01_k».proof.Proof.Gen.QkvReferenceIdeal.Value
public import proofs.«01_k».proof.Proof.KernelRun
public import proofs.«01_k».proof.Proof.RefRun
public import proofs.«01_k».proof.Proof.MidRun
public import proofs.«01_k».proof.Proof.MidRefRun
public import proofs.«01_k».proof.Proof.QkvRun
public import proofs.«01_k».proof.Proof.QkvRefRun
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Kernel

/-- The two named constants of the idealised kernel are the nearest floats of 1/127 and 1/1280. -/
theorem preserves : Cert.preserves_Kernel_KernelIdeal :=
  ⟨IdealRules.named_const.statement Cert.KernelIdeal.κ "inv_127" .f32 0x3C010204#32 ((1 / 127 : ℝ) : EReal) rfl,
    IdealRules.named_const.statement Cert.KernelIdeal.κ "inv_d" .f32 0x3A4CCCCD#32 ((1 / 1280 : ℝ) : EReal) rfl⟩

/-- Memories that agree on the thirteen arguments the call reads hold the same inputs. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13) ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14) ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15) ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16) ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17) ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18) ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19) ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20) ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21) ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22) ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    Cert.ReferenceIdeal.Run.args m' c = Cert.KernelIdeal.Run.args m c := by
  obtain ⟨h0, h1, h2, h3, h4, h5, h6, h7, h8, h9, h10, h11, h12, h13, h14, h15, h16, h17, h18, h19, h20, h21, h22, h23⟩ := h
  show Spec.ofArgs _ _ _ _ _ _ _ _ _ _ _ _ _ = Spec.ofArgs _ _ _ _ _ _ _ _ _ _ _ _ _
  rw [h0, h1, h6, h7, h15, h16, h17, h18, h19, h20, h21, h22, h23]

/-- The idealised kernel and the reference compute the same nine arrays. -/
theorem algebraic : Cert.algebraic_KernelIdeal_ReferenceIdeal := by
  intro m g m' g' _ hagree
  refine ⟨fun c => Spec.codes (Cert.KernelIdeal.Run.args m c).x, fun c => Spec.scales (Cert.KernelIdeal.Run.args m c).x, fun c => Spec.rows (Cert.KernelIdeal.Run.args m c).h2, fun c => Spec.codes (Cert.KernelIdeal.Run.args m c).ln, fun c => Spec.scales (Cert.KernelIdeal.Run.args m c).ln, fun c => Spec.rows (Cert.KernelIdeal.Run.args m c).hid, fun c => Spec.codes (Cert.KernelIdeal.Run.args m c).hid, fun c => Spec.scales (Cert.KernelIdeal.Run.args m c).hid, fun c => Spec.rows (Cert.KernelIdeal.Run.args m c).out,
    Cert.KernelIdeal.Run.run m g, ?_⟩
  refine (θ_run _ _ _).mono (fun r h c => ?_) (Cert.ReferenceIdeal.Run.run m' g')
  have hc := h c
  rw [args_eq m m' c (hagree c)] at hc
  exact hc

/-- The two named constants of the idealised middle call are the nearest floats of 1/127 and 1/1280. -/
theorem preserves_mid : Cert.preserves_Mid_MidIdeal :=
  ⟨IdealRules.named_const.statement Cert.MidIdeal.κ "inv_127" .f32 0x3C010204#32 ((1 / 127 : ℝ) : EReal) rfl,
    IdealRules.named_const.statement Cert.MidIdeal.κ "inv_d" .f32 0x3A4CCCCD#32 ((1 / 1280 : ℝ) : EReal) rfl⟩

/-- Memories that agree on the ten arguments the middle call reads hold the same inputs. -/
theorem mid_args_eq (m : (ℓ : Loc Cert.MidIdeal.nD Cert.MidIdeal.τ Cert.MidIdeal.sig) → Buf (Elt Ideal) ℓ)
    (m' : (ℓ : Loc Cert.MidReferenceIdeal.nD Cert.MidReferenceIdeal.τ Cert.MidReferenceIdeal.sig) → Buf (Elt Ideal) ℓ)
    (c : Dev Cert.MidIdeal.nD)
    (h : m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0) ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1) ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2) ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3) ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4) ∧ m' ((c.tc : Thread Cert.MidReferenceIdeal.nD Cert.MidReferenceIdeal.τ).loc Cert.MidReferenceIdeal.main_arg5) = m ((c.tc : Thread Cert.MidIdeal.nD Cert.MidIdeal.τ).loc Cert.MidIdeal.main_arg5) ∧ m' ((c.tc : Thread Cert.MidReferenceIdeal.nD Cert.MidReferenceIdeal.τ).loc Cert.MidReferenceIdeal.main_arg6) = m ((c.tc : Thread Cert.MidIdeal.nD Cert.MidIdeal.τ).loc Cert.MidIdeal.main_arg6) ∧ m' ((c.tc : Thread Cert.MidReferenceIdeal.nD Cert.MidReferenceIdeal.τ).loc Cert.MidReferenceIdeal.main_arg7) = m ((c.tc : Thread Cert.MidIdeal.nD Cert.MidIdeal.τ).loc Cert.MidIdeal.main_arg7) ∧ m' ((c.tc : Thread Cert.MidReferenceIdeal.nD Cert.MidReferenceIdeal.τ).loc Cert.MidReferenceIdeal.main_arg8) = m ((c.tc : Thread Cert.MidIdeal.nD Cert.MidIdeal.τ).loc Cert.MidIdeal.main_arg8) ∧ m' ((c.tc : Thread Cert.MidReferenceIdeal.nD Cert.MidReferenceIdeal.τ).loc Cert.MidReferenceIdeal.main_arg9) = m ((c.tc : Thread Cert.MidIdeal.nD Cert.MidIdeal.τ).loc Cert.MidIdeal.main_arg9) ∧ m' ((c.tc : Thread Cert.MidReferenceIdeal.nD Cert.MidReferenceIdeal.τ).loc Cert.MidReferenceIdeal.main_arg10) = m ((c.tc : Thread Cert.MidIdeal.nD Cert.MidIdeal.τ).loc Cert.MidIdeal.main_arg10) ∧ m' ((c.tc : Thread Cert.MidReferenceIdeal.nD Cert.MidReferenceIdeal.τ).loc Cert.MidReferenceIdeal.main_arg11) = m ((c.tc : Thread Cert.MidIdeal.nD Cert.MidIdeal.τ).loc Cert.MidIdeal.main_arg11) ∧ m' ((c.tc : Thread Cert.MidReferenceIdeal.nD Cert.MidReferenceIdeal.τ).loc Cert.MidReferenceIdeal.main_arg12) = m ((c.tc : Thread Cert.MidIdeal.nD Cert.MidIdeal.τ).loc Cert.MidIdeal.main_arg12) ∧ m' ((c.tc : Thread Cert.MidReferenceIdeal.nD Cert.MidReferenceIdeal.τ).loc Cert.MidReferenceIdeal.main_arg13) = m ((c.tc : Thread Cert.MidIdeal.nD Cert.MidIdeal.τ).loc Cert.MidIdeal.main_arg13) ∧ m' ((c.tc : Thread Cert.MidReferenceIdeal.nD Cert.MidReferenceIdeal.τ).loc Cert.MidReferenceIdeal.main_arg14) = m ((c.tc : Thread Cert.MidIdeal.nD Cert.MidIdeal.τ).loc Cert.MidIdeal.main_arg14) ∧ m' ((c.tc : Thread Cert.MidReferenceIdeal.nD Cert.MidReferenceIdeal.τ).loc Cert.MidReferenceIdeal.main_arg15) = m ((c.tc : Thread Cert.MidIdeal.nD Cert.MidIdeal.τ).loc Cert.MidIdeal.main_arg15) ∧ m' ((c.tc : Thread Cert.MidReferenceIdeal.nD Cert.MidReferenceIdeal.τ).loc Cert.MidReferenceIdeal.main_arg16) = m ((c.tc : Thread Cert.MidIdeal.nD Cert.MidIdeal.τ).loc Cert.MidIdeal.main_arg16) ∧ m' ((c.tc : Thread Cert.MidReferenceIdeal.nD Cert.MidReferenceIdeal.τ).loc Cert.MidReferenceIdeal.main_arg17) = m ((c.tc : Thread Cert.MidIdeal.nD Cert.MidIdeal.τ).loc Cert.MidIdeal.main_arg17) ∧ m' ((c.tc : Thread Cert.MidReferenceIdeal.nD Cert.MidReferenceIdeal.τ).loc Cert.MidReferenceIdeal.main_arg18) = m ((c.tc : Thread Cert.MidIdeal.nD Cert.MidIdeal.τ).loc Cert.MidIdeal.main_arg18) ∧ m' ((c.tc : Thread Cert.MidReferenceIdeal.nD Cert.MidReferenceIdeal.τ).loc Cert.MidReferenceIdeal.main_arg19) = m ((c.tc : Thread Cert.MidIdeal.nD Cert.MidIdeal.τ).loc Cert.MidIdeal.main_arg19) ∧ m' ((c.tc : Thread Cert.MidReferenceIdeal.nD Cert.MidReferenceIdeal.τ).loc Cert.MidReferenceIdeal.main_arg20) = m ((c.tc : Thread Cert.MidIdeal.nD Cert.MidIdeal.τ).loc Cert.MidIdeal.main_arg20) ∧ m' ((c.tc : Thread Cert.MidReferenceIdeal.nD Cert.MidReferenceIdeal.τ).loc Cert.MidReferenceIdeal.main_arg21) = m ((c.tc : Thread Cert.MidIdeal.nD Cert.MidIdeal.τ).loc Cert.MidIdeal.main_arg21) ∧ m' ((c.tc : Thread Cert.MidReferenceIdeal.nD Cert.MidReferenceIdeal.τ).loc Cert.MidReferenceIdeal.main_arg22) = m ((c.tc : Thread Cert.MidIdeal.nD Cert.MidIdeal.τ).loc Cert.MidIdeal.main_arg22)) :
    Cert.MidReferenceIdeal.Run.args m' c = Cert.MidIdeal.Run.args m c := by
  obtain ⟨h0, h1, h2, h3, h4, h5, h6, h7, h8, h9, h10, h11, h12, h13, h14, h15, h16, h17, h18, h19, h20, h21, h22⟩ := h
  show Spec.midArgs _ _ _ _ _ _ _ _ _ _ = Spec.midArgs _ _ _ _ _ _ _ _ _ _
  rw [h0, h1, h4, h5, h11, h12, h13, h14, h15, h16]

/-- The idealised middle call and its reference compute the same six arrays. -/
theorem algebraic_mid : Cert.algebraic_MidIdeal_MidReferenceIdeal := by
  intro m g m' g' _ hagree
  refine ⟨fun c => Spec.codes (Cert.MidIdeal.Run.args m c).x, fun c => Spec.scales (Cert.MidIdeal.Run.args m c).x, fun c => Spec.rows (Cert.MidIdeal.Run.args m c).h1, fun c => Spec.codes (Cert.MidIdeal.Run.args m c).ln, fun c => Spec.scales (Cert.MidIdeal.Run.args m c).ln, fun c => Spec.rows (Cert.MidIdeal.Run.args m c).query,
    Cert.MidIdeal.Run.run m g, ?_⟩
  refine (θ_run _ _ _).mono (fun r h c => ?_) (Cert.MidReferenceIdeal.Run.run m' g')
  have hc := h c
  rw [mid_args_eq m m' c (hagree c)] at hc
  exact hc

/-- The two named constants of the idealised first call are the nearest floats of 1/1280 and 1/127. -/
theorem preserves_qkv : Cert.preserves_Qkv_QkvIdeal :=
  ⟨IdealRules.named_const.statement Cert.QkvIdeal.κ "inv_d" .f32 0x3A4CCCCD#32 ((1 / 1280 : ℝ) : EReal) rfl,
    IdealRules.named_const.statement Cert.QkvIdeal.κ "inv_127" .f32 0x3C010204#32 ((1 / 127 : ℝ) : EReal) rfl⟩

/-- Memories that agree on the three arguments the first call's layer norm reads hold the same inputs. -/
theorem qkv_args_eq (m : (ℓ : Loc Cert.QkvIdeal.nD Cert.QkvIdeal.τ Cert.QkvIdeal.sig) → Buf (Elt Ideal) ℓ)
    (m' : (ℓ : Loc Cert.QkvReferenceIdeal.nD Cert.QkvReferenceIdeal.τ Cert.QkvReferenceIdeal.sig) → Buf (Elt Ideal) ℓ)
    (c : Dev Cert.QkvIdeal.nD)
    (h : m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0) ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1) ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2) ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3) ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4) ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5) ∧ m' ((c.tc : Thread Cert.QkvReferenceIdeal.nD Cert.QkvReferenceIdeal.τ).loc Cert.QkvReferenceIdeal.main_arg6) = m ((c.tc : Thread Cert.QkvIdeal.nD Cert.QkvIdeal.τ).loc Cert.QkvIdeal.main_arg6) ∧ m' ((c.tc : Thread Cert.QkvReferenceIdeal.nD Cert.QkvReferenceIdeal.τ).loc Cert.QkvReferenceIdeal.main_arg7) = m ((c.tc : Thread Cert.QkvIdeal.nD Cert.QkvIdeal.τ).loc Cert.QkvIdeal.main_arg7) ∧ m' ((c.tc : Thread Cert.QkvReferenceIdeal.nD Cert.QkvReferenceIdeal.τ).loc Cert.QkvReferenceIdeal.main_arg8) = m ((c.tc : Thread Cert.QkvIdeal.nD Cert.QkvIdeal.τ).loc Cert.QkvIdeal.main_arg8) ∧ m' ((c.tc : Thread Cert.QkvReferenceIdeal.nD Cert.QkvReferenceIdeal.τ).loc Cert.QkvReferenceIdeal.main_arg9) = m ((c.tc : Thread Cert.QkvIdeal.nD Cert.QkvIdeal.τ).loc Cert.QkvIdeal.main_arg9) ∧ m' ((c.tc : Thread Cert.QkvReferenceIdeal.nD Cert.QkvReferenceIdeal.τ).loc Cert.QkvReferenceIdeal.main_arg10) = m ((c.tc : Thread Cert.QkvIdeal.nD Cert.QkvIdeal.τ).loc Cert.QkvIdeal.main_arg10) ∧ m' ((c.tc : Thread Cert.QkvReferenceIdeal.nD Cert.QkvReferenceIdeal.τ).loc Cert.QkvReferenceIdeal.main_arg11) = m ((c.tc : Thread Cert.QkvIdeal.nD Cert.QkvIdeal.τ).loc Cert.QkvIdeal.main_arg11) ∧ m' ((c.tc : Thread Cert.QkvReferenceIdeal.nD Cert.QkvReferenceIdeal.τ).loc Cert.QkvReferenceIdeal.main_arg12) = m ((c.tc : Thread Cert.QkvIdeal.nD Cert.QkvIdeal.τ).loc Cert.QkvIdeal.main_arg12) ∧ m' ((c.tc : Thread Cert.QkvReferenceIdeal.nD Cert.QkvReferenceIdeal.τ).loc Cert.QkvReferenceIdeal.main_arg13) = m ((c.tc : Thread Cert.QkvIdeal.nD Cert.QkvIdeal.τ).loc Cert.QkvIdeal.main_arg13) ∧ m' ((c.tc : Thread Cert.QkvReferenceIdeal.nD Cert.QkvReferenceIdeal.τ).loc Cert.QkvReferenceIdeal.main_arg14) = m ((c.tc : Thread Cert.QkvIdeal.nD Cert.QkvIdeal.τ).loc Cert.QkvIdeal.main_arg14) ∧ m' ((c.tc : Thread Cert.QkvReferenceIdeal.nD Cert.QkvReferenceIdeal.τ).loc Cert.QkvReferenceIdeal.main_arg15) = m ((c.tc : Thread Cert.QkvIdeal.nD Cert.QkvIdeal.τ).loc Cert.QkvIdeal.main_arg15) ∧ m' ((c.tc : Thread Cert.QkvReferenceIdeal.nD Cert.QkvReferenceIdeal.τ).loc Cert.QkvReferenceIdeal.main_arg16) = m ((c.tc : Thread Cert.QkvIdeal.nD Cert.QkvIdeal.τ).loc Cert.QkvIdeal.main_arg16) ∧ m' ((c.tc : Thread Cert.QkvReferenceIdeal.nD Cert.QkvReferenceIdeal.τ).loc Cert.QkvReferenceIdeal.main_arg17) = m ((c.tc : Thread Cert.QkvIdeal.nD Cert.QkvIdeal.τ).loc Cert.QkvIdeal.main_arg17) ∧ m' ((c.tc : Thread Cert.QkvReferenceIdeal.nD Cert.QkvReferenceIdeal.τ).loc Cert.QkvReferenceIdeal.main_arg18) = m ((c.tc : Thread Cert.QkvIdeal.nD Cert.QkvIdeal.τ).loc Cert.QkvIdeal.main_arg18) ∧ m' ((c.tc : Thread Cert.QkvReferenceIdeal.nD Cert.QkvReferenceIdeal.τ).loc Cert.QkvReferenceIdeal.main_arg19) = m ((c.tc : Thread Cert.QkvIdeal.nD Cert.QkvIdeal.τ).loc Cert.QkvIdeal.main_arg19) ∧ m' ((c.tc : Thread Cert.QkvReferenceIdeal.nD Cert.QkvReferenceIdeal.τ).loc Cert.QkvReferenceIdeal.main_arg20) = m ((c.tc : Thread Cert.QkvIdeal.nD Cert.QkvIdeal.τ).loc Cert.QkvIdeal.main_arg20)) :
    Cert.QkvReferenceIdeal.Run.args m' c = Cert.QkvIdeal.Run.args m c := by
  obtain ⟨h0, h1, h2, _⟩ := h
  show Spec.qkvArgs _ _ _ = Spec.qkvArgs _ _ _
  rw [h0, h1, h2]

/-- The idealised first call and its reference compute the same two arrays. -/
theorem algebraic_qkv : Cert.algebraic_QkvIdeal_QkvReferenceIdeal := by
  intro m g m' g' _ hagree
  refine ⟨fun c => Spec.codes (Cert.QkvIdeal.Run.args m c).ln, fun c => Spec.scales (Cert.QkvIdeal.Run.args m c).ln,
    Cert.QkvIdeal.Run.run m g, ?_⟩
  refine (θ_run _ _ _).mono (fun r h c => ?_) (Cert.QkvReferenceIdeal.Run.run m' g')
  have hc := h c
  rw [qkv_args_eq m m' c (hagree c)] at hc
  exact hc

/-- The claim: the nine frames, and each call's `preserves` and `algebraic`. -/
theorem claim : Cert.Claim := ⟨Cert.Kernel.Gen.facts, Cert.KernelIdeal.Gen.facts, Cert.ReferenceIdeal.Gen.facts,
  Cert.Mid.Gen.facts, Cert.MidIdeal.Gen.facts, Cert.MidReferenceIdeal.Gen.facts,
  Cert.Qkv.Gen.facts, Cert.QkvIdeal.Gen.facts, Cert.QkvReferenceIdeal.Gen.facts,
  fun m ρ _ => Cert.Kernel.Gen.frame m ρ, fun m ρ _ => Cert.KernelIdeal.Gen.frame m ρ, fun m ρ _ => Cert.ReferenceIdeal.Gen.frame m ρ,
  fun m ρ _ => Cert.Mid.Gen.frame m ρ, fun m ρ _ => Cert.MidIdeal.Gen.frame m ρ, fun m ρ _ => Cert.MidReferenceIdeal.Gen.frame m ρ,
  fun m ρ _ => Cert.Qkv.Gen.frame m ρ, fun m ρ _ => Cert.QkvIdeal.Gen.frame m ρ, fun m ρ _ => Cert.QkvReferenceIdeal.Gen.frame m ρ,
  preserves, algebraic, preserves_mid, algebraic_mid, preserves_qkv, algebraic_qkv⟩

end Cert.Proof

end
